-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![4096, 8192]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![1024, 8192]⟩ ⟨2, ![2048, 8192]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S1024x8192 : Shape := ⟨2, ![1024, 8192]⟩
abbrev S2x2048x256 : Shape := ⟨3, ![2, 2048, 256]⟩
abbrev S16x1024x256 : Shape := ⟨3, ![16, 1024, 256]⟩
abbrev S2x1024x256 : Shape := ⟨3, ![2, 1024, 256]⟩
abbrev S_ : Shape := ⟨0, ![]⟩
abbrev S2 : Shape := ⟨1, ![2]⟩
abbrev S16 : Shape := ⟨1, ![16]⟩
abbrev S1 : Shape := ⟨1, ![1]⟩
abbrev S1x2048x256 : Shape := ⟨3, ![1, 2048, 256]⟩
abbrev S2048x256 : Shape := ⟨2, ![2048, 256]⟩
abbrev S1x1024x256 : Shape := ⟨3, ![1, 1024, 256]⟩
abbrev S1024x256 : Shape := ⟨2, ![1024, 256]⟩
abbrev S8x128x8192 : Shape := ⟨3, ![8, 128, 8192]⟩
abbrev S8 : Shape := ⟨1, ![8]⟩
abbrev S1x128x8192 : Shape := ⟨3, ![1, 128, 8192]⟩
abbrev S128x8192 : Shape := ⟨2, ![128, 8192]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S1024x8192, .f32⟩
  | .hbm, ⟨3, _⟩ => ⟨S1024x8192, .f32⟩
  | .local _ .vmem, ⟨0, _⟩ => ⟨S2048x2048, .f32⟩
  | .local _ .vmem, ⟨1, _⟩ => ⟨S2x2048x256, .f32⟩
  | .local _ .vmem, ⟨2, _⟩ => ⟨S2x2048x256, .f32⟩
  | .local _ .vmem, ⟨3, _⟩ => ⟨S16x1024x256, .f32⟩
  | .local _ .vmem, ⟨4, _⟩ => ⟨S2x1024x256, .f32⟩
  | .local _ .vmem, ⟨5, _⟩ => ⟨S8x128x8192, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  (ofTc nBuf bufTy 1 85 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc1_scratch0 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_10 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v11 : BitVec 32 := Scalar.muli v2 c4096_i32
  let c0_i32 : BitVec 32 := 0#32
  let v12 : BitVec 32 := Scalar.addi v11 c0_i32
  ![0, v12.toNat]
def k0_dev1 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v19 : BitVec 32 := Scalar.muli v2 c2_i32_12
  let v20 : BitVec 32 := Scalar.addi c0_i32_13 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_14 : BitVec 32 := 1#32
  let v21 : BitVec 32 := Scalar.muli v6 c1_i32_14
  let v22 : BitVec 32 := Scalar.addi v20 v21
  v22.toNat
def k0_dev2 (d0 : Dev nD) : Nat :=
  let c0_i32_17 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_16 : BitVec 32 := 2#32
  let v23 : BitVec 32 := Scalar.muli v7 c2_i32_16
  let v24 : BitVec 32 := Scalar.addi c0_i32_17 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_18 : BitVec 32 := 1#32
  let v25 : BitVec 32 := Scalar.muli v5 c1_i32_18
  let v26 : BitVec 32 := Scalar.addi v24 v25
  v26.toNat
@[reducible] def k0_t1_loop : Scf.Loop 32 :=
  let c0_i32_20 : BitVec 32 := 0#32
  let c16_i32 : BitVec 32 := 16#32
  let v27 : BitVec 32 := Scalar.addi c0_i32_20 c16_i32
  let c1_i32_21 : BitVec 32 := 1#32
  ⟨c0_i32_20, v27, c1_i32_21⟩
def k0_off2 (k0_t1 : Fin k0_t1_loop.trips) : Fin 1 → Nat :=
  let c0_i32_20 : BitVec 32 := 0#32
  let c1_i32_21 : BitVec 32 := 1#32
  let arg15 : BitVec 32 := Scf.iv c0_i32_20 c1_i32_21 k0_t1
  let c2_i32_116 : BitVec 32 := 2#32
  let c0_i32_117 : BitVec 32 := 0#32
  let v126 : BitVec 1 := Scalar.cmpi .eq c2_i32_116 c0_i32_117
  let c1_i32_118 : BitVec 32 := 1#32
  let v127 : BitVec 32 := Scalar.select v126 c1_i32_118 c2_i32_116
  let v128 : BitVec 32 := Scalar.remsi arg15 v127
  let c0_i32_120 : BitVec 32 := 0#32
  let v130 : BitVec 1 := Scalar.cmpi .slt v128 c0_i32_120
  let c0_i32_121 : BitVec 32 := 0#32
  let v131 : BitVec 1 := Scalar.cmpi .slt v127 c0_i32_121
  let v132 : BitVec 1 := Scalar.xori v130 v131
  let c0_i32_119 : BitVec 32 := 0#32
  let v129 : BitVec 1 := Scalar.cmpi .ne v128 c0_i32_119
  let v133 : BitVec 1 := Scalar.andi v132 v129
  let v134 : BitVec 32 := Scalar.addi v128 v127
  let v135 : BitVec 32 := Scalar.select v133 v134 v128
  ![v135.toNat]
def k0_off3 (k0_t1 : Fin k0_t1_loop.trips) : Fin 3 → Nat :=
  let c0_i32_20 : BitVec 32 := 0#32
  let c1_i32_21 : BitVec 32 := 1#32
  let arg15 : BitVec 32 := Scf.iv c0_i32_20 c1_i32_21 k0_t1
  let c2_i32_110 : BitVec 32 := 2#32
  let c0_i32_111 : BitVec 32 := 0#32
  let v116 : BitVec 1 := Scalar.cmpi .eq c2_i32_110 c0_i32_111
  let c1_i32_112 : BitVec 32 := 1#32
  let v117 : BitVec 32 := Scalar.select v116 c1_i32_112 c2_i32_110
  let v118 : BitVec 32 := Scalar.remsi arg15 v117
  let c0_i32_114 : BitVec 32 := 0#32
  let v120 : BitVec 1 := Scalar.cmpi .slt v118 c0_i32_114
  let c0_i32_115 : BitVec 32 := 0#32
  let v121 : BitVec 1 := Scalar.cmpi .slt v117 c0_i32_115
  let v122 : BitVec 1 := Scalar.xori v120 v121
  let c0_i32_113 : BitVec 32 := 0#32
  let v119 : BitVec 1 := Scalar.cmpi .ne v118 c0_i32_113
  let v123 : BitVec 1 := Scalar.andi v122 v119
  let v124 : BitVec 32 := Scalar.addi v118 v117
  let v125 : BitVec 32 := Scalar.select v123 v124 v118
  let c0_i32_122 : BitVec 32 := 0#32
  let c0_i32_123 : BitVec 32 := 0#32
  ![v125.toNat, 0, 0]
def k0_off4 (d0 : Dev nD) (k0_t1 : Fin k0_t1_loop.trips) : Fin 2 → Nat :=
  let c0_i32_124 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v11 : BitVec 32 := Scalar.muli v2 c4096_i32
  let c0_i32_20 : BitVec 32 := 0#32
  let c1_i32_21 : BitVec 32 := 1#32
  let arg15 : BitVec 32 := Scf.iv c0_i32_20 c1_i32_21 k0_t1
  let c256_i32 : BitVec 32 := 256#32
  let v114 : BitVec 32 := Scalar.muli arg15 c256_i32
  let v115 : BitVec 32 := Scalar.addi v11 v114
  ![0, v115.toNat]
def k0_cond1 (k0_t1 : Fin k0_t1_loop.trips) : BitVec 1 :=
  let c0_i32_20 : BitVec 32 := 0#32
  let c1_i32_21 : BitVec 32 := 1#32
  let arg15 : BitVec 32 := Scf.iv c0_i32_20 c1_i32_21 k0_t1
  let c2_i32_125 : BitVec 32 := 2#32
  let v141 : BitVec 1 := Scalar.cmpi .sge arg15 c2_i32_125
  let v142 : BitVec 32 := Scalar.extui v141
  let c0_i32_126 : BitVec 32 := 0#32
  let v143 : BitVec 1 := Scalar.cmpi .ne v142 c0_i32_126
  v143

def k0_off5 (k0_t1 : Fin k0_t1_loop.trips) : Fin 1 → Nat :=
  let c0_i32_20 : BitVec 32 := 0#32
  let c1_i32_21 : BitVec 32 := 1#32
  let arg15 : BitVec 32 := Scf.iv c0_i32_20 c1_i32_21 k0_t1
  let c2_i32_163 : BitVec 32 := 2#32
  let v204 : BitVec 32 := Scalar.subi arg15 c2_i32_163
  ![v204.toNat]
def k0_off6 (d0 : Dev nD) (k0_t1 : Fin k0_t1_loop.trips) : Fin 3 → Nat :=
  let c0_i32_20 : BitVec 32 := 0#32
  let c1_i32_21 : BitVec 32 := 1#32
  let arg15 : BitVec 32 := Scf.iv c0_i32_20 c1_i32_21 k0_t1
  let c2_i32_163 : BitVec 32 := 2#32
  let v204 : BitVec 32 := Scalar.subi arg15 c2_i32_163
  let c2_i32_164 : BitVec 32 := 2#32
  let c0_i32_165 : BitVec 32 := 0#32
  let v205 : BitVec 1 := Scalar.cmpi .eq c2_i32_164 c0_i32_165
  let c1_i32_166 : BitVec 32 := 1#32
  let v206 : BitVec 32 := Scalar.select v205 c1_i32_166 c2_i32_164
  let v207 : BitVec 32 := Scalar.remsi v204 v206
  let c0_i32_168 : BitVec 32 := 0#32
  let v209 : BitVec 1 := Scalar.cmpi .slt v207 c0_i32_168
  let c0_i32_169 : BitVec 32 := 0#32
  let v210 : BitVec 1 := Scalar.cmpi .slt v206 c0_i32_169
  let v211 : BitVec 1 := Scalar.xori v209 v210
  let c0_i32_167 : BitVec 32 := 0#32
  let v208 : BitVec 1 := Scalar.cmpi .ne v207 c0_i32_167
  let v212 : BitVec 1 := Scalar.andi v211 v208
  let v213 : BitVec 32 := Scalar.addi v207 v206
  let v214 : BitVec 32 := Scalar.select v212 v213 v207
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c1024_i32_5 : BitVec 32 := 1024#32
  let v10 : BitVec 32 := Scalar.muli v9 c1024_i32_5
  let c0_i32_171 : BitVec 32 := 0#32
  ![v214.toNat, v10.toNat, 0]
def k0_off7 (k0_t1 : Fin k0_t1_loop.trips) : Fin 3 → Nat :=
  let c0_i32_20 : BitVec 32 := 0#32
  let c1_i32_21 : BitVec 32 := 1#32
  let arg15 : BitVec 32 := Scf.iv c0_i32_20 c1_i32_21 k0_t1
  let c2_i32_163 : BitVec 32 := 2#32
  let v204 : BitVec 32 := Scalar.subi arg15 c2_i32_163
  let c0_i32_172 : BitVec 32 := 0#32
  let c0_i32_173 : BitVec 32 := 0#32
  ![v204.toNat, 0, 0]
def k0_off8 (k0_t1 : Fin k0_t1_loop.trips) : Fin 3 → Nat :=
  let c0_i32_20 : BitVec 32 := 0#32
  let c1_i32_21 : BitVec 32 := 1#32
  let arg15 : BitVec 32 := Scf.iv c0_i32_20 c1_i32_21 k0_t1
  let c2_i32_131 : BitVec 32 := 2#32
  let c0_i32_132 : BitVec 32 := 0#32
  let v148 : BitVec 1 := Scalar.cmpi .eq c2_i32_131 c0_i32_132
  let c1_i32_133 : BitVec 32 := 1#32
  let v149 : BitVec 32 := Scalar.select v148 c1_i32_133 c2_i32_131
  let v150 : BitVec 32 := Scalar.remsi arg15 v149
  let c0_i32_135 : BitVec 32 := 0#32
  let v152 : BitVec 1 := Scalar.cmpi .slt v150 c0_i32_135
  let c0_i32_136 : BitVec 32 := 0#32
  let v153 : BitVec 1 := Scalar.cmpi .slt v149 c0_i32_136
  let v154 : BitVec 1 := Scalar.xori v152 v153
  let c0_i32_134 : BitVec 32 := 0#32
  let v151 : BitVec 1 := Scalar.cmpi .ne v150 c0_i32_134
  let v155 : BitVec 1 := Scalar.andi v154 v151
  let v156 : BitVec 32 := Scalar.addi v150 v149
  let v157 : BitVec 32 := Scalar.select v155 v156 v150
  let v158 : Index := Scalar.indexCast v157
  let c0_137 : Index := 0#32
  let c0_138 : Index := 0#32
  ![v158.toNat, 0, 0]
def k0_off9 (k0_t1 : Fin k0_t1_loop.trips) : Fin 1 → Nat :=
  let c0_i32_20 : BitVec 32 := 0#32
  let c1_i32_21 : BitVec 32 := 1#32
  let arg15 : BitVec 32 := Scf.iv c0_i32_20 c1_i32_21 k0_t1
  ![arg15.toNat]
def k0_off10 (k0_t1 : Fin k0_t1_loop.trips) : Fin 3 → Nat :=
  let c0_i32_20 : BitVec 32 := 0#32
  let c1_i32_21 : BitVec 32 := 1#32
  let arg15 : BitVec 32 := Scf.iv c0_i32_20 c1_i32_21 k0_t1
  let c0_i32_156 : BitVec 32 := 0#32
  let c0_i32_157 : BitVec 32 := 0#32
  ![arg15.toNat, 0, 0]
def k0_off11 (d0 : Dev nD) (k0_t1 : Fin k0_t1_loop.trips) : Fin 3 → Nat :=
  let c0_i32_20 : BitVec 32 := 0#32
  let c1_i32_21 : BitVec 32 := 1#32
  let arg15 : BitVec 32 := Scf.iv c0_i32_20 c1_i32_21 k0_t1
  let c2_i32_147 : BitVec 32 := 2#32
  let c0_i32_148 : BitVec 32 := 0#32
  let v176 : BitVec 1 := Scalar.cmpi .eq c2_i32_147 c0_i32_148
  let c1_i32_149 : BitVec 32 := 1#32
  let v177 : BitVec 32 := Scalar.select v176 c1_i32_149 c2_i32_147
  let v178 : BitVec 32 := Scalar.remsi arg15 v177
  let c0_i32_151 : BitVec 32 := 0#32
  let v180 : BitVec 1 := Scalar.cmpi .slt v178 c0_i32_151
  let c0_i32_152 : BitVec 32 := 0#32
  let v181 : BitVec 1 := Scalar.cmpi .slt v177 c0_i32_152
  let v182 : BitVec 1 := Scalar.xori v180 v181
  let c0_i32_150 : BitVec 32 := 0#32
  let v179 : BitVec 1 := Scalar.cmpi .ne v178 c0_i32_150
  let v183 : BitVec 1 := Scalar.andi v182 v179
  let v184 : BitVec 32 := Scalar.addi v178 v177
  let v185 : BitVec 32 := Scalar.select v183 v184 v178
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c1024_i32_5 : BitVec 32 := 1024#32
  let v10 : BitVec 32 := Scalar.muli v9 c1024_i32_5
  let c0_i32_158 : BitVec 32 := 0#32
  ![v185.toNat, v10.toNat, 0]
def k0_dev3 (d0 : Dev nD) : Nat :=
  let c0_i32_154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_153 : BitVec 32 := 2#32
  let v186 : BitVec 32 := Scalar.muli v2 c2_i32_153
  let v187 : BitVec 32 := Scalar.addi c0_i32_154 v186
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_155 : BitVec 32 := 1#32
  let v188 : BitVec 32 := Scalar.muli v6 c1_i32_155
  let v189 : BitVec 32 := Scalar.addi v187 v188
  v189.toNat
def k0_cond3 (k0_t1 : Fin k0_t1_loop.trips) : BitVec 1 :=
  let c0_i32_20 : BitVec 32 := 0#32
  let c1_i32_21 : BitVec 32 := 1#32
  let arg15 : BitVec 32 := Scf.iv c0_i32_20 c1_i32_21 k0_t1
  let c15_i32_159 : BitVec 32 := 15#32
  let v198 : BitVec 1 := Scalar.cmpi .slt arg15 c15_i32_159
  let v199 : BitVec 32 := Scalar.extui v198
  let c0_i32_160 : BitVec 32 := 0#32
  let v200 : BitVec 1 := Scalar.cmpi .ne v199 c0_i32_160
  v200

def k0_off12 (k0_t1 : Fin k0_t1_loop.trips) : Fin 1 → Nat :=
  let c0_i32_20 : BitVec 32 := 0#32
  let c1_i32_21 : BitVec 32 := 1#32
  let arg15 : BitVec 32 := Scf.iv c0_i32_20 c1_i32_21 k0_t1
  let c1_i32_163 : BitVec 32 := 1#32
  let v204 : BitVec 32 := Scalar.addi arg15 c1_i32_163
  let c2_i32_171 : BitVec 32 := 2#32
  let c0_i32_172 : BitVec 32 := 0#32
  let v217 : BitVec 1 := Scalar.cmpi .eq c2_i32_171 c0_i32_172
  let c1_i32_173 : BitVec 32 := 1#32
  let v218 : BitVec 32 := Scalar.select v217 c1_i32_173 c2_i32_171
  let v219 : BitVec 32 := Scalar.remsi v204 v218
  let c0_i32_175 : BitVec 32 := 0#32
  let v221 : BitVec 1 := Scalar.cmpi .slt v219 c0_i32_175
  let c0_i32_176 : BitVec 32 := 0#32
  let v222 : BitVec 1 := Scalar.cmpi .slt v218 c0_i32_176
  let v223 : BitVec 1 := Scalar.xori v221 v222
  let c0_i32_174 : BitVec 32 := 0#32
  let v220 : BitVec 1 := Scalar.cmpi .ne v219 c0_i32_174
  let v224 : BitVec 1 := Scalar.andi v223 v220
  let v225 : BitVec 32 := Scalar.addi v219 v218
  let v226 : BitVec 32 := Scalar.select v224 v225 v219
  ![v226.toNat]
def k0_off13 (k0_t1 : Fin k0_t1_loop.trips) : Fin 3 → Nat :=
  let c0_i32_20 : BitVec 32 := 0#32
  let c1_i32_21 : BitVec 32 := 1#32
  let arg15 : BitVec 32 := Scf.iv c0_i32_20 c1_i32_21 k0_t1
  let c1_i32_163 : BitVec 32 := 1#32
  let v204 : BitVec 32 := Scalar.addi arg15 c1_i32_163
  let c2_i32_165 : BitVec 32 := 2#32
  let c0_i32_166 : BitVec 32 := 0#32
  let v207 : BitVec 1 := Scalar.cmpi .eq c2_i32_165 c0_i32_166
  let c1_i32_167 : BitVec 32 := 1#32
  let v208 : BitVec 32 := Scalar.select v207 c1_i32_167 c2_i32_165
  let v209 : BitVec 32 := Scalar.remsi v204 v208
  let c0_i32_169 : BitVec 32 := 0#32
  let v211 : BitVec 1 := Scalar.cmpi .slt v209 c0_i32_169
  let c0_i32_170 : BitVec 32 := 0#32
  let v212 : BitVec 1 := Scalar.cmpi .slt v208 c0_i32_170
  let v213 : BitVec 1 := Scalar.xori v211 v212
  let c0_i32_168 : BitVec 32 := 0#32
  let v210 : BitVec 1 := Scalar.cmpi .ne v209 c0_i32_168
  let v214 : BitVec 1 := Scalar.andi v213 v210
  let v215 : BitVec 32 := Scalar.addi v209 v208
  let v216 : BitVec 32 := Scalar.select v214 v215 v209
  let c0_i32_177 : BitVec 32 := 0#32
  let c0_i32_178 : BitVec 32 := 0#32
  ![v216.toNat, 0, 0]
def k0_off14 (d0 : Dev nD) (k0_t1 : Fin k0_t1_loop.trips) : Fin 2 → Nat :=
  let c0_i32_179 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v11 : BitVec 32 := Scalar.muli v2 c4096_i32
  let c0_i32_20 : BitVec 32 := 0#32
  let c1_i32_21 : BitVec 32 := 1#32
  let arg15 : BitVec 32 := Scf.iv c0_i32_20 c1_i32_21 k0_t1
  let c1_i32_163 : BitVec 32 := 1#32
  let v204 : BitVec 32 := Scalar.addi arg15 c1_i32_163
  let c256_i32_164 : BitVec 32 := 256#32
  let v205 : BitVec 32 := Scalar.muli v204 c256_i32_164
  let v206 : BitVec 32 := Scalar.addi v11 v205
  ![0, v206.toNat]
def k0_cond4 (k0_t1 : Fin k0_t1_loop.trips) : BitVec 1 :=
  let c0_i32_20 : BitVec 32 := 0#32
  let c1_i32_21 : BitVec 32 := 1#32
  let arg15 : BitVec 32 := Scf.iv c0_i32_20 c1_i32_21 k0_t1
  let c1_i32_161 : BitVec 32 := 1#32
  let v201 : BitVec 1 := Scalar.cmpi .sge arg15 c1_i32_161
  let v202 : BitVec 32 := Scalar.extui v201
  let c0_i32_162 : BitVec 32 := 0#32
  let v203 : BitVec 1 := Scalar.cmpi .ne v202 c0_i32_162
  v203

def k0_cond5 (k0_t1 : Fin k0_t1_loop.trips) : BitVec 1 :=
  let c0_i32_20 : BitVec 32 := 0#32
  let c1_i32_21 : BitVec 32 := 1#32
  let arg15 : BitVec 32 := Scf.iv c0_i32_20 c1_i32_21 k0_t1
  let c3_i32 : BitVec 32 := 3#32
  let v204 : BitVec 1 := Scalar.cmpi .sge arg15 c3_i32
  let v205 : BitVec 32 := Scalar.extui v204
  let c0_i32_163 : BitVec 32 := 0#32
  let v206 : BitVec 1 := Scalar.cmpi .ne v205 c0_i32_163
  v206

def k0_off15 (k0_t1 : Fin k0_t1_loop.trips) : Fin 1 → Nat :=
  let c0_i32_20 : BitVec 32 := 0#32
  let c1_i32_21 : BitVec 32 := 1#32
  let arg15 : BitVec 32 := Scf.iv c0_i32_20 c1_i32_21 k0_t1
  let c3_i32_224 : BitVec 32 := 3#32
  let v311 : BitVec 32 := Scalar.subi arg15 c3_i32_224
  let c2_i32_232 : BitVec 32 := 2#32
  let c0_i32_233 : BitVec 32 := 0#32
  let v324 : BitVec 1 := Scalar.cmpi .eq c2_i32_232 c0_i32_233
  let c1_i32_234 : BitVec 32 := 1#32
  let v325 : BitVec 32 := Scalar.select v324 c1_i32_234 c2_i32_232
  let v326 : BitVec 32 := Scalar.remsi v311 v325
  let c0_i32_236 : BitVec 32 := 0#32
  let v328 : BitVec 1 := Scalar.cmpi .slt v326 c0_i32_236
  let c0_i32_237 : BitVec 32 := 0#32
  let v329 : BitVec 1 := Scalar.cmpi .slt v325 c0_i32_237
  let v330 : BitVec 1 := Scalar.xori v328 v329
  let c0_i32_235 : BitVec 32 := 0#32
  let v327 : BitVec 1 := Scalar.cmpi .ne v326 c0_i32_235
  let v331 : BitVec 1 := Scalar.andi v330 v327
  let v332 : BitVec 32 := Scalar.addi v326 v325
  let v333 : BitVec 32 := Scalar.select v331 v332 v326
  ![v333.toNat]
def k0_off16 (d0 : Dev nD) (k0_t1 : Fin k0_t1_loop.trips) : Fin 2 → Nat :=
  let c0_i32_238 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v11 : BitVec 32 := Scalar.muli v2 c4096_i32
  let c0_i32_20 : BitVec 32 := 0#32
  let c1_i32_21 : BitVec 32 := 1#32
  let arg15 : BitVec 32 := Scf.iv c0_i32_20 c1_i32_21 k0_t1
  let c3_i32_224 : BitVec 32 := 3#32
  let v311 : BitVec 32 := Scalar.subi arg15 c3_i32_224
  let c256_i32_231 : BitVec 32 := 256#32
  let v322 : BitVec 32 := Scalar.muli v311 c256_i32_231
  let v323 : BitVec 32 := Scalar.addi v11 v322
  ![0, v323.toNat]
def k0_off17 (k0_t1 : Fin k0_t1_loop.trips) : Fin 3 → Nat :=
  let c0_i32_20 : BitVec 32 := 0#32
  let c1_i32_21 : BitVec 32 := 1#32
  let arg15 : BitVec 32 := Scf.iv c0_i32_20 c1_i32_21 k0_t1
  let c3_i32_224 : BitVec 32 := 3#32
  let v311 : BitVec 32 := Scalar.subi arg15 c3_i32_224
  let c2_i32_225 : BitVec 32 := 2#32
  let c0_i32_226 : BitVec 32 := 0#32
  let v312 : BitVec 1 := Scalar.cmpi .eq c2_i32_225 c0_i32_226
  let c1_i32_227 : BitVec 32 := 1#32
  let v313 : BitVec 32 := Scalar.select v312 c1_i32_227 c2_i32_225
  let v314 : BitVec 32 := Scalar.remsi v311 v313
  let c0_i32_229 : BitVec 32 := 0#32
  let v316 : BitVec 1 := Scalar.cmpi .slt v314 c0_i32_229
  let c0_i32_230 : BitVec 32 := 0#32
  let v317 : BitVec 1 := Scalar.cmpi .slt v313 c0_i32_230
  let v318 : BitVec 1 := Scalar.xori v316 v317
  let c0_i32_228 : BitVec 32 := 0#32
  let v315 : BitVec 1 := Scalar.cmpi .ne v314 c0_i32_228
  let v319 : BitVec 1 := Scalar.andi v318 v315
  let v320 : BitVec 32 := Scalar.addi v314 v313
  let v321 : BitVec 32 := Scalar.select v319 v320 v314
  let c0_i32_239 : BitVec 32 := 0#32
  let c0_i32_240 : BitVec 32 := 0#32
  ![v321.toNat, 0, 0]
def k0_off18 (k0_t1 : Fin k0_t1_loop.trips) : Fin 1 → Nat :=
  let c0_i32_20 : BitVec 32 := 0#32
  let c1_i32_21 : BitVec 32 := 1#32
  let arg15 : BitVec 32 := Scf.iv c0_i32_20 c1_i32_21 k0_t1
  let c3_i32_241 : BitVec 32 := 3#32
  let v339 : BitVec 32 := Scalar.subi arg15 c3_i32_241
  ![v339.toNat]
def k0_off19 (k0_t1 : Fin k0_t1_loop.trips) : Fin 1 → Nat :=
  let c0_i32_20 : BitVec 32 := 0#32
  let c1_i32_21 : BitVec 32 := 1#32
  let arg15 : BitVec 32 := Scf.iv c0_i32_20 c1_i32_21 k0_t1
  let c1_i32_164 : BitVec 32 := 1#32
  let v207 : BitVec 32 := Scalar.subi arg15 c1_i32_164
  ![v207.toNat]
def k0_off20 (k0_t1 : Fin k0_t1_loop.trips) : Fin 3 → Nat :=
  let c0_i32_20 : BitVec 32 := 0#32
  let c1_i32_21 : BitVec 32 := 1#32
  let arg15 : BitVec 32 := Scf.iv c0_i32_20 c1_i32_21 k0_t1
  let c1_i32_164 : BitVec 32 := 1#32
  let v207 : BitVec 32 := Scalar.subi arg15 c1_i32_164
  let c0_i32_174 : BitVec 32 := 0#32
  let c0_i32_175 : BitVec 32 := 0#32
  ![v207.toNat, 0, 0]
def k0_off21 (d0 : Dev nD) (k0_t1 : Fin k0_t1_loop.trips) : Fin 3 → Nat :=
  let c0_i32_20 : BitVec 32 := 0#32
  let c1_i32_21 : BitVec 32 := 1#32
  let arg15 : BitVec 32 := Scf.iv c0_i32_20 c1_i32_21 k0_t1
  let c1_i32_164 : BitVec 32 := 1#32
  let v207 : BitVec 32 := Scalar.subi arg15 c1_i32_164
  let c2_i32_165 : BitVec 32 := 2#32
  let c0_i32_166 : BitVec 32 := 0#32
  let v208 : BitVec 1 := Scalar.cmpi .eq c2_i32_165 c0_i32_166
  let c1_i32_167 : BitVec 32 := 1#32
  let v209 : BitVec 32 := Scalar.select v208 c1_i32_167 c2_i32_165
  let v210 : BitVec 32 := Scalar.remsi v207 v209
  let c0_i32_169 : BitVec 32 := 0#32
  let v212 : BitVec 1 := Scalar.cmpi .slt v210 c0_i32_169
  let c0_i32_170 : BitVec 32 := 0#32
  let v213 : BitVec 1 := Scalar.cmpi .slt v209 c0_i32_170
  let v214 : BitVec 1 := Scalar.xori v212 v213
  let c0_i32_168 : BitVec 32 := 0#32
  let v211 : BitVec 1 := Scalar.cmpi .ne v210 c0_i32_168
  let v215 : BitVec 1 := Scalar.andi v214 v211
  let v216 : BitVec 32 := Scalar.addi v210 v209
  let v217 : BitVec 32 := Scalar.select v215 v216 v210
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c1024_i32_5 : BitVec 32 := 1024#32
  let v10 : BitVec 32 := Scalar.muli v9 c1024_i32_5
  let c0_i32_176 : BitVec 32 := 0#32
  ![v217.toNat, v10.toNat, 0]
def k0_off22 (d0 : Dev nD) (k0_t1 : Fin k0_t1_loop.trips) : Fin 3 → Nat :=
  let c0_i32_20 : BitVec 32 := 0#32
  let c1_i32_21 : BitVec 32 := 1#32
  let arg15 : BitVec 32 := Scf.iv c0_i32_20 c1_i32_21 k0_t1
  let c1_i32_177 : BitVec 32 := 1#32
  let v228 : BitVec 32 := Scalar.subi arg15 c1_i32_177
  let c2_i32_178 : BitVec 32 := 2#32
  let c0_i32_179 : BitVec 32 := 0#32
  let v229 : BitVec 1 := Scalar.cmpi .eq c2_i32_178 c0_i32_179
  let c1_i32_180 : BitVec 32 := 1#32
  let v230 : BitVec 32 := Scalar.select v229 c1_i32_180 c2_i32_178
  let v231 : BitVec 32 := Scalar.remsi v228 v230
  let c0_i32_182 : BitVec 32 := 0#32
  let v233 : BitVec 1 := Scalar.cmpi .slt v231 c0_i32_182
  let c0_i32_183 : BitVec 32 := 0#32
  let v234 : BitVec 1 := Scalar.cmpi .slt v230 c0_i32_183
  let v235 : BitVec 1 := Scalar.xori v233 v234
  let c0_i32_181 : BitVec 32 := 0#32
  let v232 : BitVec 1 := Scalar.cmpi .ne v231 c0_i32_181
  let v236 : BitVec 1 := Scalar.andi v235 v232
  let v237 : BitVec 32 := Scalar.addi v231 v230
  let v238 : BitVec 32 := Scalar.select v236 v237 v231
  let v239 : Index := Scalar.indexCast v238
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v240 : Index := Scalar.indexCast v8
  let c0_184 : Index := 0#32
  ![v239.toNat, v240.toNat, 0]
def k0_off23 (k0_t1 : Fin k0_t1_loop.trips) : Fin 3 → Nat :=
  let c0_i32_20 : BitVec 32 := 0#32
  let c1_i32_21 : BitVec 32 := 1#32
  let arg15 : BitVec 32 := Scf.iv c0_i32_20 c1_i32_21 k0_t1
  let c1_i32_177 : BitVec 32 := 1#32
  let v228 : BitVec 32 := Scalar.subi arg15 c1_i32_177
  let v243 : Index := Scalar.indexCast v228
  let c0_185 : Index := 0#32
  let c0_186 : Index := 0#32
  ![v243.toNat, 0, 0]
def k0_off24 (k0_t1 : Fin k0_t1_loop.trips) : Fin 3 → Nat :=
  let c0_i32_20 : BitVec 32 := 0#32
  let c1_i32_21 : BitVec 32 := 1#32
  let arg15 : BitVec 32 := Scf.iv c0_i32_20 c1_i32_21 k0_t1
  let c1_i32_177 : BitVec 32 := 1#32
  let v228 : BitVec 32 := Scalar.subi arg15 c1_i32_177
  let c2_i32_187 : BitVec 32 := 2#32
  let c0_i32_188 : BitVec 32 := 0#32
  let v247 : BitVec 1 := Scalar.cmpi .eq c2_i32_187 c0_i32_188
  let c1_i32_189 : BitVec 32 := 1#32
  let v248 : BitVec 32 := Scalar.select v247 c1_i32_189 c2_i32_187
  let v249 : BitVec 32 := Scalar.remsi v228 v248
  let c0_i32_191 : BitVec 32 := 0#32
  let v251 : BitVec 1 := Scalar.cmpi .slt v249 c0_i32_191
  let c0_i32_192 : BitVec 32 := 0#32
  let v252 : BitVec 1 := Scalar.cmpi .slt v248 c0_i32_192
  let v253 : BitVec 1 := Scalar.xori v251 v252
  let c0_i32_190 : BitVec 32 := 0#32
  let v250 : BitVec 1 := Scalar.cmpi .ne v249 c0_i32_190
  let v254 : BitVec 1 := Scalar.andi v253 v250
  let v255 : BitVec 32 := Scalar.addi v249 v248
  let v256 : BitVec 32 := Scalar.select v254 v255 v249
  let v257 : Index := Scalar.indexCast v256
  let c0_193 : Index := 0#32
  let c0_194 : Index := 0#32
  ![v257.toNat, 0, 0]
def k0_off25 (d0 : Dev nD) (k0_t1 : Fin k0_t1_loop.trips) : Fin 2 → Nat :=
  let c0_i32_205 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v11 : BitVec 32 := Scalar.muli v2 c4096_i32
  let c0_i32_20 : BitVec 32 := 0#32
  let c1_i32_21 : BitVec 32 := 1#32
  let arg15 : BitVec 32 := Scf.iv c0_i32_20 c1_i32_21 k0_t1
  let c1_i32_177 : BitVec 32 := 1#32
  let v228 : BitVec 32 := Scalar.subi arg15 c1_i32_177
  let c256_i32_201 : BitVec 32 := 256#32
  let v271 : BitVec 32 := Scalar.muli v228 c256_i32_201
  let v272 : BitVec 32 := Scalar.addi v11 v271
  ![0, v272.toNat]
def k0_off26 (k0_t1 : Fin k0_t1_loop.trips) : Fin 3 → Nat :=
  let c0_i32_20 : BitVec 32 := 0#32
  let c1_i32_21 : BitVec 32 := 1#32
  let arg15 : BitVec 32 := Scf.iv c0_i32_20 c1_i32_21 k0_t1
  let c1_i32_177 : BitVec 32 := 1#32
  let v228 : BitVec 32 := Scalar.subi arg15 c1_i32_177
  let c2_i32_195 : BitVec 32 := 2#32
  let c0_i32_196 : BitVec 32 := 0#32
  let v261 : BitVec 1 := Scalar.cmpi .eq c2_i32_195 c0_i32_196
  let c1_i32_197 : BitVec 32 := 1#32
  let v262 : BitVec 32 := Scalar.select v261 c1_i32_197 c2_i32_195
  let v263 : BitVec 32 := Scalar.remsi v228 v262
  let c0_i32_199 : BitVec 32 := 0#32
  let v265 : BitVec 1 := Scalar.cmpi .slt v263 c0_i32_199
  let c0_i32_200 : BitVec 32 := 0#32
  let v266 : BitVec 1 := Scalar.cmpi .slt v262 c0_i32_200
  let v267 : BitVec 1 := Scalar.xori v265 v266
  let c0_i32_198 : BitVec 32 := 0#32
  let v264 : BitVec 1 := Scalar.cmpi .ne v263 c0_i32_198
  let v268 : BitVec 1 := Scalar.andi v267 v264
  let v269 : BitVec 32 := Scalar.addi v263 v262
  let v270 : BitVec 32 := Scalar.select v268 v269 v263
  let c0_i32_206 : BitVec 32 := 0#32
  let c0_i32_207 : BitVec 32 := 0#32
  ![v270.toNat, 0, 0]
def k0_dev4 (d0 : Dev nD) : Nat :=
  let c0_i32_203 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_202 : BitVec 32 := 2#32
  let v273 : BitVec 32 := Scalar.muli v7 c2_i32_202
  let v274 : BitVec 32 := Scalar.addi c0_i32_203 v273
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_204 : BitVec 32 := 1#32
  let v275 : BitVec 32 := Scalar.muli v5 c1_i32_204
  let v276 : BitVec 32 := Scalar.addi v274 v275
  v276.toNat
def k0_off27 (k0_t1 : Fin k0_t1_loop.trips) : Fin 1 → Nat :=
  let c0_i32_20 : BitVec 32 := 0#32
  let c1_i32_21 : BitVec 32 := 1#32
  let arg15 : BitVec 32 := Scf.iv c0_i32_20 c1_i32_21 k0_t1
  let c1_i32_177 : BitVec 32 := 1#32
  let v228 : BitVec 32 := Scalar.subi arg15 c1_i32_177
  let c2_i32_215 : BitVec 32 := 2#32
  let c0_i32_216 : BitVec 32 := 0#32
  let v296 : BitVec 1 := Scalar.cmpi .eq c2_i32_215 c0_i32_216
  let c1_i32_217 : BitVec 32 := 1#32
  let v297 : BitVec 32 := Scalar.select v296 c1_i32_217 c2_i32_215
  let v298 : BitVec 32 := Scalar.remsi v228 v297
  let c0_i32_219 : BitVec 32 := 0#32
  let v300 : BitVec 1 := Scalar.cmpi .slt v298 c0_i32_219
  let c0_i32_220 : BitVec 32 := 0#32
  let v301 : BitVec 1 := Scalar.cmpi .slt v297 c0_i32_220
  let v302 : BitVec 1 := Scalar.xori v300 v301
  let c0_i32_218 : BitVec 32 := 0#32
  let v299 : BitVec 1 := Scalar.cmpi .ne v298 c0_i32_218
  let v303 : BitVec 1 := Scalar.andi v302 v299
  let v304 : BitVec 32 := Scalar.addi v298 v297
  let v305 : BitVec 32 := Scalar.select v303 v304 v298
  ![v305.toNat]
def k0_off28 (d0 : Dev nD) (c3328_i32 : BitVec 32) : Fin 2 → Nat :=
  let c0_i32_25 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v11 : BitVec 32 := Scalar.muli v2 c4096_i32
  let v28 : BitVec 32 := Scalar.addi v11 c3328_i32
  ![0, v28.toNat]
def k0_off29 (d0 : Dev nD) : Fin 3 → Nat :=
  let c1_i32_35 : BitVec 32 := 1#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c1024_i32_5 : BitVec 32 := 1024#32
  let v10 : BitVec 32 := Scalar.muli v9 c1024_i32_5
  let c0_i32_43 : BitVec 32 := 0#32
  ![1, v10.toNat, 0]
def k0_off30 (d0 : Dev nD) : Fin 3 → Nat :=
  let c1 : Index := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v50 : Index := Scalar.indexCast v8
  let c0 : Index := 0#32
  ![1, v50.toNat, 0]
def k0_dev5 (d0 : Dev nD) : Nat :=
  let c0_i32_53 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_52 : BitVec 32 := 2#32
  let v60 : BitVec 32 := Scalar.muli v7 c2_i32_52
  let v61 : BitVec 32 := Scalar.addi c0_i32_53 v60
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_54 : BitVec 32 := 1#32
  let v62 : BitVec 32 := Scalar.muli v5 c1_i32_54
  let v63 : BitVec 32 := Scalar.addi v61 v62
  v63.toNat
def k0_off31 (d0 : Dev nD) : Fin 3 → Nat :=
  let c0_i32_64 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c1024_i32_5 : BitVec 32 := 1024#32
  let v10 : BitVec 32 := Scalar.muli v9 c1024_i32_5
  let c0_i32_68 : BitVec 32 := 0#32
  ![0, v10.toNat, 0]
@[reducible] def k0_t2_loop : Scf.Loop 32 :=
  let c0_i32_106 : BitVec 32 := 0#32
  let c16_i32_107 : BitVec 32 := 16#32
  let v113 : BitVec 32 := Scalar.addi c0_i32_106 c16_i32_107
  let c1_i32_108 : BitVec 32 := 1#32
  ⟨c0_i32_106, v113, c1_i32_108⟩
def k0_off32 (k0_t2 : Fin k0_t2_loop.trips) : Fin 1 → Nat :=
  let c0_i32_106 : BitVec 32 := 0#32
  let c1_i32_108 : BitVec 32 := 1#32
  let arg15 : BitVec 32 := Scf.iv c0_i32_106 c1_i32_108 k0_t2
  ![arg15.toNat]
def k0_off33 (d0 : Dev nD) (k0_t2 : Fin k0_t2_loop.trips) : Fin 2 → Nat :=
  let c0_i32_119 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v11 : BitVec 32 := Scalar.muli v2 c4096_i32
  let c0_i32_106 : BitVec 32 := 0#32
  let c1_i32_108 : BitVec 32 := 1#32
  let arg15 : BitVec 32 := Scf.iv c0_i32_106 c1_i32_108 k0_t2
  let c256_i32 : BitVec 32 := 256#32
  let v124 : BitVec 32 := Scalar.muli arg15 c256_i32
  let v125 : BitVec 32 := Scalar.addi v11 v124
  ![0, v125.toNat]
def k0_off34 (k0_t2 : Fin k0_t2_loop.trips) : Fin 3 → Nat :=
  let c0_i32_106 : BitVec 32 := 0#32
  let c1_i32_108 : BitVec 32 := 1#32
  let arg15 : BitVec 32 := Scf.iv c0_i32_106 c1_i32_108 k0_t2
  let c2_i32_110 : BitVec 32 := 2#32
  let c0_i32_111 : BitVec 32 := 0#32
  let v114 : BitVec 1 := Scalar.cmpi .eq c2_i32_110 c0_i32_111
  let c1_i32_112 : BitVec 32 := 1#32
  let v115 : BitVec 32 := Scalar.select v114 c1_i32_112 c2_i32_110
  let v116 : BitVec 32 := Scalar.remsi arg15 v115
  let c0_i32_114 : BitVec 32 := 0#32
  let v118 : BitVec 1 := Scalar.cmpi .slt v116 c0_i32_114
  let c0_i32_115 : BitVec 32 := 0#32
  let v119 : BitVec 1 := Scalar.cmpi .slt v115 c0_i32_115
  let v120 : BitVec 1 := Scalar.xori v118 v119
  let c0_i32_113 : BitVec 32 := 0#32
  let v117 : BitVec 1 := Scalar.cmpi .ne v116 c0_i32_113
  let v121 : BitVec 1 := Scalar.andi v120 v117
  let v122 : BitVec 32 := Scalar.addi v116 v115
  let v123 : BitVec 32 := Scalar.select v121 v122 v116
  let c0_i32_120 : BitVec 32 := 0#32
  let c0_i32_121 : BitVec 32 := 0#32
  ![v123.toNat, 0, 0]
abbrev grid1 : Pipeline.Grid := .none
-- ==== ReferenceIdeal.lean ====
abbrev S4096x2048 : Shape := ⟨2, ![4096, 2048]⟩
abbrev S4096x8192 : Shape := ⟨2, ![4096, 8192]⟩
abbrev S2048x4096 : Shape := ⟨2, ![2048, 4096]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S2048x4096, .f32⟩
  | .hbm, ⟨3, _⟩ => ⟨S2048x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Own.lean ====
/-
  Rules over whole memrefs: a memref owned at a value (`owns`), copied, sent,
  loaded and stored, with the value named rather than the buffer's contents.
-/
module

public import Idealize.ShloMosaic.Lib.Rounds
public import Idealize.ShloMosaic.Lib.Memref
public import Idealize.ShloMosaic.Lib.MemrefSat
public import Idealize.ShloMosaic.Lib.Tactic
public import Idealize.ShloMosaic.PureOps

@[expose] public section

noncomputable section

namespace Cert.Own

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}
variable {Ix : Type} [DecidableEq Ix] {Name : Type} [DecidableEq Name] {U : Type} [URA U] {Lvl : Type}
variable {D : Type} [DecidableEq D]

local notation "𝕄" => MT nD τ sig Ix Val Name U Lvl

/-- Two assertions that entail each other are equal. -/
theorem equiv_of {P R : sProp 𝕄} (h₁ : P ⊢ R) (h₂ : R ⊢ P) : P = R := BI.equiv_iff.mp ⟨h₁, h₂⟩

/-- The memref owned whole at some value. -/
def anyOf (c : Thread nD τ) {sp : Space} {s : Shape} {e : EltTy} (m : Memref sig c.2.kind sp s e) : sProp 𝕄 :=
  iprop(∃ X, owns c m fullShare X)

instance anyOf_storable (c : Thread nD τ) {sp : Space} {s : Shape} {e : EltTy} (m : Memref sig c.2.kind sp s e) :
    BI.Storable (upEmb : UEmb _ 𝕄) (anyOf c m) := by
  unfold anyOf; infer_instance

/-- Holding a buffer at given contents is holding it at some contents. -/
theorem any_intro (c : Thread nD τ) {sp : Space} {s : Shape} {e : EltTy} (m : Memref sig c.2.kind sp s e) (X : s.Idx → Val e) :
    (owns c m fullShare X : sProp 𝕄) ⊢ anyOf c m := by
  unfold anyOf; iintro H; iexists X; iexact H

/-- A memref with unit axes dropped, owned at a value shape-cast, is the memref owned at the value. -/
theorem owns_squeeze (c : Thread nD τ) {sp : Space} {s s' : Shape} {e : EltTy} (m : Memref sig c.2.kind sp s e) (h : s.Squeezes s')
    (hc : s.ShapeCasts s') (q : PosShare TreeShare) (X : s.Idx → Val e) :
    (owns c (m.squeeze s' h) q (shapeCast s' X hc) : sProp 𝕄) = owns c m q X := by
  unfold owns
  have hset : (m.squeeze s' h).view.set = m.view.set := View.set_reshape _ _
  have hr (f : m.view.ty.Contents Val) : ((m.squeeze s' h).view.read Val f = shapeCast s' X hc) ↔ m.view.read Val f = X := by
    constructor
    · intro hh
      funext j
      have := congrFun hh ((Shape.reshapeEquiv hc).symm j)
      have e1 : (m.squeeze s' h).view.read Val f ((Shape.reshapeEquiv hc).symm j) = m.view.read Val f j := by
        show m.view.read Val f (Shape.reshapeEquiv hc ((Shape.reshapeEquiv hc).symm j)) = _
        rw [Equiv.apply_symm_apply]
      rw [e1] at this
      rw [this]; unfold shapeCast; rw [Equiv.apply_symm_apply]
    · intro hh; funext j; rw [← hh]; rfl
  rw [hset]
  refine equiv_of ?_ ?_
  · iintro ⟨%f, %hf, H⟩; iexists f; isplitr
    · ipureintro; exact (hr f).1 hf
    · iexact H
  · iintro ⟨%f, %hf, H⟩; iexists f; isplitr
    · ipureintro; exact (hr f).2 hf
    · iexact H

/-- Holding a buffer at some contents does not depend on its unit axes. -/
theorem anyOf_squeeze (c : Thread nD τ) {sp : Space} {s s' : Shape} {e : EltTy} (m : Memref sig c.2.kind sp s e) (h : s.Squeezes s')
    (hc : s.ShapeCasts s') (hc' : s'.ShapeCasts s) :
    (anyOf c (m.squeeze s' h) : sProp 𝕄) = anyOf c m := by
  unfold anyOf
  refine equiv_of ?_ ?_
  · iintro ⟨%X, H⟩
    iexists (fun j => X ((Shape.reshapeEquiv hc).symm j))
    rw [← owns_squeeze c m h hc]
    have e1 : shapeCast s' (fun j => X ((Shape.reshapeEquiv hc).symm j)) hc = X := by
      funext j; exact congrArg X (Equiv.symm_apply_apply _ _)
    rw [e1]; iexact H
  · iintro ⟨%X, H⟩; iexists (shapeCast s' X hc); rw [owns_squeeze c m h hc]; iexact H

section Rules

variable [Preorder Lvl] {defs : Defs nD τ sig Val Λ} (𝒱 : Variants)
variable (E : Emb (URounds (GSem nD τ sig) D) (MT nD τ sig Ix Val Name U Lvl)) (Rd : Schedule (GSem nD τ sig) D (MT nD τ sig Ix Val Name U Lvl))
variable (c : Thread nD τ) (bd : Option 𝒱.V) {Γ : PendingWaitsCtx sig Ix}
variable {α : Type} {Q : α → sProp (MT nD τ sig Ix Val Name U Lvl)}
variable {sp sp' : Space} {s : Shape} {e : EltTy}

/-- A local copy paying a duty of the issuer's own cell: the source read, the destination left at what was read. -/
theorem wp_copy_owns {src : Memref sig c.2.kind sp s e} {dst : Memref sig c.2.kind sp' s e} {sem : SemLoc sig}
    {hsrc : src.view.WordExact} {hdst : dst.view.WordExact} {hsem : DmaTarget.Typed (nD := nD) sp sem (.here dst)}
    {k : PUnit → Prog (TpuEff nD τ sig Val Λ c.2) α} {q : PosShare TreeShare} {X : s.Idx → Val e} {r : ℕ} {d : D}
    {κ : Name} (hd : d ∈ Rd.duties (c, sem) r) (ι : Ix) (N : ℕ)
    (hN : dst.view.amount sem = N) (hk : Rd.amount (c, sem) r d = N)
    (hpay : iprop(owns c dst fullShare X ∗ owns c src q X) ⊢ Rd.payload (c, sem) r d) {Es : Set Name} :
    iprop(cellInv E Rd κ (c, sem) ∗ owns c src q X ∗ anyOf c dst ∗ dutyTok E (c, sem) r d ∗ reached E (c, sem) r)
      ⊢ iprop((cred (tallyAt (c, sem) ι N) -∗ wp frame (wpE' defs 𝒱 c bd Γ) Es (k ⟨⟩) Q)
          -∗ wp frame (wpE' defs 𝒱 c bd Γ) Es (.op (.enqueueDma src (.here dst) sem hsrc hdst hsem) k) Q) := by
  unfold anyOf
  iintro ⟨Hi, Hs, ⟨%Y, Hd⟩, Ht, Hr⟩ Hk
  ihave Hs := (show owns c src q X ⊢ iprop(∃ f, ⌜src.view.read Val f = X⌝ ∗ (src.view.loc c ↦[src.view.set]{q} f)) from .rfl) $$ Hs
  ihave Hd := (show owns c dst fullShare Y ⊢ iprop(∃ f, ⌜dst.view.read Val f = Y⌝ ∗ (dst.view.loc c ↦[dst.view.set]{fullShare} f)) from .rfl) $$ Hd
  icases Hs with ⟨%fs, %hfs, Hs⟩
  icases Hd with ⟨%fd, -, Hd⟩
  iapply (wp_copy_pointsTo 𝒱 E Rd c bd (fs := fs) (fd := fd) (κ := κ) hd ι N hN hk (by
    refine BIBase.Entails.trans ?_ hpay
    iintro ⟨H1, H2⟩
    isplitl [H1]
    · ihave H1 := (owns_intro c dst fullShare _) $$ H1
      rw [View.read_write_univ, hfs]; iexact H1
    · ihave H2 := (owns_intro c src q _) $$ H2
      rw [hfs]; iexact H2)) $$ [Hi Hs Hd Ht Hr]
  · isplitl [Hi]; · iexact Hi
    isplitl [Hs]; · iexact Hs
    isplitl [Hd]; · iexact Hd
    isplitl [Ht]; · iexact Ht
    iexact Hr
  iexact Hk

/-- A copy to another core's memory paying one duty of the issuer's send cell and one of the target's receive cell. -/
theorem wp_send_owns {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare}
    {X : s.Idx → Val e} {r₁ r₂ : ℕ} {d₁ d₂ : D}
    {κ₁ κ₂ : Name}
    (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : owns c src q X ⊢ Rd.payload (c, sS) r₁ d₁)
    (hpay₂ : owns c' dst fullShare X ⊢ Rd.payload (c', sem) r₂ d₂) {Es : Set Name} (hr : τ.routes c c' = true := by routes) :
    iprop(cellInv E Rd κ₁ (c, sS) ∗ cellInv E Rd κ₂ (c', sem)
        ∗ owns c src q X ∗ anyOf c' dst
        ∗ owes c O₀ W
        ∗ dutyTok E (c, sS) r₁ d₁ ∗ reached E (c, sS) r₁
        ∗ dutyTok E (c', sem) r₂ d₂ ∗ reached E (c', sem) r₂)
      ⊢ iprop(((cred (tallyAt (c, sS) ι' N) ∗ owes c O W) -∗ wp frame (wpE' defs 𝒱 c bd Γ) Es (k ⟨⟩) Q)
          -∗ wp frame (wpE' defs 𝒱 c bd Γ) Es (.op (.enqueueDma src (.remote c' dst sS hsc) sem hsrc hdst hsem) k) Q) := by
  unfold anyOf
  iintro ⟨Hi, Hi', Hs, ⟨%Y, Hd⟩, Ho, Ht, Hr, Ht', Hr'⟩ Hk
  ihave Hs := (show owns c src q X ⊢ iprop(∃ f, ⌜src.view.read Val f = X⌝ ∗ (src.view.loc c ↦[src.view.set]{q} f)) from .rfl) $$ Hs
  ihave Hd := (show owns c' dst fullShare Y ⊢ iprop(∃ f, ⌜dst.view.read Val f = Y⌝ ∗ (dst.view.loc c' ↦[dst.view.set]{fullShare} f)) from .rfl) $$ Hd
  icases Hs with ⟨%fs, %hfs, Hs⟩
  icases Hd with ⟨%fd, -, Hd⟩
  iapply (wp_send_pointsTo 𝒱 E Rd c bd (fs := fs) (fd := fd) (κ₁ := κ₁) (κ₂ := κ₂) hd₁ hd₂ ι ι' N hN hk₁ hk₂ O hO
    (by
      refine BIBase.Entails.trans ?_ hpay₁
      iintro H2
      ihave H2 := (owns_intro c src q _) $$ H2
      rw [hfs]; iexact H2)
    (by
      refine BIBase.Entails.trans ?_ hpay₂
      iintro H1
      ihave H1 := (owns_intro c' dst fullShare _) $$ H1
      rw [View.read_write_univ, hfs]; iexact H1) hr) $$ [Hi Hi' Hs Hd Ho Ht Hr Ht' Hr']
  · isplitl [Hi]; · iexact Hi
    isplitl [Hi']; · iexact Hi'
    isplitl [Hs]; · iexact Hs
    isplitl [Hd]; · iexact Hd
    isplitl [Ho]; · iexact Ho
    isplitl [Ht]; · iexact Ht
    isplitl [Hr]; · iexact Hr
    isplitl [Ht']; · iexact Ht'
    iexact Hr'
  iexact Hk

/-- A load of a unit-stride rectangle of a memref, the slice owned at a value: the value is read. -/
theorem wp_load_owns {cs : CoreSpace} {m : Memref sig c.2.kind cs s e} {r : Rect s} {hl : m.view.LoadsAt r}
    {k : (r.shape.Idx → Val e) → Prog (TpuEff nD τ sig Val Λ c.2) α} {Es : Set Name} {q : PosShare TreeShare}
    (hr : ∀ a, r.stride a = 1) (X : r.shape.Idx → Val e) :
    owns c (m.slice r hr) q X
      ⊢ iprop((owns c (m.slice r hr) q X -∗ wp frame (wpE' defs 𝒱 c bd Γ) Es (k X) Q)
        -∗ wp frame (wpE' defs 𝒱 c bd Γ) Es (.op (.load m r hl) k) Q) := by
  iintro Hs Hk
  ihave Hs := (show owns c (m.slice r hr) q X ⊢ iprop(∃ f, ⌜(m.slice r hr).view.read Val f = X⌝ ∗ ((m.slice r hr).view.loc c ↦[(m.slice r hr).view.set]{q} f)) from .rfl) $$ Hs
  icases Hs with ⟨%f, %hf, Hs⟩
  subst hf
  iapply (wp_load_rect 𝒱 c bd Es (m := m) (r := r) (f := f) (Finset.Subset.refl _)) $$ [Hs]
  · iexact Hs
  iintro Hs
  iapply Hk
  iapply (owns_intro c (m.slice r hr) q f)
  iexact Hs

/-- A store over a whole unit-stride rectangle of a memref. -/
theorem wp_store_owns {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {Es : Set Name}
    (hr : ∀ a, r.stride a = 1) :
    anyOf c (m.slice r hr)
      ⊢ iprop((owns c (m.slice r hr) fullShare w -∗ wp frame (wpE' defs 𝒱 c bd Γ) Es (k ⟨⟩) Q)
        -∗ wp frame (wpE' defs 𝒱 c bd Γ) Es (.op (.store m r w Finset.univ hx hm) k) Q) := by
  unfold anyOf
  iintro ⟨%X, Hs⟩ Hk
  ihave Hs := (show owns c (m.slice r hr) fullShare X ⊢ iprop(∃ f, ⌜(m.slice r hr).view.read Val f = X⌝ ∗ ((m.slice r hr).view.loc c ↦[(m.slice r hr).view.set]{fullShare} f)) from .rfl) $$ Hs
  icases Hs with ⟨%f, -, Hs⟩
  iapply (wp_store 𝒱 c bd Es (m := m) (r := r) (f := f) (S := (m.access r).set) (Finset.Subset.refl _)) $$ [Hs]
  · iexact Hs
  iintro Hs
  iapply Hk
  ihave Hs := (owns_intro c (m.slice r hr) fullShare _) $$ Hs
  have e1 : (m.slice r hr).view.read Val ((m.access r).write Val f w Finset.univ) = w :=
    View.read_write_univ (v := m.access r) f w
  rw [e1]
  iexact Hs

end Rules

/-! ## A family of unit-stride rectangles that partition a shape -/

section Parts

/-- Rectangles of one size at the offsets `off t`, each index in the one `loc` names and in no other: pairwise disjoint, -/
theorem unit_disjoint {sh : Shape} {T : Type} (off : T → Fin sh.rank → ℕ) (size : Fin sh.rank → ℕ) (inb : ∀ t a, off t a + size a ≤ sh.size a)
    (loc : sh.Idx → T) (huniq : ∀ t y, (∀ a, off t a ≤ (y a).val ∧ (y a).val < off t a + size a) → t = loc y) :
    ∀ t t', t ≠ t' → Disjoint (Rect.unit (s := sh) (off t) size (inb t)).set (Rect.unit (s := sh) (off t') size (inb t')).set := by
  intro t t' h
  rw [Finset.disjoint_left]
  intro y hy hy'
  rw [Rect.mem_set_unit] at hy hy'
  exact h ((huniq t y hy).trans (huniq t' y hy').symm)

/-- and together the whole shape. -/
theorem unit_cover {sh : Shape} {T : Type} [Fintype T] (off : T → Fin sh.rank → ℕ) (size : Fin sh.rank → ℕ) (inb : ∀ t a, off t a + size a ≤ sh.size a)
    (loc : sh.Idx → T) (hmem : ∀ y a, off (loc y) a ≤ (y a).val ∧ (y a).val < off (loc y) a + size a) :
    (Finset.univ : Finset T).biUnion (fun t => (Rect.unit (s := sh) (off t) size (inb t)).set) = Finset.univ := by
  ext y
  simp only [Finset.mem_biUnion, Finset.mem_univ, true_and, iff_true]
  exact ⟨loc y, by rw [Rect.mem_set_unit]; exact hmem y⟩

variable (c : Thread nD τ) {sp : Space} {sh : Shape} {e : EltTy} (m : Memref sig c.2.kind sp sh e) (q : PosShare TreeShare)

/-- A slice of a memref cut into smaller slices of the same memref, each at its part of the value. -/
theorem owns_parts [∀ e, Nonempty (Val e)] {T : Type} [Fintype T] [DecidableEq T] (r : Rect sh) (hr : ∀ a, r.stride a = 1)
    (ri : T → Rect sh) (hri : ∀ t a, (ri t).stride a = 1)
    (hd : ∀ t t', t ≠ t' → Disjoint (ri t).set (ri t').set)
    (hcov : (Finset.univ : Finset T).biUnion (fun t => (ri t).set) = r.set)
    (X : r.shape.Idx → Val e) (Xi : ∀ t, (ri t).shape.Idx → Val e)
    (hX : ∀ t j i, r.emb i = (ri t).emb j → X i = Xi t j) :
    (owns c (m.slice r hr) q X : sProp 𝕄) = BI.bigSep Finset.univ fun t => owns c (m.slice (ri t) (hri t)) q (Xi t) := by
  have hsub : ∀ t j, ∃ i, r.emb i = (ri t).emb j := by
    intro t j
    have : (ri t).emb j ∈ r.set := by
      rw [← hcov]; exact Finset.mem_biUnion.mpr ⟨t, Finset.mem_univ _, (ri t).map_emb_univ ▸ Finset.mem_map_of_mem _ (Finset.mem_univ j)⟩
    exact r.exists_idx_of_mem this
  have hset : (m.view.slice r).set = (Finset.univ : Finset T).biUnion fun t => (m.view.slice (ri t)).set := by
    rw [View.set_slice, ← hcov]
    ext i
    simp only [Finset.mem_map, Finset.mem_biUnion, Finset.mem_univ, true_and, View.set_slice]
    constructor
    · rintro ⟨a, ⟨t, ht⟩, rfl⟩; exact ⟨t, a, ht, rfl⟩
    · rintro ⟨t, a, ht, rfl⟩; exact ⟨a, ⟨t, ht⟩, rfl⟩
  refine equiv_of ?_ ?_
  · iintro H
    ihave H' := (show owns c (m.slice r hr) q X ⊢ iprop(∃ g, ⌜(m.slice r hr).view.read Val g = X⌝ ∗ m.view.loc c ↦[(m.view.slice r).set]{q} g) from .rfl) $$ H
    icases H' with ⟨%g, %hg, H⟩
    have h1 : (m.view.loc c ↦[(m.view.slice r).set]{q} g : sProp 𝕄)
        = BI.bigSep Finset.univ fun t => owns c (m.slice (ri t) (hri t)) q (Xi t) := by
      rw [hset, pointsTo_biUnion _ _ fun t _ t' _ htt => by
        rw [View.set_slice, View.set_slice]; exact (Finset.disjoint_map _).mpr (hd t t' htt)]
      refine BI.bigSep_congr fun t _ => ?_
      rw [← owns_slice_read c m q (ri t) (hri t) g]
      refine congrArg _ (funext fun j => ?_)
      obtain ⟨i, hi⟩ := hsub t j
      rw [← hX t j i hi, ← hi, ← hg]; rfl
    rw [← h1]; iexact H
  · classical
    let G : sh.Idx → Val e := fun y => if h : ∃ p : Σ t, (ri t).shape.Idx, (ri p.1).emb p.2 = y then Xi h.choose.1 h.choose.2 else Classical.arbitrary _
    have hG : ∀ t j, G ((ri t).emb j) = Xi t j := by
      intro t j
      have h : ∃ p : Σ t, (ri t).shape.Idx, (ri p.1).emb p.2 = (ri t).emb j := ⟨⟨t, j⟩, rfl⟩
      show (if h : _ then _ else _) = _
      rw [dif_pos h]
      obtain ⟨i, hi⟩ := hsub t j
      rw [← hX t j i hi, ← hX _ _ i (hi.trans h.choose_spec.symm)]
    have h2 := owns_rects_join (Ix := Ix) (Name := Name) (U := U) (Lvl := Lvl) c m q ri hri hd G Finset.univ
    have h3 : (BI.bigSep Finset.univ fun t => owns c (m.slice (ri t) (hri t)) q (Xi t) : sProp 𝕄)
        = BI.bigSep Finset.univ fun t => owns c (m.slice (ri t) (hri t)) q (fun j => G ((ri t).emb j)) :=
      BI.bigSep_congr fun t _ => congrArg _ (funext fun j => (hG t j).symm)
    rw [h3]
    refine h2.trans ?_
    show (iprop(∃ g, ⌜_⌝ ∗ _) : sProp 𝕄) ⊢ _
    iintro H
    icases H with ⟨%g, %hg, H⟩
    rw [← hset]
    have h4 : (m.slice r hr).view.read Val g = X := by
      funext i
      have hi : r.emb i ∈ (Finset.univ : Finset T).biUnion (fun t => (ri t).set) := by
        rw [hcov]; exact r.map_emb_univ ▸ Finset.mem_map_of_mem _ (Finset.mem_univ i)
      obtain ⟨t, -, ht⟩ := Finset.mem_biUnion.mp hi
      obtain ⟨j, hj⟩ := (ri t).exists_idx_of_mem ht
      rw [hX t j i hj.symm, ← hG t j, ← hg t (Finset.mem_univ t) j]
      exact congrArg (m.view.read Val g) hj.symm
    rw [← h4]
    iapply (owns_intro c (m.slice r hr) q g)
    iexact H

/-- Slices of a family, each owned at some value, are the slice they make up owned at some value. -/
theorem anyOf_parts [∀ e, Nonempty (Val e)] {T : Type} [Fintype T] [DecidableEq T] (r : Rect sh) (hr : ∀ a, r.stride a = 1)
    (ri : T → Rect sh) (hri : ∀ t a, (ri t).stride a = 1)
    (hd : ∀ t t', t ≠ t' → Disjoint (ri t).set (ri t').set)
    (hcov : (Finset.univ : Finset T).biUnion (fun t => (ri t).set) = r.set) :
    (BI.bigSep Finset.univ fun t => anyOf c (m.slice (ri t) (hri t)) : sProp 𝕄) ⊢ anyOf c (m.slice r hr) := by
  classical
  have hall (Xi : ∀ t, (ri t).shape.Idx → Val e) : (BI.bigSep Finset.univ fun t => owns c (m.slice (ri t) (hri t)) fullShare (Xi t) : sProp 𝕄) ⊢ anyOf c (m.slice r hr) := by
    let G : sh.Idx → Val e := fun y => if h : ∃ p : Σ t, (ri t).shape.Idx, (ri p.1).emb p.2 = y then Xi h.choose.1 h.choose.2 else Classical.arbitrary _
    have hinj : ∀ t j t' j', (ri t).emb j = (ri t').emb j' → HEq (Xi t j) (Xi t' j') := by
      intro t j t' j' h
      by_cases htt : t = t'
      · subst htt; have := (ri t).emb.injective h; subst this; rfl
      · exact absurd (h ▸ (ri t').map_emb_univ ▸ Finset.mem_map_of_mem _ (Finset.mem_univ j') : (ri t).emb j ∈ (ri t').set)
          (Finset.disjoint_left.mp (hd t t' htt) ((ri t).map_emb_univ ▸ Finset.mem_map_of_mem _ (Finset.mem_univ j)))
    have hG : ∀ t j, G ((ri t).emb j) = Xi t j := by
      intro t j
      have h : ∃ p : Σ t, (ri t).shape.Idx, (ri p.1).emb p.2 = (ri t).emb j := ⟨⟨t, j⟩, rfl⟩
      show (if h : _ then _ else _) = _
      rw [dif_pos h]
      exact eq_of_heq (hinj _ _ _ _ h.choose_spec)
    rw [← owns_parts c m fullShare r hr ri hri hd hcov (fun i => G (r.emb i)) Xi fun t j i h => by
      show G (r.emb i) = _; rw [h]; exact hG t j]
    exact any_intro c (m.slice r hr) fun i => G (r.emb i)
  haveI : ∀ t, Nonempty ((ri t).shape.Idx → Val e) := fun t => ⟨fun _ => Classical.arbitrary _⟩
  have h6 := bigSep_exists_pi (M := 𝕄) (Y := fun t => (ri t).shape.Idx → Val e) (Finset.univ : Finset T)
    (fun t Y => owns c (m.slice (ri t) (hri t)) fullShare Y)
  unfold anyOf at hall ⊢
  iintro H
  ihave H := h6 $$ H
  icases H with ⟨%Y, H⟩
  iapply (hall Y); iexact H

/-- A memref owned at some value, as a family of slices each owned at some value. -/
theorem anyOf_rects [∀ e, Nonempty (Val e)] {T : Type} [Fintype T] [DecidableEq T] (r : T → Rect sh) (hr : ∀ t a, (r t).stride a = 1)
    (hd : ∀ t t', t ≠ t' → Disjoint (r t).set (r t').set)
    (hcov : (Finset.univ : Finset T).biUnion (fun t => (r t).set) = Finset.univ) :
    (anyOf c m : sProp 𝕄) = BI.bigSep Finset.univ fun t => anyOf c (m.slice (r t) (hr t)) := by
  have hall (Xi : ∀ t, (r t).shape.Idx → Val e) : (BI.bigSep Finset.univ fun t => owns c (m.slice (r t) (hr t)) fullShare (Xi t) : sProp 𝕄) ⊢ anyOf c m := by
    classical
    have hinj : ∀ t j t' j', (r t).emb j = (r t').emb j' → HEq (Xi t j) (Xi t' j') := by
      intro t j t' j' h
      by_cases htt : t = t'
      · subst htt; have := (r t).emb.injective h; subst this; rfl
      · exact absurd (h ▸ (r t').map_emb_univ ▸ Finset.mem_map_of_mem _ (Finset.mem_univ j') : (r t).emb j ∈ (r t').set)
          (Finset.disjoint_left.mp (hd t t' htt) ((r t).map_emb_univ ▸ Finset.mem_map_of_mem _ (Finset.mem_univ j)))
    let G : sh.Idx → Val e := fun y => if h : ∃ p : Σ t, (r t).shape.Idx, (r p.1).emb p.2 = y then Xi h.choose.1 h.choose.2 else Classical.arbitrary _
    have hG : ∀ t j, G ((r t).emb j) = Xi t j := by
      intro t j
      have h : ∃ p : Σ t, (r t).shape.Idx, (r p.1).emb p.2 = (r t).emb j := ⟨⟨t, j⟩, rfl⟩
      show (if h : _ then _ else _) = _
      rw [dif_pos h]
      exact eq_of_heq (hinj _ _ _ _ h.choose_spec)
    have h3 : (BI.bigSep Finset.univ fun t => owns c (m.slice (r t) (hr t)) fullShare (Xi t) : sProp 𝕄)
        = BI.bigSep Finset.univ fun t => owns c (m.slice (r t) (hr t)) fullShare (fun j => G ((r t).emb j)) :=
      BI.bigSep_congr fun t _ => congrArg _ (funext fun j => (hG t j).symm)
    rw [h3]
    exact (owns_of_rects c m fullShare r hr hd hcov G).trans (any_intro c m G)
  refine equiv_of ?_ ?_
  · unfold anyOf
    iintro ⟨%X, H⟩
    ihave H := (owns_rects c m fullShare r hr hd hcov X) $$ H
    have h5 : (BI.bigSep Finset.univ (fun t => owns c (m.slice (r t) (hr t)) fullShare (fun j => X ((r t).emb j))) : sProp 𝕄)
        ⊢ BI.bigSep Finset.univ fun t => anyOf c (m.slice (r t) (hr t)) :=
      BI.bigSep_mono fun t _ => any_intro c _ _
    unfold anyOf at h5
    iapply h5; iexact H
  · haveI : ∀ t, Nonempty ((r t).shape.Idx → Val e) := fun t => ⟨fun _ => Classical.arbitrary _⟩
    have h6 := bigSep_exists_pi (M := 𝕄) (Y := fun t => (r t).shape.Idx → Val e) (Finset.univ : Finset T)
      (fun t Y => owns c (m.slice (r t) (hr t)) fullShare Y)
    unfold anyOf at hall ⊢
    iintro H
    ihave H := h6 $$ H
    icases H with ⟨%Y, H⟩
    iapply (hall Y); iexact H

end Parts

end Cert.Own
-- ==== Proof.KI.Views.lean ====
/-
  The pieces of memory and the semaphores the kernel names, as functions of the
  device, the chunk and the slot; the values they hold along the run.
-/
module

public import Mathlib.Tactic.DeriveFintype
public import proofs.«01_k».proof.Proof.Own
public import proofs.«01_k».proof.Proof.Gen.KernelIdeal.Launch
public import proofs.«01_k».proof.Proof.Gen.KernelIdeal.Skeleton
public import proofs.«01_k».proof.Proof.Gen.KernelIdeal.Points

@[expose] public section

noncomputable section

namespace Cert.KernelIdeal.P

open Idealize.ShloMosaic Idealize.ShloMosaic.TcCoe
open Cert.KernelIdeal Cert.KernelIdeal.Gen
open Cert.Own

/-! ## Places on the mesh -/

/-- The device's first coordinate: which half of the columns it multiplies. -/
def xh (c : Dev nD) : Fin 2 := ⟨c.val / 2, by have h : c.val < 4 := c.isLt; omega⟩
/-- The device's second coordinate: which half of the rows it keeps. -/
def yb (c : Dev nD) : Fin 2 := ⟨c.val % 2, by omega⟩
/-- The device differing in the second coordinate. -/
def ynb (c : Dev nD) : Dev nD := ⟨2 * (c.val / 2) + 1 - c.val % 2, by have h : c.val < 4 := c.isLt; show _ < 4; omega⟩
/-- The device differing in the first coordinate. -/
def xnb (c : Dev nD) : Dev nD := ⟨c.val % 2 + 2 - 2 * (c.val / 2), by have h : c.val < 4 := c.isLt; show _ < 4; omega⟩

/-- The neighbour's neighbour along the second axis is the device. -/
theorem ynb_ynb (c : Dev nD) : ynb (ynb c) = c := by revert c; decide
/-- The neighbour's neighbour along the first axis is the device. -/
theorem xnb_xnb (c : Dev nD) : xnb (xnb c) = c := by revert c; decide
/-- Neighbours along the second axis multiply the same half of the columns. -/
theorem xh_ynb (c : Dev nD) : xh (ynb c) = xh c := by revert c; decide
/-- Neighbours along the first axis keep the same half of the rows. -/
theorem yb_xnb (c : Dev nD) : yb (xnb c) = yb c := by revert c; decide
/-- Neighbours along the second axis keep different halves of the rows. -/
theorem yb_ynb (c : Dev nD) : yb (ynb c) = 1 - yb c := by revert c; decide
/-- Neighbours along the first axis multiply different halves of the columns. -/
theorem xh_xnb (c : Dev nD) : xh (xnb c) = 1 - xh c := by revert c; decide
/-- A device is not its own neighbour along the second axis. -/
theorem ynb_ne (c : Dev nD) : ynb c ≠ c := by revert c; decide
/-- A device is not its own neighbour along the first axis. -/
theorem xnb_ne (c : Dev nD) : xnb c ≠ c := by revert c; decide
/-- The two neighbours are different devices. -/
theorem xnb_ne_ynb (c : Dev nD) : xnb c ≠ ynb c := by revert c; decide
/-- The second coordinate, as a number. -/
theorem yb_val (c : Dev nD) : (yb c).val = c.val % 2 := rfl
/-- The first coordinate, as a number. -/
theorem xh_val (c : Dev nD) : (xh c).val = c.val / 2 := rfl

/-- A number as a chunk's. -/
def f16 (n : ℕ) : Fin 16 := Fin.ofNat 16 n
/-- A number as a slot's: its parity. -/
def f2 (n : ℕ) : Fin 2 := Fin.ofNat 2 n
/-- A number below sixteen is its own residue. -/
theorem f16_val (n : ℕ) (h : n < 16) : (f16 n).val = n := Nat.mod_eq_of_lt h
/-- The slot of a number is its parity. -/
theorem f2_val (n : ℕ) : (f2 n).val = n % 2 := rfl

/-! ## Views -/

/-- The left operand. -/
abbrev mx : Memref sig .tc .hbm S2048x2048 .f32 := Memref.whole main_arg0
/-- The right operand. -/
abbrev mdy : Memref sig .tc .hbm S2048x8192 .f32 := Memref.whole main_arg1
/-- The first call's result. -/
abbrev mo : Memref sig .tc .hbm S1024x8192 .f32 := Memref.whole main_v1
/-- The left operand's copy near the core. -/
abbrev mxv : Memref sig .tc .vmem S2048x2048 .f32 := Memref.whole cc0_scratch0
/-- The two slots of column chunks. -/
abbrev mdb : Memref sig .tc .vmem S2x2048x256 .f32 := Memref.whole cc0_scratch1
/-- The two slots of partial products. -/
abbrev mp : Memref sig .tc .vmem S2x2048x256 .f32 := Memref.whole cc0_scratch2
/-- The sixteen receive slots. -/
abbrev my : Memref sig .tc .vmem S16x1024x256 .f32 := Memref.whole cc0_scratch3
/-- The two slots of reduced chunks. -/
abbrev mr : Memref sig .tc .vmem S2x1024x256 .f32 := Memref.whole cc0_scratch4

/-- Columns of chunk `k` in half `h`, all rows of the right operand. -/
abbrev dyR (h : Fin 2) (k : Fin 16) : Rect S2048x8192 := Rect.unit (s := S2048x8192) ![0, 4096 * h.val + 256 * k.val] S2048x256.size
  (by intro a; fin_cases a <;> simp <;> omega)
/-- Those columns of the right operand. -/
abbrev dyW (h : Fin 2) (k : Fin 16) : Memref sig .tc .hbm S2048x256 .f32 := mdy.slice (dyR h k) (fun _ => rfl)
/-- Columns of chunk `k` in half `h` of the first call's result. -/
abbrev oR (h : Fin 2) (k : Fin 16) : Rect S1024x8192 := Rect.unit (s := S1024x8192) ![0, 4096 * h.val + 256 * k.val] S1024x256.size
  (by intro a; fin_cases a <;> simp <;> omega)
/-- Those columns of the result. -/
abbrev oW (h : Fin 2) (k : Fin 16) : Memref sig .tc .hbm S1024x256 .f32 := mo.slice (oR h k) (fun _ => rfl)
/-- Slot `b` of the buffers with two slots of 2048 rows. -/
abbrev sR (b : Fin 2) : Rect S2x2048x256 := Rect.unit (s := S2x2048x256) ![b.val, 0, 0] S1x2048x256.size
  (by intro a; fin_cases a <;> simp <;> omega)
/-- Slot `b` of the column chunks. -/
abbrev dS (b : Fin 2) : Memref sig .tc .vmem S1x2048x256 .f32 := mdb.slice (sR b) (fun _ => rfl)
/-- The same without its unit axis. -/
abbrev dSq (b : Fin 2) : Memref sig .tc .vmem S2048x256 .f32 := (dS b).squeeze S2048x256 squeezes_S1x2048x256_S2048x256
/-- Slot `b` of the partial products. -/
abbrev pS (b : Fin 2) : Memref sig .tc .vmem S1x2048x256 .f32 := mp.slice (sR b) (fun _ => rfl)
/-- Row half `h` of slot `b`. -/
abbrev hR (b h : Fin 2) : Rect S2x2048x256 := Rect.unit (s := S2x2048x256) ![b.val, 1024 * h.val, 0] S1x1024x256.size
  (by intro a; fin_cases a <;> simp <;> omega)
/-- Row half `h` of slot `b` of the partial products. -/
abbrev pH (b h : Fin 2) : Memref sig .tc .vmem S1x1024x256 .f32 := mp.slice (hR b h) (fun _ => rfl)
/-- The same without its unit axis. -/
abbrev pHq (b h : Fin 2) : Memref sig .tc .vmem S1024x256 .f32 := (pH b h).squeeze S1024x256 squeezes_S1x1024x256_S1024x256
/-- Receive slot `k`. -/
abbrev yR (k : Fin 16) : Rect S16x1024x256 := Rect.unit (s := S16x1024x256) ![k.val, 0, 0] S1x1024x256.size
  (by intro a; fin_cases a <;> simp <;> omega)
/-- Receive slot `k`, as a window. -/
abbrev yS (k : Fin 16) : Memref sig .tc .vmem S1x1024x256 .f32 := my.slice (yR k) (fun _ => rfl)
/-- The same without its unit axis. -/
abbrev ySq (k : Fin 16) : Memref sig .tc .vmem S1024x256 .f32 := (yS k).squeeze S1024x256 squeezes_S1x1024x256_S1024x256
/-- Slot `b` of the reduced chunks. -/
abbrev rR (b : Fin 2) : Rect S2x1024x256 := Rect.unit (s := S2x1024x256) ![b.val, 0, 0] S1x1024x256.size
  (by intro a; fin_cases a <;> simp <;> omega)
/-- Slot `b` of the reduced chunks, as a window. -/
abbrev rS (b : Fin 2) : Memref sig .tc .vmem S1x1024x256 .f32 := mr.slice (rR b) (fun _ => rfl)
/-- The same without its unit axis. -/
abbrev rSq (b : Fin 2) : Memref sig .tc .vmem S1024x256 .f32 := (rS b).squeeze S1024x256 squeezes_S1x1024x256_S1024x256

/-! ## Semaphores -/

/-- The semaphores: the barrier; the left operand's copy; the column slots'; the local copies into the result; the sends and the arrivals along the second axis, and along the first; the copies in and out of the second call. -/
inductive Cell
  | bar | x | dy (b : Fin 2) | out (b : Fin 2) | ys (k : Fin 16) | yr (k : Fin 16) | xs (k : Fin 16) | xr (k : Fin 16)
  | rin (k : Fin 8) | rout (k : Fin 8)
  deriving DecidableEq, Fintype

/-- The index of a cell's semaphore among the transfers' (the barrier is not one of them). -/
def semIx : Cell → Fin 85
  | .bar => 0 | .x => 0 | .dy b => ⟨1 + b.val, by omega⟩ | .out b => ⟨3 + b.val, by omega⟩ | .ys k => ⟨5 + k.val, by omega⟩
  | .yr k => ⟨21 + k.val, by omega⟩ | .xs k => ⟨37 + k.val, by omega⟩ | .xr k => ⟨53 + k.val, by omega⟩
  | .rin k => ⟨69 + k.val, by omega⟩ | .rout k => ⟨77 + k.val, by omega⟩

/-- A cell's semaphore. -/
abbrev enc (x : Cell) : SemLoc sig := match x with
  | .bar => .reg barrier0
  | x => .dma (semIx x)

/-- The cell of a transfer's semaphore, by its index. -/
def decN (n : ℕ) : Cell :=
  if n < 1 then .x else if n < 3 then .dy (f2 (n - 1)) else if n < 5 then .out (f2 (n - 3)) else if n < 21 then .ys (f16 (n - 5))
  else if n < 37 then .yr (f16 (n - 21)) else if n < 53 then .xs (f16 (n - 37)) else if n < 69 then .xr (f16 (n - 53))
  else if n < 77 then .rin (Fin.ofNat 8 (n - 69)) else .rout (Fin.ofNat 8 (n - 77))
/-- The cell a semaphore is. -/
def dec : SemLoc sig → Cell
  | .reg _ => .bar
  | .dma s => decN s.val

/-- The cell of a cell's semaphore is the cell. -/
theorem dec_enc (x : Cell) : dec (enc x) = x := by
  cases x <;> first | rfl | (rename_i k; revert k; decide)
/-- The semaphore of a semaphore's cell is the semaphore. -/
theorem enc_dec (s : SemLoc sig) : enc (dec s) = s := by revert s; decide +kernel
/-- Different cells have different semaphores. -/
theorem enc_inj : Function.Injective enc := fun x y h => by rw [← dec_enc x, ← dec_enc y, h]

/-- The semaphore of the left operand's copy is the cell `x`. -/
theorem sem_x : SemLoc.dma (cc0_scratch5.sem) = enc .x := by decide
section
variable {o : Fin 1 → ℕ}
/-- The semaphore at offset `b` of the column slots' is the cell `dy b`. -/
theorem sem_dy (b : Fin 2) (h : o = ![b.val]) (i) : SemLoc.dma ((cc0_scratch6.slice (Rect.unit (s := S2) o S1.size i)).squeeze S_ squeezes_S1_S_).sem = enc (.dy b) := by
  subst h; revert b; decide
/-- The semaphore at offset `b` of the local copies to the result is the cell `out b`. -/
theorem sem_out (b : Fin 2) (h : o = ![b.val]) (i) : SemLoc.dma ((cc0_scratch7.slice (Rect.unit (s := S2) o S1.size i)).squeeze S_ squeezes_S1_S_).sem = enc (.out b) := by
  subst h; revert b; decide
/-- The semaphore at offset `k` of the sends along the second axis is the cell `ys k`. -/
theorem sem_ys (k : Fin 16) (h : o = ![k.val]) (i) : SemLoc.dma ((cc0_scratch8.slice (Rect.unit (s := S16) o S1.size i)).squeeze S_ squeezes_S1_S_).sem = enc (.ys k) := by
  subst h; revert k; decide
/-- The semaphore at offset `k` of the arrivals along the second axis is the cell `yr k`. -/
theorem sem_yr (k : Fin 16) (h : o = ![k.val]) (i) : SemLoc.dma ((cc0_scratch9.slice (Rect.unit (s := S16) o S1.size i)).squeeze S_ squeezes_S1_S_).sem = enc (.yr k) := by
  subst h; revert k; decide
/-- The semaphore at offset `k` of the sends along the first axis is the cell `xs k`. -/
theorem sem_xs (k : Fin 16) (h : o = ![k.val]) (i) : SemLoc.dma ((cc0_scratch10.slice (Rect.unit (s := S16) o S1.size i)).squeeze S_ squeezes_S1_S_).sem = enc (.xs k) := by
  subst h; revert k; decide
/-- The semaphore at offset `k` of the arrivals along the first axis is the cell `xr k`. -/
theorem sem_xr (k : Fin 16) (h : o = ![k.val]) (i) : SemLoc.dma ((cc0_scratch11.slice (Rect.unit (s := S16) o S1.size i)).squeeze S_ squeezes_S1_S_).sem = enc (.xr k) := by
  subst h; revert k; decide
end

/-! ## The printed offsets -/

section
variable (c : Dev nD) (t : Fin k0_t1_loop.trips)
/-- The main loop makes sixteen trips. -/
theorem trips1 : k0_t1_loop.trips = 16 := by decide
/-- The closing loop makes sixteen trips. -/
theorem trips2 : k0_t2_loop.trips = 16 := by decide
/-- A trip's number is below sixteen. -/
theorem lt1 : t.val < 16 := trips1 ▸ t.isLt
/-- The first condition of a trip: it is the third or later. -/
theorem cond1_iff : k0_cond1 t = 1#1 ↔ 2 ≤ t.val := by revert t; decide +kernel
/-- The third condition of a trip: it is not the last. -/
theorem cond3_iff : k0_cond3 t = 1#1 ↔ t.val < 15 := by revert t; decide +kernel
/-- The fourth condition of a trip: it is not the first. -/
theorem cond4_iff : k0_cond4 t = 1#1 ↔ 1 ≤ t.val := by revert t; decide +kernel
/-- The fifth condition of a trip: it is the fourth or later. -/
theorem cond5_iff : k0_cond5 t = 1#1 ↔ 3 ≤ t.val := by revert t; decide +kernel
/-- The second condition of a trip: it is the first. -/
theorem cond2_iff : Scalar.cmpi .ne ((Scalar.extui (Scalar.cmpi .eq (Scf.iv 0#32 1#32 t) 0#32) : BitVec 32)) 0#32 = 1#1 ↔ t.val = 0 := by
  revert t; decide +kernel

/-- The columns of the first chunk in the right operand. -/
theorem off1 : k0_off1 c = ![0, 4096 * (xh c).val + 256 * (f16 0).val] := by revert c; decide +kernel
/-- The semaphore of this trip's column slot. -/
theorem off2 : k0_off2 t = ![(f2 t).val] := by revert t; decide +kernel
/-- This trip's column slot. -/
theorem off3 : k0_off3 t = ![(f2 t).val, 0, 0] := by revert t; decide +kernel
/-- The columns of this trip's chunk. -/
theorem off4 : k0_off4 c t = ![0, 4096 * (xh c).val + 256 * (f16 t).val] := by revert c t; decide +kernel
/-- The semaphore of the send two trips ago. -/
theorem off5 (h : 2 ≤ t.val) : k0_off5 t = ![(f16 (t.val - 2)).val] := by revert t; decide +kernel
/-- This trip's slot, as an access names it. -/
theorem off8 : k0_off8 t = ![(f2 t).val, 0, 0] := by revert t; decide +kernel
/-- The semaphore of this trip's chunk. -/
theorem off9 : k0_off9 t = ![(f16 t).val] := by revert t; decide +kernel
/-- The receive slot of this trip's chunk. -/
theorem off10 : k0_off10 t = ![(f16 t).val, 0, 0] := by revert t; decide +kernel
/-- The half of this trip's partial product that the neighbour keeps. -/
theorem off11 : k0_off11 c t = ![(f2 t).val, 1024 * (yb (ynb c)).val, 0] := by revert c t; decide +kernel
/-- The semaphore of the next trip's column slot. -/
theorem off12 (h : t.val < 15) : k0_off12 t = ![(f2 (t.val + 1)).val] := by revert t; decide +kernel
/-- The next trip's column slot. -/
theorem off13 (h : t.val < 15) : k0_off13 t = ![(f2 (t.val + 1)).val, 0, 0] := by revert t; decide +kernel
/-- The columns of the next trip's chunk. -/
theorem off14 (h : t.val < 15) : k0_off14 c t = ![0, 4096 * (xh c).val + 256 * (f16 (t.val + 1)).val] := by revert c t; decide +kernel
/-- The semaphore of the slot of the chunk three trips ago. -/
theorem off15 (h : 3 ≤ t.val) : k0_off15 t = ![(f2 (t.val - 3)).val] := by revert t; decide +kernel
/-- The semaphore of the chunk three trips ago. -/
theorem off18 (h : 3 ≤ t.val) : k0_off18 t = ![(f16 (t.val - 3)).val] := by revert t; decide +kernel
/-- The semaphore of the chunk of the trip before. -/
theorem off19 (h : 1 ≤ t.val) : k0_off19 t = ![(f16 (t.val - 1)).val] := by revert t; decide +kernel
/-- The half of the previous trip's partial product that the device keeps. -/
theorem off22 (h : 1 ≤ t.val) : k0_off22 c t = ![(f2 (t.val - 1)).val, 1024 * (yb c).val, 0] := by revert c t; decide +kernel
/-- The receive slot of the previous trip's chunk. -/
theorem off23 (h : 1 ≤ t.val) : k0_off23 t = ![(f16 (t.val - 1)).val, 0, 0] := by revert t; decide +kernel
/-- The slot of the previous trip's reduced chunk. -/
theorem off24 (h : 1 ≤ t.val) : k0_off24 t = ![(f2 (t.val - 1)).val, 0, 0] := by revert t; decide +kernel
/-- The columns of the previous trip's chunk. -/
theorem off25 (h : 1 ≤ t.val) : k0_off25 c t = ![0, 4096 * (xh c).val + 256 * (f16 (t.val - 1)).val] := by revert c t; decide +kernel
/-- The slot of the previous trip's reduced chunk, as a copy names it. -/
theorem off26 (h : 1 ≤ t.val) : k0_off26 t = ![(f2 (t.val - 1)).val, 0, 0] := by revert t; decide +kernel
/-- The semaphore of the previous trip's slot. -/
theorem off27 (h : 1 ≤ t.val) : k0_off27 t = ![(f2 (t.val - 1)).val] := by revert t; decide +kernel
/-- The columns of the last chunk. -/
theorem off28 : k0_off28 c 3840#32 = ![0, 4096 * (xh c).val + 256 * (f16 15).val] := by revert c; decide +kernel
/-- The half of the last partial product that the device keeps. -/
theorem off30 : k0_off30 c = ![(f2 15).val, 1024 * (yb c).val, 0] := by revert c; decide +kernel
/-- The semaphore of a chunk in the closing loop. -/
theorem off32 (t : Fin k0_t2_loop.trips) : k0_off32 t = ![(f16 t).val] := by revert t; decide +kernel
/-- The first signal goes to the neighbour along the second axis. -/
theorem dev1 : (⟨k0_dev1 c, k0_dev1_lt c⟩ : Dev nD) = ynb c := by revert c; decide +kernel
/-- The second signal goes to the neighbour along the first axis. -/
theorem dev2 : (⟨k0_dev2 c, k0_dev2_lt c⟩ : Dev nD) = xnb c := by revert c; decide +kernel
/-- A trip's partial product goes to the neighbour along the second axis. -/
theorem dev3 : (⟨k0_dev3 c, k0_dev3_lt c⟩ : Dev nD) = ynb c := by revert c; decide +kernel
/-- A trip's reduced chunk goes to the neighbour along the first axis. -/
theorem dev4 (p) : (⟨k0_dev4 c, p⟩ : Dev nD) = xnb c := Fin.ext (k0_dev4_eq c)
/-- The last reduced chunk goes to the neighbour along the first axis. -/
theorem dev5 : (⟨k0_dev5 c, k0_dev5_lt c⟩ : Dev nD) = xnb c := by revert c; decide +kernel
end

/-! ## What the memory holds -/

section
variable {F : FTy → Type} [FloatOps F]
-- The operands each device is launched with.
variable (X : Dev nD → Vec F S2048x2048 .f32) (Y : Dev nD → Vec F S2048x8192 .f32)

/-- Chunk `k` of the device's half of the right operand's columns. -/
def chunk (c : Dev nD) (k : Fin 16) : Vec F S2048x256 .f32 := fun j => Y c ((dyR (xh c) k).emb j)
/-- The same with a leading unit axis, as its slot holds it. -/
def chunk3 (c : Dev nD) (k : Fin 16) : Vec F S1x2048x256 .f32 := shapeCast S1x2048x256 (chunk Y c k) shapeCasts_S2048x256_S1x2048x256
/-- The device's partial product of chunk `k`: its rows of both operands. -/
def part (c : Dev nD) (k : Fin 16) : Vec F S1x2048x256 .f32 := k0_pay2 (X c) (chunk3 Y c k)
/-- Row half `h` of a partial product. -/
def rowsOf (h : Fin 2) (p : Vec F S1x2048x256 .f32) : Vec F S1x1024x256 .f32 := fun j =>
  p ((Rect.unit (s := S1x2048x256) ![0, 1024 * h.val, 0] S1x1024x256.size (by intro a; fin_cases a <;> simp <;> omega)).emb j)
/-- Chunk `k` reduced over the two devices of a row: the rows the device keeps. -/
def red (c : Dev nD) (k : Fin 16) : Vec F S1x1024x256 .f32 := k0_pay1 (rowsOf (yb c) (part X Y c k)) (rowsOf (yb c) (part X Y (ynb c) k))
/-- The same without its unit axis. -/
def red2 (c : Dev nD) (k : Fin 16) : Vec F S1024x256 .f32 := shapeCast S1024x256 (red X Y c k) shapeCasts_S1x1024x256_S1024x256
/-- Which device reduces the columns of half `h` for device `c`. -/
def colDev (c : Dev nD) (h : Fin 2) : Dev nD := if xh c = h then c else xnb c
/-- What the first call leaves in its result. -/
def outV (c : Dev nD) : Vec F S1024x8192 .f32 := fun i =>
  red2 X Y (colDev c ⟨(i 1).val / 4096, by have h : (i 1).val < 8192 := (i 1).isLt; omega⟩) ⟨(i 1).val % 4096 / 256, by omega⟩
    (fun a => match a with | 0 => ⟨(i 0).val, (i 0).isLt⟩ | 1 => ⟨(i 1).val % 256, Nat.mod_lt _ (by decide)⟩)

end

end Cert.KernelIdeal.P
-- ==== Proof.KI.Sched.lean ====
/-
  The protocol: for every semaphore what each round expects and hands over, what a
  device owes, and the rules of a wait, a local copy and a remote copy at one cell.
-/
module

public import Mathlib.Algebra.BigOperators.Intervals
public import proofs.«01_k».proof.Proof.KI.Views
public import Idealize.ShloMosaic.Lib.Pipeline.Regions
public import Idealize.ShloMosaic.Lib.Pipeline.Kit
public import Idealize.ShloMosaic.Lib.Pipeline.RegionTalk

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

abbrev URk : Type := Rounds.URounds (GSem nD τ sig) (Fin 2)
abbrev UU : Type := UR sig nD τ × URk

local notation "𝕄" => MT nD τ sig Unit (Elt F) ℕ UU ℕ

abbrev EP : Emb (UR sig nD τ) (MT nD τ sig Unit (Elt F) ℕ UU ℕ) := embL
abbrev ER : Emb URk (MT nD τ sig Unit (Elt F) ℕ UU ℕ) := embR

abbrev 𝒱₀ : Variants := Variants.none

/-- The cell of device `c`. -/
abbrev gc (c : Dev nD) (x : Cell) : GSem nD τ sig := ((c : Thread nD τ), enc x)

/-- A cell of a device determines the device and the cell. -/
theorem gc_inj {c c' : Dev nD} {x x' : Cell} (h : gc c x = gc c' x') : c = c' ∧ x = x' :=
  ⟨congrArg (fun g : GSem nD τ sig => g.1.1) h, enc_inj (congrArg Prod.snd h)⟩

/-! ## The second call's pieces -/

/-- The second call's result. -/
abbrev mq : Memref sig .tc .hbm S1024x8192 .f32 := Memref.whole main_v2
/-- The second call's staging slots. -/
abbrev mst : Memref sig .tc .vmem S8x128x8192 .f32 := Memref.whole cc1_scratch0
/-- Block `k` of 128 rows. -/
abbrev vR (k : Fin 8) : Rect S1024x8192 := Rect.unit (s := S1024x8192) ![128 * k.val, 0] S128x8192.size
  (by intro a; fin_cases a <;> simp <;> omega)
/-- Those rows of the first call's result. -/
abbrev vI (k : Fin 8) : Memref sig .tc .hbm S128x8192 .f32 := mo.slice (vR k) (fun _ => rfl)
/-- Those rows of the second call's result. -/
abbrev vO (k : Fin 8) : Memref sig .tc .hbm S128x8192 .f32 := mq.slice (vR k) (fun _ => rfl)
/-- The rectangle of staging slot `k`. -/
abbrev tR (k : Fin 8) : Rect S8x128x8192 := Rect.unit (s := S8x128x8192) ![k.val, 0, 0] S1x128x8192.size
  (by intro a; fin_cases a <;> simp <;> omega)
/-- Staging slot `k`. -/
abbrev tS (k : Fin 8) : Memref sig .tc .vmem S1x128x8192 .f32 := mst.slice (tR k) (fun _ => rfl)
/-- The same without its unit axis. -/
abbrev tSq (k : Fin 8) : Memref sig .tc .vmem S128x8192 .f32 := (tS k).squeeze S128x8192 squeezes_S1x128x8192_S128x8192

/-! ## Credits -/

/-- What a landing of `arg0`, of a chunk of columns of `arg1`, of a chunk of the result and of a block of rows pays. -/
@[irreducible] def Nx : ℕ := mxv.view.dmaCredit
@[irreducible] def Nd : ℕ := (dSq 0).view.dmaCredit
@[irreducible] def Nc : ℕ := (ySq 0).view.dmaCredit
@[irreducible] def Nv : ℕ := (vO 0).view.dmaCredit
/-- A copy of the left operand pays something. -/
theorem Nx_pos : 0 < Nx := by unfold Nx; exact View.dmaCredit_pos _ (by decide)
/-- A copy of a column chunk pays something. -/
theorem Nd_pos : 0 < Nd := by unfold Nd; exact View.dmaCredit_pos _ (by decide)
/-- A copy of a chunk of the result pays something. -/
theorem Nc_pos : 0 < Nc := by unfold Nc; exact View.dmaCredit_pos _ (by decide)
/-- A copy of a block of the result pays something. -/
theorem Nv_pos : 0 < Nv := by unfold Nv; exact View.dmaCredit_pos _ (by decide)
/-- What one payment into a cell amounts to. -/
def amt : Cell → ℕ
  | .bar => 1 | .x => Nx | .dy _ => Nd | .rin _ => Nv | .rout _ => Nv | _ => Nc
/-- Every payment into a cell is positive. -/
theorem amt_pos (x : Cell) : 0 < amt x := by
  cases x
  case bar => exact Nat.one_pos
  case x => exact Nx_pos
  case dy => exact Nd_pos
  case rin => exact Nv_pos
  case rout => exact Nv_pos
  all_goals exact Nc_pos

/-- How many rounds a cell runs. -/
def rounds : Cell → ℕ
  | .dy _ => 8 | .out _ => 8 | _ => 1
/-- The duties of each of them: the barrier's two signals, one copy otherwise. -/
def dts : Cell → Finset (Fin 2)
  | .bar => Finset.univ | _ => {0}

section
variable (X : Dev nD → Vec F S2048x2048 .f32) (Y : Dev nD → Vec F S2048x8192 .f32)

/-- One half of the right to read a buffer, lent to the send. -/
abbrev lh : PosShare TreeShare := (fullShare : PosShare TreeShare).left
/-- The other half, lent to the local copy. -/
abbrev rh : PosShare TreeShare := (fullShare : PosShare TreeShare).right

/-- The chunk round `R` of a two-slot cell is about. -/
def kOf (b : Fin 2) (R : ℕ) : Fin 16 := f16 (2 * R + b.val)

/-- What a signal of device `ynb c` hands device `c`: its receive slots. -/
def barY (c : Dev nD) : sProp 𝕄 := bigSep Finset.univ fun k : Fin 16 =>
  iprop(anyOf (ynb c : Thread nD τ) (ySq k) ∗ reached ER (gc (ynb c) (.yr k)) 0)
/-- What a signal of device `xnb c` hands device `c`: its result's columns of `c`'s half. -/
def barX (c : Dev nD) : sProp 𝕄 := bigSep Finset.univ fun k : Fin 16 =>
  iprop(anyOf (xnb c : Thread nD τ) (oW (xh c) k) ∗ reached ER (gc (xnb c) (.xr k)) 0)

/-- What a round of a cell of device `c` hands over. -/
def pay (c : Dev nD) (R : ℕ) (d : Fin 2) : Cell → sProp 𝕄
  | .bar => if d = 0 then barY c else barX c
  | .x => iprop(owns (c : Thread nD τ) mxv fullShare (X c) ∗ owns (c : Thread nD τ) mx fullShare (X c))
  | .dy b => iprop(owns (c : Thread nD τ) (dSq b) fullShare (chunk Y c (kOf b R)) ∗ owns (c : Thread nD τ) (dyW (xh c) (kOf b R)) fullShare (chunk Y c (kOf b R)))
  | .out b => iprop(owns (c : Thread nD τ) (oW (xh c) (kOf b R)) fullShare (red2 X Y c (kOf b R)) ∗ owns (c : Thread nD τ) (rSq b) rh (red2 X Y c (kOf b R)))
  | .ys k => anyOf (c : Thread nD τ) (pHq (f2 k.val) (yb (ynb c)))
  | .yr k => owns (c : Thread nD τ) (yS k) fullShare (rowsOf (yb c) (part X Y (ynb c) k))
  | .xs k => owns (c : Thread nD τ) (rSq (f2 k.val)) lh (red2 X Y c k)
  | .xr k => owns (c : Thread nD τ) (oW (xh (xnb c)) k) fullShare (red2 X Y (xnb c) k)
  | .rin k => iprop(owns (c : Thread nD τ) (tSq k) fullShare (fun j => outV X Y c ((vR k).emb j)) ∗ owns (c : Thread nD τ) (vI k) fullShare (fun j => outV X Y c ((vR k).emb j)))
  | .rout k => iprop(owns (c : Thread nD τ) (vO k) fullShare (fun j => outV X Y c ((vR k).emb j)) ∗ owns (c : Thread nD τ) (tSq k) fullShare (fun j => outV X Y c ((vR k).emb j)))

instance pay_storable (c : Dev nD) (R : ℕ) (d : Fin 2) (x : Cell) : BI.Storable (upEmb : UEmb _ 𝕄) (pay X Y c R d x) := by
  cases x <;> unfold pay
  case bar =>
    by_cases h : d = 0
    · rw [if_pos h]; unfold barY; infer_instance
    · rw [if_neg h]; unfold barX; infer_instance
  all_goals infer_instance

/-- The protocol: each cell's rounds, its duties, their amounts and what they hand over. -/
def Rd : Rounds.Schedule (GSem nD τ sig) (Fin 2) 𝕄 where
  duties g r := if g.1.2 = .tc ∧ r < rounds (dec g.2) then dts (dec g.2) else ∅
  unitless _ := False
  amount g _ _ := amt (dec g.2)
  payload g r d := pay X Y g.1.1 r d (dec g.2)
  amount_pos g _ _ _ := amt_pos _

instance Rd_payload_storable (g : GSem nD τ sig) (r : ℕ) (d : Fin 2) :
    BI.Storable (upEmb : UEmb _ 𝕄) ((Rd X Y).payload g r d) := pay_storable X Y _ _ _ _

/-- In each of its rounds a cell has the duties of its kind. -/
theorem duties_gc (c : Dev nD) (x : Cell) (R : ℕ) (h : R < rounds x) : (Rd X Y).duties (gc c x) R = dts x := by
  dsimp only [Rd]; rw [dec_enc]; exact if_pos ⟨rfl, h⟩
/-- After its last round a cell has no duty. -/
theorem duties_later (c : Dev nD) (x : Cell) (r : ℕ) (h : rounds x ≤ r) : (Rd X Y).duties (gc c x) r = ∅ := by
  dsimp only [Rd]; rw [dec_enc]; exact if_neg fun hh => by omega
/-- The amount of a duty is that of the cell's kind. -/
theorem amount_gc (c : Dev nD) (x : Cell) (R : ℕ) (d : Fin 2) : (Rd X Y).amount (gc c x) R d = amt x := by
  dsimp only [Rd]; rw [dec_enc]
/-- What a duty hands over is what the schedule says. -/
theorem payload_gc (c : Dev nD) (x : Cell) (R : ℕ) (d : Fin 2) : (Rd X Y).payload (gc c x) R d = pay X Y c R d x := by
  dsimp only [Rd]; rw [dec_enc]
/-- Every cell but the barrier has one duty a round. -/
theorem dts_one {x : Cell} (hx : x ≠ .bar) : dts x = {0} := by cases x <;> first | rfl | exact absurd rfl hx
/-- A round of a cell other than the barrier expects one copy's amount. -/
theorem expect_gc (c : Dev nD) (x : Cell) (R : ℕ) (h : R < rounds x) (hx : x ≠ .bar) : (Rd X Y).expect (gc c x) R = amt x := by
  unfold Schedule.expect Schedule.amountOf
  rw [duties_gc X Y c x R h, dts_one hx, Finset.sum_singleton, amount_gc]
/-- The barrier's round expects two signals. -/
theorem expect_bar (c : Dev nD) : (Rd X Y).expect (gc c .bar) 0 = 2 := by
  unfold Schedule.expect Schedule.amountOf
  rw [duties_gc X Y c .bar 0 Nat.one_pos, Finset.sum_congr rfl fun d _ => amount_gc X Y c .bar 0 d]
  rfl
/-- A whole round of a cell other than the barrier hands over its one payload. -/
theorem rest_gc (c : Dev nD) (x : Cell) (R : ℕ) (h : R < rounds x) (hx : x ≠ .bar) :
    bigSep ((Rd X Y).duties (gc c x) R \ ∅) (fun d => (Rd X Y).payload (gc c x) R d) = pay X Y c R 0 x := by
  rw [Finset.sdiff_empty, duties_gc X Y c x R h, dts_one hx, bigSep_singleton, payload_gc]
/-- The barrier's whole round hands over both neighbours' payloads. -/
theorem rest_bar (c : Dev nD) :
    bigSep ((Rd X Y).duties (gc c .bar) 0 \ ∅) (fun d => (Rd X Y).payload (gc c .bar) 0 d) = iprop(barY c ∗ barX c) := by
  rw [Finset.sdiff_empty, duties_gc X Y c .bar 0 Nat.one_pos, bigSep_congr fun d _ => payload_gc X Y c .bar 0 d]
  exact BI.bigSep_fin_two (fun d : Fin 2 => pay X Y c 0 d .bar)

/-! ## Levels and what is owed -/

/-- The cells on a device's core have one level each. -/
def L (g : GSem nD τ sig) : Finset Unit := if g.1.2 = .tc then {()} else ∅
/-- The order of waits: what a device waits for lies below whatever it still owes. -/
def lvc : Cell → ℕ
  | .bar => 1 | .yr k => 2 + k.val | .xr _ => 100 | _ => 0
/-- The level of a semaphore, that of its cell. -/
def lv (g : GSem nD τ sig) (_ : Unit) : ℕ := lvc (dec g.2)

/-- No level is given to a semaphore of another kind of core. -/
theorem L_of_ne (g : GSem nD τ sig) (h : g.1.2 ≠ .tc) : L g = ∅ := if_neg h
/-- Every semaphore of a device's core has one level. -/
theorem L_tc (c : Dev nD) (sm : SemLoc sig) : L ((c : Thread nD τ), sm) = {()} := if_pos rfl
/-- The level of a device's cell is that of the cell's kind. -/
theorem lv_gc (c : Dev nD) (x : Cell) (u : Unit) : lv (gc c x) u = lvc x := by unfold lv; rw [dec_enc]

/-- The transfers a device has still to pay into its neighbours' receive cells: from chunk `t` along one axis, `u` along the other. -/
def Oyx (c : Dev nD) (t u : ℕ) : CellTallies nD τ sig Unit :=
  (∑ k ∈ Finset.Ico t 16, tallyAt (gc (ynb c) (.yr (f16 k))) () Nc) + ∑ k ∈ Finset.Ico u 16, tallyAt (gc (xnb c) (.xr (f16 k))) () Nc
/-- What it owes at launch: those and the two barrier signals. -/
def O₀ (c : Dev nD) : CellTallies nD τ sig Unit :=
  (Oyx c 0 0 + tallyAt (gc (xnb c) .bar) () 1) + tallyAt (gc (ynb c) .bar) () 1

/-- With both exchanges over nothing is owed. -/
theorem Oyx_done (c : Dev nD) : Oyx c 16 16 = 0 := by unfold Oyx; rw [Finset.Ico_self, Finset.sum_empty, Finset.sum_empty, add_zero]
/-- Owed before chunk `t` is sent along the second axis: that transfer and the later ones. -/
theorem Oyx_y (c : Dev nD) (t u : ℕ) (h : t < 16) : Oyx c t u = Oyx c (t + 1) u + tallyAt (gc (ynb c) (.yr (f16 t))) () Nc := by
  unfold Oyx
  rw [Finset.sum_eq_sum_Ico_succ_bot h, add_comm (tallyAt (gc (ynb c) (.yr (f16 t))) () Nc)]
  exact add_right_comm _ _ _
/-- Owed before chunk `u` is sent along the first axis: that transfer and the later ones. -/
theorem Oyx_x (c : Dev nD) (t u : ℕ) (h : u < 16) : Oyx c t u = Oyx c t (u + 1) + tallyAt (gc (xnb c) (.xr (f16 u))) () Nc := by
  unfold Oyx
  rw [Finset.sum_eq_sum_Ico_succ_bot h, add_comm (tallyAt (gc (xnb c) (.xr (f16 u))) () Nc), add_assoc]

/-- A sum of amounts is positive only at a cell of the family. -/
theorem sum_tally_pos {S : Finset ℕ} {f : ℕ → GSem nD τ sig} {N : ℕ} {g : GSem nD τ sig} {i : Unit}
    (h : 0 < (∑ k ∈ S, tallyAt (f k) () N : CellTallies nD τ sig Unit) g i) : ∃ k ∈ S, g = f k := by
  by_contra hn
  push Not at hn
  rw [Finset.sum_apply, Finsupp.finset_sum_apply, Finset.sum_eq_zero] at h
  · exact absurd h (Nat.lt_irrefl 0)
  · intro k hk
    rw [tallyAt_apply, if_neg fun hh => hn k hk hh.1]

/-- What is owed lies at receive cells of the neighbours: those of chunk `t` on along the second axis, or some along the first. -/
theorem Oyx_pos {c : Dev nD} {t u : ℕ} {g : GSem nD τ sig} {i : Unit} (h : 0 < Oyx c t u g i) :
    (∃ k, t ≤ k ∧ k < 16 ∧ g = gc (ynb c) (.yr (f16 k))) ∨ ∃ k, g = gc (xnb c) (.xr (f16 k)) := by
  unfold Oyx at h
  rw [Pi.add_apply, Finsupp.add_apply] at h
  rcases Nat.add_pos_iff_pos_or_pos.mp h with h | h
  · obtain ⟨k, hk, rfl⟩ := sum_tally_pos h
    exact .inl ⟨k, (Finset.mem_Ico.mp hk).1, (Finset.mem_Ico.mp hk).2, rfl⟩
  · obtain ⟨k, hk, rfl⟩ := sum_tally_pos h
    exact .inr ⟨k, rfl⟩

/-- What is owed at launch lies at cores' semaphores of positive level. -/
theorem O₀_pos {c : Dev nD} {g : GSem nD τ sig} {i : Unit} (h : 0 < O₀ c g i) : g.1.2 = .tc ∧ 0 < lv g i := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · rcases Oyx_pos h with ⟨k, -, -, rfl⟩ | ⟨k, rfl⟩
      · exact ⟨rfl, by rw [lv_gc]; show 0 < 2 + _; omega⟩
      · exact ⟨rfl, by rw [lv_gc]; show 0 < 100; omega⟩
    · rw [tallyAt_apply] at h
      split at h
      · next hg => rw [hg.1]; exact ⟨rfl, by rw [lv_gc]; show 0 < 1; omega⟩
      · exact absurd h (Nat.lt_irrefl 0)
  · rw [tallyAt_apply] at h
    split at h
    · next hg => rw [hg.1]; exact ⟨rfl, by rw [lv_gc]; show 0 < 1; omega⟩
    · exact absurd h (Nat.lt_irrefl 0)

/-- A cell whose level is below those of the receive cells still owed may be waited for. -/
theorem mayWait (c : Dev nD) (x : Cell) (t u : ℕ) (h : lvc x < 2 + t) (h' : lvc x < 100) :
    (levAts L lv : sProp 𝕄) ⊢ MayWait (c : Thread nD τ) (enc x) () (Oyx c t u) :=
  MayOwe.of_cut (L := L) (lev := lv) (lvc x) (fun p hp => by rw [Finset.mem_singleton.mp hp, L_tc]; exact Finset.mem_singleton_self _)
    (fun g i hg => by
      rcases Oyx_pos hg with ⟨k, -, -, rfl⟩ | ⟨k, rfl⟩ <;> rw [L_tc] <;> exact Finset.mem_singleton_self _)
    (fun p hp => by rw [Finset.mem_singleton.mp hp]; exact le_of_eq (lv_gc c x ()))
    (fun g i hg => by
      rcases Oyx_pos hg with ⟨k, hk, hk', rfl⟩ | ⟨k, rfl⟩
      · rw [lv_gc]; show lvc x < 2 + (f16 k).val; rw [f16_val k hk']; omega
      · rw [lv_gc]; exact h')

/-- The core owes `O`, whatever it has waited for. -/
def owing (c : Dev nD) (O : CellTallies nD τ sig Unit) : sProp 𝕄 := iprop(∃ W, owes (c : Thread nD τ) O W)

/-! ## What every device may consult -/

/-- Every cell's invariant, that each barrier's round is reached, and the levels. -/
def records (κ : GSem nD τ sig → ℕ) : sProp 𝕄 :=
  iprop((bigSep Finset.univ fun p : Dev nD × Cell => cellInv ER (Rd X Y) (κ (gc p.1 p.2)) (gc p.1 p.2))
    ∗ (bigSep Finset.univ fun c : Dev nD => reached ER (gc c .bar) 0) ∗ levAts L lv)

instance records_persistent (κ : GSem nD τ sig → ℕ) : BI.Persistent (records X Y κ) := by unfold records; infer_instance

/-- The records hold every cell's invariant. -/
theorem inv_at (κ : GSem nD τ sig → ℕ) (c : Dev nD) (x : Cell) : records X Y κ ⊢ cellInv ER (Rd X Y) (κ (gc c x)) (gc c x) := by
  unfold records
  iintro ⟨H, -, -⟩
  have h : (bigSep Finset.univ fun p : Dev nD × Cell => (cellInv ER (Rd X Y) (κ (gc p.1 p.2)) (gc p.1 p.2) : sProp 𝕄)) ⊢ cellInv ER (Rd X Y) (κ (gc c x)) (gc c x) :=
    bigSep_elim (Finset.mem_univ (c, x))
  iapply h; iexact H
/-- The records say that every barrier's first round is reached. -/
theorem bar_at (κ : GSem nD τ sig → ℕ) (c : Dev nD) : records X Y κ ⊢ reached ER (gc c .bar) 0 := by
  unfold records
  iintro ⟨-, H, -⟩
  have h : (bigSep Finset.univ fun c : Dev nD => (reached ER (gc c .bar) 0 : sProp 𝕄)) ⊢ reached ER (gc c .bar) 0 :=
    bigSep_elim (Finset.mem_univ c)
  iapply h; iexact H
/-- The records hold the levels. -/
theorem lev_at (κ : GSem nD τ sig → ℕ) : records X Y κ ⊢ levAts L lv := by
  unfold records
  iintro ⟨-, -, H⟩
  iexact H

/-! ## The rules at one cell -/

variable (κ : GSem nD τ sig → ℕ) (c : Dev nD)
variable {α : Type} {Q : α → sProp (MT nD τ sig Unit (Elt F) ℕ UU ℕ)}

/-- A wait for one round of a cell of the device: what the round hands over. -/
theorem wait_cell (x : Cell) (R : ℕ) (hx : x ≠ .bar) (hR : R < rounds x) {sem : SemLoc sig} (hs : sem = enc x)
    {w : TpuEff nD τ sig (Elt F) Λ₀ .tc PUnit} {k' : ℕ}
    (hw : ∀ K : PUnit → sProp 𝕄, wpE (defs₀ (F := F)) 𝒱₀ (c : Thread nD τ) none Set.univ w K = waitSpec (c : Thread nD τ) Set.univ sem k' K) (hk : k' = amt x)
    {O : CellTallies nD τ sig Unit} (hO : (levAts L lv : sProp 𝕄) ⊢ MayWait (c : Thread nD τ) (enc x) () O)
    {k : PUnit → Prog (TpuEff nD τ sig (Elt F) Λ₀ .tc) α} :
    iprop(records X Y κ ∗ cred (tallyAt (gc c x) () (amt x)) ∗ owing c O ∗ atPos ER (gc c x) R ∅ 0)
      ⊢ iprop(((owing c O ∗ atPos ER (gc c x) (R + 1) ∅ 0 ∗ reached ER (gc c x) (R + 1) ∗ pay X Y c R 0 x)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hs hk
  iintro ⟨#Hr, Hc, Ho, Ha⟩ Hk
  unfold owing
  icases Ho with ⟨%W, Ho⟩
  iapply (Rounds.wp_wait_rest_token 𝒱₀ ER (Rd X Y) (c : Thread nD τ) none (κ := κ (gc c x)) hw (Set.mem_univ _) () (O := O) (W := W) (R := R) (m := 0) (T := ∅)
    ((Nat.zero_add _).trans (expect_gc X Y c x R hR hx).symm)) $$ [Hc Ho Ha]
  · isplitr; · iapply (inv_at X Y κ c x); iexact Hr
    isplitl [Hc]; · iexact Hc
    isplitl [Ho]; · iexact Ho
    isplitr; · iapply hO; iapply (lev_at X Y κ); iexact Hr
    iexact Ha
  iintro ⟨Ho, Ha, Hrr, Hp⟩
  iapply Hk
  isplitl [Ho]; · iexists _; iexact Ho
  isplitl [Ha]; · iexact Ha
  isplitl [Hrr]; · iexact Hrr
  iapply (Entails.of_eq (rest_gc X Y c x R hR hx)); iexact Hp

/-- A local copy that pays one round of a cell of the device. -/
theorem copy_cell (x : Cell) (R : ℕ) (hx : x ≠ .bar) (hR : R < rounds x) {sem : SemLoc sig} (hs : sem = enc x)
    {sp sp' : Space} {s : Shape} {e : EltTy}
    {src : Memref sig .tc sp s e} {dst : Memref sig .tc sp' s e}
    {hsrc : src.view.WordExact} {hdst : dst.view.WordExact} {hsem : DmaTarget.Typed (nD := nD) (τ := τ) sp sem (DmaTarget.here (nD := nD) (p := (.tc : Proc τ)) dst)}
    {k : PUnit → Prog (TpuEff nD τ sig (Elt F) Λ₀ .tc) α} {q : PosShare TreeShare} {V : s.Idx → Elt F e}
    (hN : dst.view.amount sem = amt x)
    (hpay : iprop(owns (c : Thread nD τ) dst fullShare V ∗ owns (c : Thread nD τ) src q V) ⊢ pay X Y c R 0 x) :
    iprop(records X Y κ ∗ owns (c : Thread nD τ) src q V ∗ anyOf (c : Thread nD τ) dst ∗ dutyTok ER (gc c x) R 0 ∗ reached ER (gc c x) R)
      ⊢ iprop((cred (tallyAt (gc c x) () (amt x)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) sem hsrc hdst hsem) k) Q) := by
  subst hs
  iintro ⟨#Hr, Hs, Hd, Ht, Hrr⟩ Hk
  iapply (wp_copy_owns 𝒱₀ ER (Rd X Y) (c : Thread nD τ) none (κ := κ (gc c x)) (r := R) (d := 0)
    (by rw [duties_gc X Y c x R hR, dts_one hx]; exact Finset.mem_singleton_self _) () (amt x) hN (amount_gc X Y c x R 0)
    (by rw [payload_gc]; exact hpay)) $$ [Hs Hd Ht Hrr]
  · isplitr; · iapply (inv_at X Y κ c x); iexact Hr
    isplitl [Hs]; · iexact Hs
    isplitl [Hd]; · iexact Hd
    isplitl [Ht]; · iexact Ht
    iexact Hrr
  iexact Hk

/-- A copy to device `c'` that pays the first round of the own cell `x` and of `c'`'s cell `x'`. -/
theorem send_cell (c' : Dev nD) (x x' : Cell) (hx : x ≠ .bar) (hx' : x' ≠ .bar) {n : Dev nD} (hn : n = c') {sS sem : SemLoc sig} (hsS : sS = enc x) (hs : sem = enc x')
    {sp sp' : Space} {s : Shape} {e : EltTy}
    {src : Memref sig .tc sp s e} {dst : Memref sig .tc sp' s e} {hsc : dst.view.ref.isScScratch = false}
    {hsrc : src.view.WordExact} {hdst : dst.view.WordExact} {hsem : DmaTarget.Typed (nD := nD) (τ := τ) sp sem (DmaTarget.remote (p := (.tc : Proc τ)) (Dev.tc n) dst sS hsc)}
    {k : PUnit → Prog (TpuEff nD τ sig (Elt F) Λ₀ .tc) α} {q : PosShare TreeShare} {V : s.Idx → Elt F e}
    (N : ℕ) (hN : dst.view.amount sem = N) (hk : amt x = N) (hk' : amt x' = N)
    {O₁ : CellTallies nD τ sig Unit} (O : CellTallies nD τ sig Unit) (hO : O₁ = O + tallyAt (gc c' x') () N)
    (hpay : owns (c : Thread nD τ) src q V ⊢ pay X Y c 0 0 x)
    (hpay' : owns (c' : Thread nD τ) dst fullShare V ⊢ pay X Y c' 0 0 x') :
    iprop(records X Y κ ∗ owns (c : Thread nD τ) src q V ∗ anyOf (c' : Thread nD τ) dst ∗ owing c O₁
        ∗ dutyTok ER (gc c x) 0 0 ∗ reached ER (gc c x) 0 ∗ dutyTok ER (gc c' x') 0 0 ∗ reached ER (gc c' x') 0)
      ⊢ iprop(((cred (tallyAt (gc c x) () (amt x)) ∗ owing c O) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n) dst sS hsc) sem hsrc hdst hsem) k) Q) := by
  subst hs hsS hn
  have hr0 (y : Cell) : 0 < rounds y := by cases y <;> first | exact Nat.one_pos | exact Nat.succ_pos _
  iintro ⟨#Hr, Hs, Hd, Ho, Ht, Hrr, Ht', Hrr'⟩ Hk
  unfold owing
  icases Ho with ⟨%W, Ho⟩
  iapply (wp_send_owns 𝒱₀ ER (Rd X Y) (c : Thread nD τ) none (c' := (n : Thread nD τ)) (κ₁ := κ (gc c x)) (κ₂ := κ (gc n x')) (r₁ := 0) (r₂ := 0) (d₁ := 0) (d₂ := 0)
    (by rw [duties_gc X Y c x 0 (hr0 x), dts_one hx]; exact Finset.mem_singleton_self _)
    (by rw [duties_gc X Y n x' 0 (hr0 x'), dts_one hx']; exact Finset.mem_singleton_self _) () () N hN
    ((amount_gc X Y c x 0 0).trans hk) ((amount_gc X Y n x' 0 0).trans hk') O hO
    (by rw [payload_gc]; exact hpay) (by rw [payload_gc]; exact hpay')) $$ [Hs Hd Ho Ht Hrr Ht' Hrr']
  · isplitr; · iapply (inv_at X Y κ c x); iexact Hr
    isplitr; · iapply (inv_at X Y κ n x'); iexact Hr
    isplitl [Hs]; · iexact Hs
    isplitl [Hd]; · iexact Hd
    isplitl [Ho]; · iexact Ho
    isplitl [Ht]; · iexact Ht
    isplitl [Hrr]; · iexact Hrr
    isplitl [Ht']; · iexact Ht'
    iexact Hrr'
  iintro ⟨Hc, Ho⟩
  iapply Hk
  isplitl [Hc]; · rw [hk]; iexact Hc
  iexists W; iexact Ho

/-- A signal to device `c'`'s barrier, paying its duty `d`. -/
theorem signal_cell (c' : Dev nD) (d : Fin 2) {n : Dev nD} (hn : n = c') {sem : Sem sig} (hs : sem = barrier0) {O₁ : CellTallies nD τ sig Unit} (O : CellTallies nD τ sig Unit)
    (hO : O₁ = O + tallyAt (gc c' .bar) () 1) {k : PUnit → Prog (TpuEff nD τ sig (Elt F) Λ₀ .tc) α} :
    iprop(records X Y κ ∗ owing c O₁ ∗ dutyTok ER (gc c' .bar) 0 d ∗ pay X Y c' 0 d .bar)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) sem 1) k) Q) := by
  subst hn hs
  iintro ⟨#Hr, Ho, Ht, Hp⟩ Hk
  unfold owing
  icases Ho with ⟨%W, Ho⟩
  iapply (Rounds.wp_signal 𝒱₀ ER (Rd X Y) (c : Thread nD τ) none (dst := (n : Thread nD τ)) (sem := barrier0) (r := 0) (d := d) (κ := κ (gc n .bar))
    (by rw [duties_gc X Y n .bar 0 Nat.one_pos]; exact Finset.mem_univ _) (amount_gc X Y n .bar 0 d) () O hO) $$ [Ho Ht Hp]
  · isplitr; · iapply (inv_at X Y κ n .bar); iexact Hr
    isplitl [Ho]; · iexact Ho
    isplitl [Ht]; · iexact Ht
    isplitl [Hp]; · iapply (Entails.of_eq (payload_gc X Y n .bar 0 d).symm); iexact Hp
    iapply (bar_at X Y κ n); iexact Hr
  iintro Ho
  iapply Hk
  iexists W; iexact Ho

/-- The wait at the own barrier for both signals. -/
theorem wait_bar {sem : Sem sig} (hs : sem = barrier0) {O : CellTallies nD τ sig Unit} (hO : (levAts L lv : sProp 𝕄) ⊢ MayWait (c : Thread nD τ) (enc .bar) () O)
    {k : PUnit → Prog (TpuEff nD τ sig (Elt F) Λ₀ .tc) α} :
    iprop(records X Y κ ∗ cred (tallyAt (gc c .bar) () 2) ∗ owing c O ∗ atPos ER (gc c .bar) 0 ∅ 0)
      ⊢ iprop(((owing c O ∗ atPos ER (gc c .bar) 1 ∅ 0 ∗ barY c ∗ barX c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem 2) k) Q) := by
  subst hs
  iintro ⟨#Hr, Hc, Ho, Ha⟩ Hk
  unfold owing
  icases Ho with ⟨%W, Ho⟩
  iapply (Rounds.wp_wait_rest_token 𝒱₀ ER (Rd X Y) (c : Thread nD τ) none (κ := κ (gc c .bar))
    (wpE_semWait_eq 𝒱₀ (c : Thread nD τ) none Set.univ) (Set.mem_univ _) () (O := O) (W := W) (R := 0) (m := 0) (T := ∅)
    ((Nat.zero_add _).trans (expect_bar X Y c).symm)) $$ [Hc Ho Ha]
  · isplitr; · iapply (inv_at X Y κ c .bar); iexact Hr
    isplitl [Hc]; · iexact Hc
    isplitl [Ho]; · iexact Ho
    isplitr; · iapply hO; iapply (lev_at X Y κ); iexact Hr
    iexact Ha
  iintro ⟨Ho, Ha, -, Hp⟩
  iapply Hk
  isplitl [Ho]; · iexists _; iexact Ho
  isplitl [Ha]; · iexact Ha
  iapply (Entails.of_eq (rest_bar X Y c)); iexact Hp

/-- Once its last round is over a cell's counter is back, at zero. -/
theorem close_cell (x : Cell) : iprop(records X Y κ ∗ atPos ER (gc c x) (rounds x) ∅ 0) ⊢ (|={Set.univ}=> semVal (gc c x) 0 : sProp 𝕄) := by
  iintro ⟨#Hr, Ha⟩
  iapply (Rounds.cell_close ER (Rd X Y) (κ := κ (gc c x)) (Set.mem_univ _) id (duties_later X Y c x))
  isplitr; · iapply (inv_at X Y κ c x); iexact Hr
  iexact Ha

end

end Cert.KernelIdeal.P
-- ==== Proof.KI.Ops.lean ====
/-
  The rules of the waits, copies, loads and stores of the first call, stated for a memref
  written at any offset that equals the chunk's own, and the bookkeeping of a list of chunks
  that go through three stages.
-/
module

public import Idealize.SL.BI.BigOpNat
public import proofs.«01_k».proof.Proof.KI.Sched

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

/-- The amount that a copy of the left operand pays. -/
theorem Nx_eq : mxv.view.dmaCredit = Nx := by unfold Nx; rfl
/-- The amount that a copy of a column chunk pays. -/
theorem Nd_eq : (dSq 0).view.dmaCredit = Nd := by unfold Nd; rfl
/-- The amount that a copy of a chunk of the result pays: also that of half a partial product. -/
theorem Nc_eq : (ySq 0).view.dmaCredit = Nc := by unfold Nc; rfl
/-- The amount that a copy of a block of the result pays. -/
theorem Nv_eq : (vO 0).view.dmaCredit = Nv := by unfold Nv; rfl

/-! ## Lists of chunks in three stages -/

section Stage
variable (D Fl R : ℕ → sProp (MT nD τ sig Unit (Elt F) ℕ UU ℕ))

/-- Chunks below `a` are done, those from `a` below `b` under way, the others still to come. -/
def stage (a b : ℕ) : sProp (MT nD τ sig Unit (Elt F) ℕ UU ℕ) := iprop(bigSep (Finset.Ico 0 a) D ∗ bigSep (Finset.Ico a b) Fl ∗ bigSep (Finset.Ico b 16) R)

/-- The oldest chunk under way is taken, and put back as done. -/
theorem stage_finish {a b : ℕ} (h : a < b) : stage D Fl R a b ⊢ iprop(Fl a ∗ (D a -∗ stage D Fl R (a + 1) b)) := by
  unfold stage
  rw [bigSep_Ico_succ_bot h, bigSep_Ico_succ_top (Nat.zero_le a)]
  iintro ⟨HD, ⟨HF, HFs⟩, HR⟩
  isplitl [HF]; · iexact HF
  iintro Hd
  isplitl [HD Hd]; · isplitl [Hd]; · iexact Hd
                     iexact HD
  isplitl [HFs]; · iexact HFs
  iexact HR

/-- The next chunk is taken, and put back as under way. -/
theorem stage_start {a b : ℕ} (h : a ≤ b) (hb : b < 16) : stage D Fl R a b ⊢ iprop(R b ∗ (Fl b -∗ stage D Fl R a (b + 1))) := by
  unfold stage
  rw [bigSep_Ico_succ_bot hb, bigSep_Ico_succ_top h]
  iintro ⟨HD, HF, ⟨HR, HRs⟩⟩
  isplitl [HR]; · iexact HR
  iintro Hf
  isplitl [HD]; · iexact HD
  isplitl [HF Hf]; · isplitl [Hf]; · iexact Hf
                     iexact HF
  iexact HRs

/-- Slots not yet used: the next one is taken. -/
theorem slot_take (I : ℕ → sProp (MT nD τ sig Unit (Elt F) ℕ UU ℕ)) {t : ℕ} (h : t < 2) : bigSep (Finset.Ico t 2) I ⊢ iprop(I t ∗ bigSep (Finset.Ico (t + 1) 2) I) := by
  exact Entails.of_eq (bigSep_Ico_succ_bot h I)

/-- Once both slots are in use none is left. -/
theorem slot_none (I : ℕ → sProp (MT nD τ sig Unit (Elt F) ℕ UU ℕ)) {t : ℕ} (h : ¬ t < 2) : bigSep (Finset.Ico t 2) I ⊢ bigSep (Finset.Ico (t + 1) 2) I := by
  rw [Finset.Ico_eq_empty_of_le (by omega), Finset.Ico_eq_empty_of_le (by omega)]
end Stage

/-! ## Loads and stores at an offset -/

section
variable (c : Dev nD) {α : Type} {Q : α → sProp (MT nD τ sig Unit (Elt F) ℕ UU ℕ)}

/-- A load of a rectangle that is held, the offset given in another form: it yields the contents. -/
theorem load_at {cs : CoreSpace} {s : Shape} {e : EltTy} (m : Memref sig .tc cs s e) {off off' : Fin s.rank → ℕ} {size : Fin s.rank → ℕ}
    {inb : ∀ a, off a + size a ≤ s.size a} {inb' : ∀ a, off' a + size a ≤ s.size a} (h : off = off')
    {hl : m.view.LoadsAt (Rect.unit (s := s) off size inb)}
    {k : ((Rect.unit (s := s) off size inb).shape.Idx → Elt F e) → Prog (TpuEff nD τ sig (Elt F) Λ₀ .tc) α} {q : PosShare TreeShare}
    (V : (Rect.unit (s := s) off size inb).shape.Idx → Elt F e) :
    owns (c : Thread nD τ) (m.slice (Rect.unit (s := s) off' size inb') (fun _ => rfl)) q V
      ⊢ iprop((owns (c : Thread nD τ) (m.slice (Rect.unit (s := s) off' size inb') (fun _ => rfl)) q V -∗ wp frame (wpE (defs₀ (F := F)) 𝒱₀ (c : Thread nD τ) none) Set.univ (k V) Q)
        -∗ wp frame (wpE (defs₀ (F := F)) 𝒱₀ (c : Thread nD τ) none) Set.univ (.op (.load m (Rect.unit (s := s) off size inb).toLoadRect hl) k) Q) := by
  subst h
  exact wp_load_owns 𝒱₀ (c : Thread nD τ) none (fun _ => rfl) V

/-- A store of a whole rectangle that is held, the offset given in another form: it leaves what was stored. -/
theorem store_at {cs : CoreSpace} {s : Shape} {e : EltTy} (m : Memref sig .tc cs s e) {off off' : Fin s.rank → ℕ} {size : Fin s.rank → ℕ}
    {inb : ∀ a, off a + size a ≤ s.size a} {inb' : ∀ a, off' a + size a ≤ s.size a} (h : off = off')
    {w : (Rect.unit (s := s) off size inb).shape.Idx → Elt F e}
    {hx : (m.access (Rect.unit (s := s) off size inb)).Stores Finset.univ}
    {hm : (Finset.univ : Finset (Rect.unit (s := s) off size inb).shape.Idx) = Finset.univ ∨ ∀ a, (Rect.unit (s := s) off size inb).stride a = 1}
    {k : PUnit → Prog (TpuEff nD τ sig (Elt F) Λ₀ .tc) α} :
    anyOf (c : Thread nD τ) (m.slice (Rect.unit (s := s) off' size inb') (fun _ => rfl))
      ⊢ iprop((owns (c : Thread nD τ) (m.slice (Rect.unit (s := s) off' size inb') (fun _ => rfl)) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit (s := s) off size inb) w Finset.univ hx hm) k) Q) := by
  subst h
  exact wp_store_owns 𝒱₀ (c : Thread nD τ) none (fun _ => rfl)
end

/-! ## Copies and waits at an offset -/

section
variable (X : Dev nD → Vec F S2048x2048 .f32) (Y : Dev nD → Vec F S2048x8192 .f32)
variable (κ : GSem nD τ sig → ℕ) (c : Dev nD)
variable {α : Type} {Q : α → sProp (MT nD τ sig Unit (Elt F) ℕ UU ℕ)}

/-- A cell the first copy has been issued for, or the next: its position and the right to wait. -/
def fl (x : Cell) (R : ℕ) : sProp (MT nD τ sig Unit (Elt F) ℕ UU ℕ) := iprop(atPos ER (gc c x) R ∅ 0 ∗ cred (tallyAt (gc c x) () (amt x)))
/-- A cell at rest at round `R`. -/
def idle (x : Cell) (R : ℕ) : sProp (MT nD τ sig Unit (Elt F) ℕ UU ℕ) := iprop(atPos ER (gc c x) R ∅ 0 ∗ reached ER (gc c x) R)

/-- A copy at a cell of the device at rest. -/
theorem copy_at (x : Cell) (R : ℕ) (hx : x ≠ .bar) (hR : R < rounds x) {sem : SemLoc sig} (hs : sem = enc x)
    {sp sp' : Space} {s : Shape} {e : EltTy}
    {src : Memref sig .tc sp s e} {dst : Memref sig .tc sp' s e} {src' : Memref sig .tc sp s e} {dst' : Memref sig .tc sp' s e}
    (hs₁ : src = src') (hd₁ : dst = dst')
    {hsrc : src.view.WordExact} {hdst : dst.view.WordExact} {hsem : DmaTarget.Typed (nD := nD) (τ := τ) sp sem (DmaTarget.here (nD := nD) (p := (.tc : Proc τ)) dst)}
    {k : PUnit → Prog (TpuEff nD τ sig (Elt F) Λ₀ .tc) α} (q : PosShare TreeShare) (V : s.Idx → Elt F e)
    (hN : dst'.view.amount sem = amt x)
    (hpay : iprop(owns (c : Thread nD τ) dst' fullShare V ∗ owns (c : Thread nD τ) src' q V) ⊢ pay X Y c R 0 x) :
    iprop(records X Y κ ∗ owns (c : Thread nD τ) src' q V ∗ anyOf (c : Thread nD τ) dst' ∗ dutyTok ER (gc c x) R 0 ∗ idle (F := F) c x R)
      ⊢ iprop((fl (F := F) c x R -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) sem hsrc hdst hsem) k) Q) := by
  subst hs₁ hd₁
  unfold idle fl
  iintro ⟨#Hr, Hs, Hd, Ht, ⟨Ha, Hrr⟩⟩ Hk
  iapply (copy_cell X Y κ c x R hx hR hs hN hpay) $$ [Hs Hd Ht Hrr]
  · isplitr; · iexact Hr
    isplitl [Hs]; · iexact Hs
    isplitl [Hd]; · iexact Hd
    isplitl [Ht]; · iexact Ht
    iexact Hrr
  iintro Hc
  iapply Hk
  isplitl [Ha]; · iexact Ha
  iexact Hc

/-- A copy to device `c'` at a cell of the device at rest. -/
theorem send_at (c' : Dev nD) (x x' : Cell) (hx : x ≠ .bar) (hx' : x' ≠ .bar) {n : Dev nD} (hn : n = c') {sS sem : SemLoc sig} (hsS : sS = enc x) (hs : sem = enc x')
    {sp sp' : Space} {s : Shape} {e : EltTy}
    {src : Memref sig .tc sp s e} {dst : Memref sig .tc sp' s e} {src' : Memref sig .tc sp s e} {dst' : Memref sig .tc sp' s e}
    (hs₁ : src = src') (hd₁ : dst = dst') {hsc : dst.view.ref.isScScratch = false}
    {hsrc : src.view.WordExact} {hdst : dst.view.WordExact} {hsem : DmaTarget.Typed (nD := nD) (τ := τ) sp sem (DmaTarget.remote (p := (.tc : Proc τ)) (Dev.tc n) dst sS hsc)}
    {k : PUnit → Prog (TpuEff nD τ sig (Elt F) Λ₀ .tc) α} (q : PosShare TreeShare) (V : s.Idx → Elt F e)
    (N : ℕ) (hN : dst'.view.amount sem = N) (hk : amt x = N) (hk' : amt x' = N)
    {O₁ : CellTallies nD τ sig Unit} (O : CellTallies nD τ sig Unit) (hO : O₁ = O + tallyAt (gc c' x') () N)
    (hpay : owns (c : Thread nD τ) src' q V ⊢ pay X Y c 0 0 x)
    (hpay' : owns (c' : Thread nD τ) dst' fullShare V ⊢ pay X Y c' 0 0 x') :
    iprop(records X Y κ ∗ owns (c : Thread nD τ) src' q V ∗ anyOf (c' : Thread nD τ) dst' ∗ owing (F := F) c O₁
        ∗ dutyTok ER (gc c x) 0 0 ∗ idle (F := F) c x 0 ∗ dutyTok ER (gc c' x') 0 0 ∗ reached ER (gc c' x') 0)
      ⊢ iprop(((fl (F := F) c x 0 ∗ owing (F := F) c O) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n) dst sS hsc) sem hsrc hdst hsem) k) Q) := by
  subst hs₁ hd₁
  unfold idle fl
  iintro ⟨#Hr, Hs, Hd, Ho, Ht, ⟨Ha, Hrr⟩, Ht', Hrr'⟩ Hk
  iapply (send_cell X Y κ c c' x x' hx hx' hn hsS hs N hN hk hk' O hO hpay hpay') $$ [Hs Hd Ho Ht Hrr Ht' Hrr']
  · isplitr; · iexact Hr
    isplitl [Hs]; · iexact Hs
    isplitl [Hd]; · iexact Hd
    isplitl [Ho]; · iexact Ho
    isplitl [Ht]; · iexact Ht
    isplitl [Hrr]; · iexact Hrr
    isplitl [Ht']; · iexact Ht'
    iexact Hrr'
  iintro ⟨Hc, Ho⟩
  iapply Hk
  isplitl [Ha Hc]
  · isplitl [Ha]; · iexact Ha
    iexact Hc
  iexact Ho

/-- A wait for a landing at a cell with a copy under way. -/
theorem wait_at (x : Cell) (R : ℕ) (hx : x ≠ .bar) (hR : R < rounds x) (i : Fin sig.nDmaSem) (hs : SemLoc.dma i = enc x)
    {sp sp' : Space} {s : Shape} {e : EltTy} {src : Memref sig .tc sp s e} {dst : Memref sig .tc sp' s e}
    {hsrc : src.view.WordExact} {hdst : dst.view.WordExact} (hk : dst.view.dmaCredit = amt x)
    (t u : ℕ) (h : lvc x < 2 + t) (h' : lvc x < 100)
    {k : PUnit → Prog (TpuEff nD τ sig (Elt F) Λ₀ .tc) α} :
    iprop(records X Y κ ∗ fl (F := F) c x R ∗ owing (F := F) c (Oyx c t u))
      ⊢ iprop(((owing (F := F) c (Oyx c t u) ∗ idle (F := F) c x (R + 1) ∗ pay X Y c R 0 x)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 i src dst hsrc hdst) k) Q) := by
  unfold fl idle
  iintro ⟨#Hr, ⟨Ha, Hc⟩, Ho⟩ Hk
  iapply (wait_cell X Y κ c x R hx hR hs (wpE_waitDma2_eq 𝒱₀ (c : Thread nD τ) none Set.univ) hk (mayWait c x t u h h')) $$ [Ha Hc Ho]
  · isplitr; · iexact Hr
    isplitl [Hc]; · iexact Hc
    isplitl [Ho]; · iexact Ho
    iexact Ha
  iintro ⟨Ho, Ha, Hrr, Hp⟩
  iapply Hk
  isplitl [Ho]; · iexact Ho
  isplitl [Ha Hrr]
  · isplitl [Ha]; · iexact Ha
    iexact Hrr
  iexact Hp

end

end Cert.KernelIdeal.P
-- ==== Proof.KI.State.lean ====
/-
  What device `c` holds between two steps of the first call.
-/
module

public import proofs.«01_k».proof.Proof.KI.Ops

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (c : Dev nD)

/-! ## Sending halves of partial products -/

/-- A send over: the cell is past its round. -/
abbrev ysD (k : ℕ) : sProp (MT nD τ sig Unit (Elt F) ℕ UU ℕ) := atPos ER (gc c (.ys (f16 k))) 1 ∅ 0
/-- A send under way. -/
abbrev ysF (k : ℕ) : sProp (MT nD τ sig Unit (Elt F) ℕ UU ℕ) := fl c (.ys (f16 k)) 0
/-- A send to come: the rights to pay the two rounds, and the neighbour's slot. -/
abbrev ysR (k : ℕ) : sProp (MT nD τ sig Unit (Elt F) ℕ UU ℕ) :=
  iprop(dutyTok ER (gc c (.ys (f16 k))) 0 0 ∗ idle c (.ys (f16 k)) 0 ∗ dutyTok ER (gc (ynb c) (.yr (f16 k))) 0 0
    ∗ reached ER (gc (ynb c) (.yr (f16 k))) 0 ∗ anyOf (ynb c : Thread nD τ) (ySq (f16 k)))
/-- The sends along the second axis: over below `a`, under way below `b`, to come from there on. -/
abbrev ysS (a b : ℕ) : sProp (MT nD τ sig Unit (Elt F) ℕ UU ℕ) := stage (ysD c) (ysF c) (ysR c) a b

/-- The half of slot `t` sent to the neighbour, free. -/
abbrev theirs (t : ℕ) : sProp (MT nD τ sig Unit (Elt F) ℕ UU ℕ) := anyOf (c : Thread nD τ) (pH (f2 t) (yb (ynb c)))
/-- The half of slot `t` kept, free. -/
abbrev mine (t : ℕ) : sProp (MT nD τ sig Unit (Elt F) ℕ UU ℕ) := anyOf (c : Thread nD τ) (pH (f2 t) (yb c))
/-- The slots' halves for the neighbour that no send has used yet. -/
abbrev theirsS (t : ℕ) : sProp (MT nD τ sig Unit (Elt F) ℕ UU ℕ) := bigSep (Finset.Ico t 2) (theirs c)
/-- The half kept of the previous trip's partial product. -/
def prev (t : ℕ) : sProp (MT nD τ sig Unit (Elt F) ℕ UU ℕ) :=
  if t = 0 then mine c 1 else owns (c : Thread nD τ) (pH (f2 (t - 1)) (yb c)) fullShare (rowsOf (yb c) (part X Y c (f16 (t - 1))))

/-! ## Receiving halves -/

/-- A half received and read. -/
abbrev yrD (k : ℕ) : sProp (MT nD τ sig Unit (Elt F) ℕ UU ℕ) := iprop(atPos ER (gc c (.yr (f16 k))) 1 ∅ 0 ∗ anyOf (c : Thread nD τ) (yS (f16 k)))
/-- A half still to arrive. -/
abbrev yrR (k : ℕ) : sProp (MT nD τ sig Unit (Elt F) ℕ UU ℕ) := fl c (.yr (f16 k)) 0
/-- The halves to receive: read below `a`, to arrive from there on. -/
abbrev yrS (a : ℕ) : sProp (MT nD τ sig Unit (Elt F) ℕ UU ℕ) := stage (yrD c) (yrR c) (yrR c) a a

/-! ## Chunks of the result -/

/-- A chunk of the result written, here and at the neighbour. -/
abbrev oD (k : ℕ) : sProp (MT nD τ sig Unit (Elt F) ℕ UU ℕ) :=
  iprop(atPos ER (gc c (.xs (f16 k))) 1 ∅ 0 ∗ owns (c : Thread nD τ) (oW (xh c) (f16 k)) fullShare (red2 X Y c (f16 k)))
/-- A chunk of the result on its way, to both places. -/
abbrev oF (k : ℕ) : sProp (MT nD τ sig Unit (Elt F) ℕ UU ℕ) := iprop(fl c (.xs (f16 k)) 0 ∗ fl c (.out (f2 k)) (k / 2))
/-- A chunk of the result to come: the rights to pay its rounds, and its columns here and at the neighbour. -/
abbrev oR' (k : ℕ) : sProp (MT nD τ sig Unit (Elt F) ℕ UU ℕ) :=
  iprop(dutyTok ER (gc c (.xs (f16 k))) 0 0 ∗ idle c (.xs (f16 k)) 0 ∗ dutyTok ER (gc (xnb c) (.xr (f16 k))) 0 0
    ∗ reached ER (gc (xnb c) (.xr (f16 k))) 0 ∗ anyOf (xnb c : Thread nD τ) (oW (xh c) (f16 k))
    ∗ dutyTok ER (gc c (.out (f2 k))) (k / 2) 0 ∗ anyOf (c : Thread nD τ) (oW (xh c) (f16 k)))
/-- The chunks of the result: written below `a`, on their way below `b`, to come from there on. -/
abbrev oS (a b : ℕ) : sProp (MT nD τ sig Unit (Elt F) ℕ UU ℕ) := stage (oD X Y c) (oF c) (oR' c) a b
/-- The slot a chunk of the result is formed in, free. -/
abbrev free (k : ℕ) : sProp (MT nD τ sig Unit (Elt F) ℕ UU ℕ) := iprop(idle c (.out (f2 k)) (k / 2) ∗ anyOf (c : Thread nD τ) (rS (f2 k)))
/-- The slots of reduced chunks that are not used yet. -/
abbrev freeS (k : ℕ) : sProp (MT nD τ sig Unit (Elt F) ℕ UU ℕ) := bigSep (Finset.Ico k 2) (free c)

/-! ## The operands -/

/-- The slot chunk `t` of `arg1` goes to, free. -/
abbrev dyI (t : ℕ) : sProp (MT nD τ sig Unit (Elt F) ℕ UU ℕ) := iprop(idle c (.dy (f2 t)) (t / 2) ∗ anyOf (c : Thread nD τ) (dS (f2 t)))
/-- Chunk `t` of the right operand on its way into its slot, or past the last one the slot free. -/
def dyC (t : ℕ) : sProp (MT nD τ sig Unit (Elt F) ℕ UU ℕ) := if t < 16 then fl c (.dy (f2 t)) (t / 2) else dyI c t
/-- The columns of a chunk that is loaded, held again. -/
abbrev dyD (k : ℕ) : sProp (MT nD τ sig Unit (Elt F) ℕ UU ℕ) := owns (c : Thread nD τ) (dyW (xh c) (f16 k)) fullShare (chunk Y c (f16 k))
/-- The columns of a chunk that is to be loaded, and the right to pay for it. -/
abbrev dyR' (k : ℕ) : sProp (MT nD τ sig Unit (Elt F) ℕ UU ℕ) :=
  iprop(dutyTok ER (gc c (.dy (f2 k))) (k / 2) 0 ∗ owns (c : Thread nD τ) (dyW (xh c) (f16 k)) fullShare (chunk Y c (f16 k)))
/-- The chunks of the right operand: loaded below `a`, to be loaded from `b` on. -/
abbrev dyS (a b : ℕ) : sProp (MT nD τ sig Unit (Elt F) ℕ UU ℕ) := stage (dyD Y c) (fun _ => iprop(emp)) (dyR' Y c) a b
/-- The left operand loaded. -/
abbrev xD : sProp (MT nD τ sig Unit (Elt F) ℕ UU ℕ) :=
  iprop(atPos ER (gc c .x) 1 ∅ 0 ∗ owns (c : Thread nD τ) mxv fullShare (X c) ∗ owns (c : Thread nD τ) mx fullShare (X c))
/-- The left operand on its way before the first trip, loaded afterwards. -/
def xS (t : ℕ) : sProp (MT nD τ sig Unit (Elt F) ℕ UU ℕ) := if t = 0 then fl c .x 0 else xD X c

/-- What the device holds when trip `t` begins. -/
def inv (t : ℕ) : sProp (MT nD τ sig Unit (Elt F) ℕ UU ℕ) :=
  iprop(owing c (Oyx c t (t - 1)) ∗ xS X c t ∗ (dyC c t ∗ dyI c (t + 1) ∗ dyS Y c t (t + 1))
    ∗ (ysS c (t - 2) t ∗ theirsS c t ∗ mine c t ∗ prev X Y c t)
    ∗ yrS c (t - 1) ∗ (oS X Y c (t - 3) (t - 1) ∗ freeS c (t - 1)))

end Cert.KernelIdeal.P
-- ==== Proof.KI.Geo.lean ====
/-
  The buffers of the first call cut into the pieces the copies move.
-/
module

public import proofs.«01_k».proof.Proof.KI.State
public import Idealize.ShloMosaic.Lib.Pipeline.Value

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

/-! ## Slots and their squeezed forms -/

/-- Adding the leading unit axis and dropping it again gives the chunk back. -/
theorem chunk_cast (k : Fin 16) : shapeCast S2048x256 (chunk3 Y c k) shapeCasts_S1x2048x256_S2048x256 = chunk Y c k :=
  shapeCast_shapeCast _ _ _

/-- A chunk of columns in its slot. -/
theorem owns_dSq (b : Fin 2) (k : Fin 16) : (owns (c : Thread nD τ) (dSq b) fullShare (chunk Y c k) : sProp 𝕄) = owns (c : Thread nD τ) (dS b) fullShare (chunk3 Y c k) := by
  rw [← chunk_cast]; exact owns_squeeze (c : Thread nD τ) (dS b) _ _ _ _
/-- A column slot at unknown contents, with or without its unit axis. -/
theorem any_dSq (b : Fin 2) : (anyOf (c : Thread nD τ) (dSq b) : sProp 𝕄) = anyOf (c : Thread nD τ) (dS b) :=
  anyOf_squeeze (c : Thread nD τ) (dS b) _ shapeCasts_S1x2048x256_S2048x256 shapeCasts_S2048x256_S1x2048x256
/-- Half a slot of partial products at unknown contents, with or without its unit axis. -/
theorem any_pHq (b h : Fin 2) : (anyOf (c : Thread nD τ) (pHq b h) : sProp 𝕄) = anyOf (c : Thread nD τ) (pH b h) :=
  anyOf_squeeze (c : Thread nD τ) (pH b h) _ shapeCasts_S1x1024x256_S1024x256 shapeCasts_S1024x256_S1x1024x256
/-- A receive slot at unknown contents, with or without its unit axis. -/
theorem any_ySq (k : Fin 16) : (anyOf (c : Thread nD τ) (ySq k) : sProp 𝕄) = anyOf (c : Thread nD τ) (yS k) :=
  anyOf_squeeze (c : Thread nD τ) (yS k) _ shapeCasts_S1x1024x256_S1024x256 shapeCasts_S1024x256_S1x1024x256
/-- A chunk of the result in the slot it is formed in. -/
theorem owns_rSq (b : Fin 2) (k : Fin 16) (q : PosShare TreeShare) : (owns (c : Thread nD τ) (rSq b) q (red2 X Y c k) : sProp 𝕄) = owns (c : Thread nD τ) (rS b) q (red X Y c k) :=
  owns_squeeze (c : Thread nD τ) (rS b) _ _ _ _
/-- Both shares of a slot back: it is free. -/
theorem any_rS (b : Fin 2) (k : Fin 16) : iprop(owns (c : Thread nD τ) (rSq b) lh (red2 X Y c k) ∗ owns (c : Thread nD τ) (rSq b) rh (red2 X Y c k)) ⊢ (anyOf (c : Thread nD τ) (rS b) : sProp 𝕄) := by
  refine (owns_halves (c : Thread nD τ) (rSq b) fullShare (red2 X Y c k)).2.trans ?_
  rw [owns_rSq]
  exact any_intro (c : Thread nD τ) (rS b) _

/-! ## The two halves of a partial product -/

/-- The two row halves of a slot are disjoint. -/
theorem half_disj (b : Fin 2) (h h' : Fin 2) (hh : h ≠ h') : Disjoint (hR b h).set (hR b h').set :=
  unit_disjoint (sh := S2x2048x256) (fun h : Fin 2 => ![b.val, 1024 * h.val, 0]) S1x1024x256.size _
    (fun y => ⟨(y 1).val / 1024, by have : (y 1).val < 2048 := (y 1).isLt; omega⟩)
    (fun h y hy => by
      have := hy 1
      have this : 1024 * h.val ≤ (y 1).val ∧ (y 1).val < 1024 * h.val + 1024 := this
      apply Fin.ext; show h.val = (y 1).val / 1024; omega) h h' hh

/-- The two row halves of a slot make up the slot. -/
theorem half_cover (b : Fin 2) : (Finset.univ : Finset (Fin 2)).biUnion (fun h => (hR b h).set) = (sR b).set := by
  ext y
  simp only [Finset.mem_biUnion, Finset.mem_univ, true_and]
  constructor
  · rintro ⟨h, hy⟩
    rw [Rect.mem_set_unit] at hy ⊢
    intro a
    have hh := h.isLt
    fin_cases a
    · exact hy 0
    · have := hy 1
      have this : 1024 * h.val ≤ (y 1).val ∧ (y 1).val < 1024 * h.val + 1024 := this
      show 0 ≤ (y 1).val ∧ (y 1).val < 0 + 2048
      omega
    · exact hy 2
  · intro hy
    refine ⟨⟨(y 1).val / 1024, by have : (y 1).val < 2048 := (y 1).isLt; omega⟩, ?_⟩
    rw [Rect.mem_set_unit] at hy ⊢
    intro a
    fin_cases a
    · exact hy 0
    · have := (y 1).isLt
      show 1024 * ((y 1).val / 1024) ≤ (y 1).val ∧ (y 1).val < 1024 * ((y 1).val / 1024) + 1024
      omega
    · exact hy 2

/-- A product over the two row halves is the one kept and the one sent. -/
theorem two_yb (Φ : Fin 2 → sProp (MT nD τ sig Unit (Elt F) ℕ UU ℕ)) : bigSep Finset.univ Φ = iprop(Φ (yb c) ∗ Φ (yb (ynb c))) := by
  have h : (Finset.univ : Finset (Fin 2)) = {yb c, yb (ynb c)} := by revert c; decide
  have hn : yb c ∉ ({yb (ynb c)} : Finset (Fin 2)) := by revert c; decide
  rw [h, bigSep_insert hn, bigSep_singleton]; rfl

/-- A slot of a partial product is its two halves, the one kept and the one sent. -/
theorem owns_pS (b : Fin 2) (V : Vec F S1x2048x256 .f32) : (owns (c : Thread nD τ) (pS b) fullShare V : sProp 𝕄)
    = iprop(owns (c : Thread nD τ) (pH b (yb c)) fullShare (rowsOf (yb c) V) ∗ owns (c : Thread nD τ) (pH b (yb (ynb c))) fullShare (rowsOf (yb (ynb c)) V)) := by
  rw [← two_yb c (fun h => owns (c : Thread nD τ) (pH b h) fullShare (rowsOf h V))]
  refine owns_parts (c : Thread nD τ) mp fullShare (sR b) (fun _ => rfl) (fun h : Fin 2 => hR b h) (fun _ _ => rfl) (half_disj b) (half_cover b) V (fun h => rowsOf h V) ?_
  intro h j i e
  unfold rowsOf
  refine congrArg V (funext fun a => Fin.ext ?_)
  have ea := congrArg (fun z : S2x2048x256.Idx => (z a).val) e
  simp only [Rect.emb_apply] at ea ⊢
  fin_cases a
  · have h0 : ((sR b).off 0) = ((hR b h).off 0) := rfl
    have : (sR b).off 0 + 1 * (i 0).val = (hR b h).off 0 + 1 * (j 0).val := ea
    show (i 0).val = 0 + 1 * (j 0).val
    omega
  · have : 0 + 1 * (i 1).val = 1024 * h.val + 1 * (j 1).val := ea
    show (i 1).val = 1024 * h.val + 1 * (j 1).val
    omega
  · have : 0 + 1 * (i 2).val = 0 + 1 * (j 2).val := ea
    show (i 2).val = 0 + 1 * (j 2).val
    omega

/-- The two halves of a slot, at unknown contents, make up the slot. -/
theorem any_pS (b : Fin 2) : iprop(anyOf (c : Thread nD τ) (pH b (yb c)) ∗ anyOf (c : Thread nD τ) (pH b (yb (ynb c)))) ⊢ (anyOf (c : Thread nD τ) (pS b) : sProp 𝕄) := by
  rw [← two_yb c (fun h => anyOf (c : Thread nD τ) (pH b h))]
  exact anyOf_parts (c : Thread nD τ) mp (sR b) (fun _ => rfl) (fun h : Fin 2 => hR b h) (fun _ _ => rfl) (half_disj b) (half_cover b)

/-! ## The left operand, whole -/

/-- Holding the left operand's buffer through the rectangle of all its indices is holding the buffer. -/
theorem owns_whole_rect {inb : ∀ a, (![0, 0] : Fin 2 → ℕ) a + S2048x2048.size a ≤ S2048x2048.size a} (V : Vec F S2048x2048 .f32) :
    (owns (c : Thread nD τ) (mxv.slice (Rect.unit (s := S2048x2048) ![0, 0] S2048x2048.size inb) (fun _ => rfl)) fullShare V : sProp 𝕄) = owns (c : Thread nD τ) mxv fullShare V := by
  have hd : ∀ t t' : Unit, t ≠ t' → Disjoint (Rect.unit (s := S2048x2048) ![0, 0] S2048x2048.size inb).set (Rect.unit (s := S2048x2048) ![0, 0] S2048x2048.size inb).set := fun t t' h => absurd rfl h
  have hcov := unit_cover (sh := S2048x2048) (fun _ : Unit => ![0, 0]) S2048x2048.size (fun _ => inb) (fun _ => ()) (fun y a => by
    fin_cases a
    · have h : (y 0).val < 2048 := (y 0).isLt
      exact ⟨Nat.zero_le _, by show (y 0).val < 0 + 2048; omega⟩
    · have h : (y 1).val < 2048 := (y 1).isLt
      exact ⟨Nat.zero_le _, by show (y 1).val < 0 + 2048; omega⟩)
  have he : (fun j => V ((Rect.unit (s := S2048x2048) ![0, 0] S2048x2048.size inb).emb j)) = V := by
    funext j
    refine congrArg V (funext fun a => Fin.ext ?_)
    rw [Rect.emb_apply]
    fin_cases a
    · show 0 + 1 * (j 0).val = (j 0).val; omega
    · show 0 + 1 * (j 1).val = (j 1).val; omega
  have h1 := owns_rects (Ix := Unit) (Name := ℕ) (U := UU) (Lvl := ℕ) (Val := Elt F) (c : Thread nD τ) mxv fullShare (fun _ : Unit => Rect.unit (s := S2048x2048) ![0, 0] S2048x2048.size inb) (fun _ _ => rfl) hd hcov V
  have h2 := owns_of_rects (Ix := Unit) (Name := ℕ) (U := UU) (Lvl := ℕ) (Val := Elt F) (c : Thread nD τ) mxv fullShare (fun _ : Unit => Rect.unit (s := S2048x2048) ![0, 0] S2048x2048.size inb) (fun _ _ => rfl) hd hcov V
  rw [Finset.univ_unique, bigSep_singleton, he] at h1 h2
  exact equiv_of h2 h1

end Cert.KernelIdeal.P
-- ==== Proof.KI.TripA.lean ====
/-
  The trips of the first call's loop: the waits at the head of a trip.
-/
module

public import proofs.«01_k».proof.Proof.KI.Geo

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

/-- Any copy of the left operand's shape pays the same amount. -/
theorem credit_x {sp : Space} (m : Memref sig .tc sp S2048x2048 .f32) : m.view.dmaCredit = Nx := Eq.trans rfl Nx_eq
/-- Any copy of a column chunk's shape pays the same amount. -/
theorem credit_d {sp : Space} (m : Memref sig .tc sp S2048x256 .f32) : m.view.dmaCredit = Nd := Eq.trans rfl Nd_eq
/-- Any copy of the shape of half a partial product pays the same amount. -/
theorem credit_c {sp : Space} (m : Memref sig .tc sp S1024x256 .f32) : m.view.dmaCredit = Nc := Eq.trans rfl Nc_eq
/-- Any copy of the shape of a block of the result pays the same amount. -/
theorem credit_v {sp : Space} (m : Memref sig .tc sp S128x8192 .f32) : m.view.dmaCredit = Nv := Eq.trans rfl Nv_eq

/-- Round `t / 2` of slot `t mod 2` is about chunk `t`. -/
theorem kOf_t (t : ℕ) (h : t < 16) : kOf (f2 t) (t / 2) = f16 t := by
  apply Fin.ext
  unfold kOf f16 f2
  simp only [Fin.val_ofNat]
  congr 1
  omega

/-- The left operand is read. -/
theorem wp_readX {α : Type} {Q : α → sProp (MT nD τ sig Unit (Elt F) ℕ UU ℕ)}
    {inb : ∀ a, (![0, 0] : Fin 2 → ℕ) a + S2048x2048.size a ≤ S2048x2048.size a} {hl} (k : Vec F S2048x2048 .f32 → Prog (TpuEff nD τ sig (Elt F) Λ₀ .tc) α) :
    xD X c ⊢ iprop((xD X c -∗ wp frame (wpE (defs₀ (F := F)) 𝒱₀ (c : Thread nD τ) none) Set.univ (k (X c)) Q)
      -∗ wp frame (wpE (defs₀ (F := F)) 𝒱₀ (c : Thread nD τ) none) Set.univ (.op (.load mxv (Rect.unit (s := S2048x2048) ![0, 0] S2048x2048.size inb).toLoadRect hl) k) Q) := by
  unfold xD
  rw [← owns_whole_rect c (inb := inb) (X c)]
  iintro ⟨Ha, Hv, Hx⟩ Hk
  iapply (load_at c mxv (inb := inb) (inb' := inb) rfl (X c)) $$ [Hv]; · iexact Hv
  iintro Hv
  iapply Hk
  isplitl [Ha]; · iexact Ha
  isplitl [Hv]; · iexact Hv
  iexact Hx

/-- What the wait for a trip's columns leaves. -/
theorem pay_dy (t : ℕ) (h : t < 16) : pay X Y c (t / 2) 0 (.dy (f2 t)) ⊢ iprop(owns (c : Thread nD τ) (dS (f2 t)) fullShare (chunk3 Y c (f16 t)) ∗ dyD Y c t) := by
  show iprop(owns (c : Thread nD τ) (dSq (f2 t)) fullShare (chunk Y c (kOf (f2 t) (t / 2))) ∗ owns (c : Thread nD τ) (dyW (xh c) (kOf (f2 t) (t / 2))) fullShare (chunk Y c (kOf (f2 t) (t / 2)))) ⊢ _
  rw [kOf_t t h, owns_dSq]
/-- What the wait for a send leaves: the slot's half that was sent, free. -/
theorem pay_ys (t : ℕ) (h : 2 ≤ t) (h' : t < 18) : pay X Y c 0 0 (.ys (f16 (t - 2))) ⊢ theirs (F := F) c t := by
  show anyOf (c : Thread nD τ) (pHq (f2 (f16 (t - 2)).val) (yb (ynb c))) ⊢ anyOf (c : Thread nD τ) (pH (f2 t) (yb (ynb c)))
  have e : f2 (f16 (t - 2)).val = f2 t := by
    rw [f16_val _ (by omega)]
    apply Fin.ext; unfold f2; simp only [Fin.val_ofNat]; omega
  rw [e, any_pHq]

/-- The waits at the head of a trip: for the trip's columns of the right operand, from the third trip on for the send
    that last used the slot, and at the first trip for the left operand, which is then read. -/
theorem wp_part4 (v11 : BitVec 32) (t : Fin k0_t1_loop.trips) (u : ℕ) :
    iprop(records X Y κ ∗ owing c (Oyx c t.val u) ∗ xS X c t.val ∗ dyC (F := F) c t.val ∗ ysS c (t.val - 2) t.val ∗ theirsS c t.val)
      ⊢ wp frame (wpE (defs₀ (F := F)) 𝒱₀ (c : Thread nD τ) none) Set.univ
          (k0_part4 mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11 c v11 0#32 1#32 t)
          (fun r => iprop(⌜r.2 = X c⌝ ∗ owing c (Oyx c t.val u) ∗ xD X c
            ∗ (idle c (.dy (f2 t.val)) (t.val / 2 + 1) ∗ owns (c : Thread nD τ) (dS (f2 t.val)) fullShare (chunk3 Y c (f16 t.val)) ∗ dyD Y c t.val)
            ∗ (ysS c (t.val - 1) t.val ∗ theirs c t.val ∗ theirsS c (t.val + 1)))) := by
  have ht := lt1 t
  have hdy : dyC (F := F) c t.val = fl c (.dy (f2 t.val)) (t.val / 2) := if_pos ht
  rw [k0_part4_eq_skeleton, hdy]
  unfold k0_part4_skel
  simp only [Prog.lift, Prog.bind_op, Prog.bind_ret, Prog.pure_eq_ret]
  by_cases h1 : 2 ≤ t.val
  · have hc1 := (cond1_iff t).mpr h1
    have hc2 : ¬ Scalar.cmpi .ne ((Scalar.extui (Scalar.cmpi .eq (Scf.iv 0#32 1#32 t) 0#32) : BitVec 32)) 0#32 = 1#1 := fun h => by have := (cond2_iff t).mp h; omega
    have hx : xS X c t.val = xD X c := if_neg (by omega)
    rw [hx]
    simp only [dif_pos hc1, dif_neg hc2]
    iintro ⟨#Hr, Ho, Hx, Hd, Hy, Hth⟩
    iapply (wait_at X Y κ c (.dy (f2 t.val)) (t.val / 2) (fun h => nomatch h) (by show _ < 8; omega) _ (sem_dy _ (off2 t) _) (credit_d _) t.val u (by show 0 < _; omega) (by show 0 < _; omega)) $$ [Ho Hd]
    · isplitr; · iexact Hr
      isplitl [Hd]; · iexact Hd
      iexact Ho
    iintro ⟨Ho, Hi, Hp⟩
    ihave Hy := (stage_finish (ysD c) (ysF c) (ysR c) (a := t.val - 2) (b := t.val) (by omega)) $$ Hy
    icases Hy with ⟨Hf, Hy⟩
    iapply (wait_at X Y κ c (.ys (f16 (t.val - 2))) 0 (fun h => nomatch h) (by show 0 < 1; omega) _ (sem_ys _ (off5 t h1) _) (credit_c _) t.val u (by show 0 < _; omega) (by show 0 < _; omega)) $$ [Ho Hf]
    · isplitr; · iexact Hr
      isplitl [Hf]; · iexact Hf
      iexact Ho
    iintro ⟨Ho, Hj, Hq⟩
    iapply (wp_readX X c) $$ [Hx]; · iexact Hx
    iintro Hx
    rw [wp_ret]
    imodintro
    isplitr; · ipureintro; rfl
    isplitl [Ho]; · iexact Ho
    isplitl [Hx]; · iexact Hx
    isplitl [Hi Hp]
    · isplitl [Hi]; · iexact Hi
      iapply (pay_dy X Y c t.val ht); iexact Hp
    isplitl [Hy Hj]
    · unfold idle
      icases Hj with ⟨Hj, -⟩
      have e : t.val - 2 + 1 = t.val - 1 := by omega
      rw [← e]
      iapply Hy; iexact Hj
    isplitl [Hq]
    · iapply (pay_ys X Y c t.val h1 (by omega)); iexact Hq
    iapply (slot_none (theirs c) (by omega)); iexact Hth
  · have hc1 : ¬ k0_cond1 t = 1#1 := fun h => h1 ((cond1_iff t).mp h)
    have e : t.val - 1 = t.val - 2 := by omega
    rw [e]
    simp only [dif_neg hc1]
    by_cases h0 : t.val = 0
    · have hc2 := (cond2_iff t).mpr h0
      have hx : xS X c t.val = fl c .x 0 := if_pos h0
      rw [hx]
      simp only [dif_pos hc2]
      iintro ⟨#Hr, Ho, Hx, Hd, Hy, Hth⟩
      iapply (wait_at X Y κ c (.dy (f2 t.val)) (t.val / 2) (fun h => nomatch h) (by show _ < 8; omega) _ (sem_dy _ (off2 t) _) (credit_d _) t.val u (by show 0 < _; omega) (by show 0 < _; omega)) $$ [Ho Hd]
      · isplitr; · iexact Hr
        isplitl [Hd]; · iexact Hd
        iexact Ho
      iintro ⟨Ho, Hi, Hp⟩
      iapply (wait_at X Y κ c .x 0 (fun h => nomatch h) (by show 0 < 1; omega) _ sem_x (credit_x _) t.val u (by show 0 < _; omega) (by show 0 < _; omega)) $$ [Ho Hx]
      · isplitr; · iexact Hr
        isplitl [Hx]; · iexact Hx
        iexact Ho
      iintro ⟨Ho, Hj, Hx⟩
      iapply (wp_readX X c) $$ [Hx Hj]
      · unfold idle
        icases Hj with ⟨Hj, -⟩
        isplitl [Hj]; · iexact Hj
        iapply (show pay X Y c 0 0 .x ⊢ iprop(owns (c : Thread nD τ) mxv fullShare (X c) ∗ owns (c : Thread nD τ) mx fullShare (X c)) from .rfl)
        iexact Hx
      iintro Hx
      rw [wp_ret]
      imodintro
      isplitr; · ipureintro; rfl
      isplitl [Ho]; · iexact Ho
      isplitl [Hx]; · iexact Hx
      isplitl [Hi Hp]
      · isplitl [Hi]; · iexact Hi
        iapply (pay_dy X Y c t.val ht); iexact Hp
      isplitl [Hy]; · iexact Hy
      iapply (slot_take (theirs c) (by omega)); iexact Hth
    · have hc2 : ¬ Scalar.cmpi .ne ((Scalar.extui (Scalar.cmpi .eq (Scf.iv 0#32 1#32 t) 0#32) : BitVec 32)) 0#32 = 1#1 := fun h => h0 ((cond2_iff t).mp h)
      have hx : xS X c t.val = xD X c := if_neg h0
      rw [hx]
      simp only [dif_neg hc2]
      iintro ⟨#Hr, Ho, Hx, Hd, Hy, Hth⟩
      iapply (wait_at X Y κ c (.dy (f2 t.val)) (t.val / 2) (fun h => nomatch h) (by show _ < 8; omega) _ (sem_dy _ (off2 t) _) (credit_d _) t.val u (by show 0 < _; omega) (by show 0 < _; omega)) $$ [Ho Hd]
      · isplitr; · iexact Hr
        isplitl [Hd]; · iexact Hd
        iexact Ho
      iintro ⟨Ho, Hi, Hp⟩
      iapply (wp_readX X c) $$ [Hx]; · iexact Hx
      iintro Hx
      rw [wp_ret]
      imodintro
      isplitr; · ipureintro; rfl
      isplitl [Ho]; · iexact Ho
      isplitl [Hx]; · iexact Hx
      isplitl [Hi Hp]
      · isplitl [Hi]; · iexact Hi
        iapply (pay_dy X Y c t.val ht); iexact Hp
      isplitl [Hy]; · iexact Hy
      iapply (slot_take (theirs c) (by omega)); iexact Hth

end Cert.KernelIdeal.P
-- ==== Proof.KI.TripB.lean ====
/-
  The trips of the first call's loop: the partial product, and the forming of the previous chunk of the result.
-/
module

public import proofs.«01_k».proof.Proof.KI.TripA

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

section
variable {α : Type} {Q : α → sProp (MT nD τ sig Unit (Elt F) ℕ UU ℕ)}
/-- A load whose value is not used. -/
theorem load_any {cs : CoreSpace} {s : Shape} {e : EltTy} (m : Memref sig .tc cs s e) {off off' : Fin s.rank → ℕ} {size : Fin s.rank → ℕ}
    {inb : ∀ a, off a + size a ≤ s.size a} {inb' : ∀ a, off' a + size a ≤ s.size a} (h : off = off')
    {hl : m.view.LoadsAt (Rect.unit (s := s) off size inb)}
    {k : ((Rect.unit (s := s) off size inb).shape.Idx → Elt F e) → Prog (TpuEff nD τ sig (Elt F) Λ₀ .tc) α} :
    anyOf (c : Thread nD τ) (m.slice (Rect.unit (s := s) off' size inb') (fun _ => rfl))
      ⊢ iprop((∀ V, (anyOf (c : Thread nD τ) (m.slice (Rect.unit (s := s) off' size inb') (fun _ => rfl)) -∗ wp frame (wpE (defs₀ (F := F)) 𝒱₀ (c : Thread nD τ) none) Set.univ (k V) Q))
        -∗ wp frame (wpE (defs₀ (F := F)) 𝒱₀ (c : Thread nD τ) none) Set.univ (.op (.load m (Rect.unit (s := s) off size inb).toLoadRect hl) k) Q) := by
  subst h
  iintro Ha Hk
  unfold anyOf
  icases Ha with ⟨%V, Ha⟩
  iapply (load_at c m (inb := inb) (inb' := inb) rfl V) $$ [Ha]; · iexact Ha
  iintro Ha
  iapply Hk
  iexists _
  iexact Ha
end

/-- What the wait for the neighbour's half leaves. -/
theorem pay_yr (k : Fin 16) : pay X Y c 0 0 (.yr k) ⊢ (owns (c : Thread nD τ) (yS k) fullShare (rowsOf (yb c) (part X Y (ynb c) k)) : sProp 𝕄) := .rfl

/-- The partial product of a trip: the slot holds both halves of it afterwards, the columns' slot is free again. -/
theorem wp_part5 (t : Fin k0_t1_loop.trips) (v : BitVec 32) :
    iprop(owns (c : Thread nD τ) (dS (f2 t.val)) fullShare (chunk3 Y c (f16 t.val)) ∗ mine (F := F) c t.val ∗ theirs (F := F) c t.val)
      ⊢ wp frame (wpE (defs₀ (F := F)) 𝒱₀ (c : Thread nD τ) none) Set.univ
          (k0_part5 mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11 t v (X c))
          (fun _ => iprop(anyOf (c : Thread nD τ) (dS (f2 t.val))
            ∗ owns (c : Thread nD τ) (pH (f2 t.val) (yb c)) fullShare (rowsOf (yb c) (part X Y c (f16 t.val)))
            ∗ owns (c : Thread nD τ) (pH (f2 t.val) (yb (ynb c))) fullShare (rowsOf (yb (ynb c)) (part X Y c (f16 t.val))))) := by
  rw [k0_part5_eq_skeleton]
  unfold k0_part5_skel
  simp only [Prog.lift, Prog.bind_op, Prog.bind_ret, Prog.pure_eq_ret]
  rw [← owns_pS]
  iintro ⟨Hd, Hm, Ht⟩
  iapply (load_at c mdb (off8 t) (chunk3 Y c (f16 t.val))) $$ [Hd]; · iexact Hd
  iintro Hd
  ihave Hp := (any_pS c (f2 t.val)) $$ [Hm Ht]
  · isplitl [Hm]; · iexact Hm
    iexact Ht
  iapply (load_any c mp (off8 t)) $$ [Hp]; · iexact Hp
  iintro %V Hp
  iapply (store_at c mp (off8 t)) $$ [Hp]; · iexact Hp
  iintro Hp
  rw [wp_ret]
  imodintro
  isplitl [Hd]; · iapply (any_intro (c : Thread nD τ) (dS (f2 t.val)) (chunk3 Y c (f16 t.val))); iexact Hd
  iexact Hp

/-- What the waits before a chunk of the result is formed leave: the slot it is formed in, free. -/
theorem pay_o (k : ℕ) (h : k < 16) :
    iprop(idle c (.out (f2 k)) (k / 2 + 1) ∗ pay X Y c (k / 2) 0 (.out (f2 k)) ∗ idle c (.xs (f16 k)) 1 ∗ pay X Y c 0 0 (.xs (f16 k)))
      ⊢ iprop(oD X Y c k ∗ free (F := F) c (k + 2)) := by
  have e2 : f2 (k + 2) = f2 k := by apply Fin.ext; unfold f2; simp only [Fin.val_ofNat]; omega
  have e3 : (k + 2) / 2 = k / 2 + 1 := by omega
  show iprop(idle c (.out (f2 k)) (k / 2 + 1)
    ∗ iprop(owns (c : Thread nD τ) (oW (xh c) (kOf (f2 k) (k / 2))) fullShare (red2 X Y c (kOf (f2 k) (k / 2))) ∗ owns (c : Thread nD τ) (rSq (f2 k)) rh (red2 X Y c (kOf (f2 k) (k / 2))))
    ∗ idle c (.xs (f16 k)) 1 ∗ owns (c : Thread nD τ) (rSq (f2 (f16 k).val)) lh (red2 X Y c (f16 k)))
    ⊢ iprop(iprop(atPos ER (gc c (.xs (f16 k))) 1 ∅ 0 ∗ owns (c : Thread nD τ) (oW (xh c) (f16 k)) fullShare (red2 X Y c (f16 k))) ∗ iprop(idle c (.out (f2 (k + 2))) ((k + 2) / 2) ∗ anyOf (c : Thread nD τ) (rS (f2 (k + 2)))))
  rw [kOf_t k (by omega), f16_val k (by omega), e2, e3]
  iintro ⟨Hi, ⟨Ho, Hr⟩, Hj, Hl⟩
  unfold idle
  icases Hj with ⟨Hj, -⟩
  isplitl [Hj Ho]
  · isplitl [Hj]; · iexact Hj
    iexact Ho
  isplitl [Hi]; · iexact Hi
  iapply (any_rS X Y c (f2 k) (f16 k))
  isplitl [Hl]; · iexact Hl
  iexact Hr

/-- The waits before a chunk of the result is formed: for the copies that last used its slot, from the third chunk on, and
    for the neighbour's half. -/
theorem wp_part2 (v2 v6 v11 v15 : BitVec 32) (t : Fin k0_t1_loop.trips) (h4 : k0_cond4 t = 1#1) (s : ℕ) (hs : t.val ≤ s) :
    iprop(records X Y κ ∗ owing c (Oyx c s (t.val - 1)) ∗ oS X Y c (t.val - 3) (t.val - 1) ∗ freeS c (t.val - 1) ∗ yrR (F := F) c (t.val - 1))
      ⊢ wp frame (wpE (defs₀ (F := F)) 𝒱₀ (c : Thread nD τ) none) Set.univ
          (k0_part2 mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11 c v2 v6 v11 t v15 h4)
          (fun _ => iprop(owing c (Oyx c s (t.val - 1)) ∗ oS X Y c (t.val - 2) (t.val - 1) ∗ free c (t.val - 1) ∗ freeS c t.val
            ∗ atPos ER (gc c (.yr (f16 (t.val - 1)))) 1 ∅ 0 ∗ owns (c : Thread nD τ) (yS (f16 (t.val - 1))) fullShare (rowsOf (yb c) (part X Y (ynb c) (f16 (t.val - 1)))))) := by
  have ht := lt1 t
  have ht1 := (cond4_iff t).mp h4
  have hlv : lvc (.yr (f16 (t.val - 1))) < 2 + s := by show 2 + (f16 (t.val - 1)).val < _; rw [f16_val _ (by omega)]; omega
  have hlv' : lvc (.yr (f16 (t.val - 1))) < 100 := by show 2 + (f16 (t.val - 1)).val < _; omega
  rw [k0_part2_eq_skeleton]
  unfold k0_part2_skel
  by_cases h1 : 3 ≤ t.val
  · have hc := (cond5_iff t).mpr h1
    simp only [dif_pos hc]
    rw [k0_part1_eq_skeleton]
    unfold k0_part1_skel
    simp only [Prog.lift, Prog.bind_op, Prog.bind_ret, Prog.pure_eq_ret]
    iintro ⟨#Hr, Ho, Hs, Hf, Hy⟩
    ihave Hs := (stage_finish (oD X Y c) (oF c) (oR' c) (a := t.val - 3) (b := t.val - 1) (by omega)) $$ Hs
    icases Hs with ⟨⟨Hfx, Hfo⟩, Hs⟩
    iapply (wait_at X Y κ c (.out (f2 (t.val - 3))) ((t.val - 3) / 2) (fun h => nomatch h) (by show _ < 8; omega) _ (sem_out _ (off15 t h1) _) (credit_c _) s (t.val - 1) (by show 0 < _; omega) (by show 0 < _; omega)) $$ [Ho Hfo]
    · isplitr; · iexact Hr
      isplitl [Hfo]; · iexact Hfo
      iexact Ho
    iintro ⟨Ho, Hi, Hp⟩
    iapply (wait_at X Y κ c (.xs (f16 (t.val - 3))) 0 (fun h => nomatch h) (by show 0 < 1; omega) _ (sem_xs _ (off18 t h1) _) (credit_c _) s (t.val - 1) (by show 0 < _; omega) (by show 0 < _; omega)) $$ [Ho Hfx]
    · isplitr; · iexact Hr
      isplitl [Hfx]; · iexact Hfx
      iexact Ho
    iintro ⟨Ho, Hj, Hq⟩
    iapply (wait_at X Y κ c (.yr (f16 (t.val - 1))) 0 (fun h => nomatch h) (by show 0 < 1; omega) _ (sem_yr _ (off19 t ht1) _) (credit_c _) s (t.val - 1) hlv hlv') $$ [Ho Hy]
    · isplitr; · iexact Hr
      isplitl [Hy]; · iexact Hy
      iexact Ho
    iintro ⟨Ho, Hy, Hyp⟩
    rw [wp_ret]
    imodintro
    ihave Hn := (pay_o X Y c (t.val - 3) (by omega)) $$ [Hi Hp Hj Hq]
    · isplitl [Hi]; · iexact Hi
      isplitl [Hp]; · iexact Hp
      isplitl [Hj]; · iexact Hj
      iexact Hq
    icases Hn with ⟨Hd, Hn⟩
    have e1 : t.val - 3 + 1 = t.val - 2 := by omega
    have e2 : t.val - 3 + 2 = t.val - 1 := by omega
    rw [e1, e2]
    isplitl [Ho]; · iexact Ho
    isplitl [Hs Hd]; · iapply Hs; iexact Hd
    isplitl [Hn]; · iexact Hn
    isplitl [Hf]
    · have e3 : t.val - 1 + 1 = t.val := by omega
      ihave Hf := (slot_none (free c) (t := t.val - 1) (by omega)) $$ Hf
      rw [e3]; iexact Hf
    unfold idle
    icases Hy with ⟨Hy, -⟩
    isplitl [Hy]; · iexact Hy
    iapply (pay_yr X Y c); iexact Hyp
  · have hc : ¬ k0_cond5 t = 1#1 := fun h => h1 ((cond5_iff t).mp h)
    have e : t.val - 2 = t.val - 3 := by omega
    rw [e]
    simp only [dif_neg hc, Prog.lift, Prog.bind_op, Prog.bind_ret, Prog.pure_eq_ret]
    iintro ⟨#Hr, Ho, Hs, Hf, Hy⟩
    iapply (wait_at X Y κ c (.yr (f16 (t.val - 1))) 0 (fun h => nomatch h) (by show 0 < 1; omega) _ (sem_yr _ (off19 t ht1) _) (credit_c _) s (t.val - 1) hlv hlv') $$ [Ho Hy]
    · isplitr; · iexact Hr
      isplitl [Hy]; · iexact Hy
      iexact Ho
    iintro ⟨Ho, Hy, Hyp⟩
    rw [wp_ret]
    imodintro
    isplitl [Ho]; · iexact Ho
    isplitl [Hs]; · iexact Hs
    ihave Hf := (slot_take (free c) (t := t.val - 1) (by omega)) $$ Hf
    icases Hf with ⟨Hn, Hf⟩
    isplitl [Hn]; · iexact Hn
    isplitl [Hf]
    · have e3 : t.val - 1 + 1 = t.val := by omega
      rw [e3]; iexact Hf
    unfold idle
    icases Hy with ⟨Hy, -⟩
    isplitl [Hy]; · iexact Hy
    iapply (pay_yr X Y c); iexact Hyp

/-- A chunk of the result is formed: the sum of the half kept and the half received. -/
theorem wp_part3 (v5 v7 v8 v11 w : BitVec 32) (t : Fin k0_t1_loop.trips) (h4 : k0_cond4 t = 1#1) :
    iprop((owns (c : Thread nD τ) (pH (f2 (t.val - 1)) (yb c)) fullShare (rowsOf (yb c) (part X Y c (f16 (t.val - 1)))) : sProp 𝕄)
        ∗ owns (c : Thread nD τ) (yS (f16 (t.val - 1))) fullShare (rowsOf (yb c) (part X Y (ynb c) (f16 (t.val - 1))))
        ∗ anyOf (c : Thread nD τ) (rS (f2 (t.val - 1))))
      ⊢ wp frame (wpE (defs₀ (F := F)) 𝒱₀ (c : Thread nD τ) none) Set.univ
          (k0_part3 mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11 c v5 v7 v8 v11 t h4 w)
          (fun _ => iprop(anyOf (c : Thread nD τ) (pH (f2 (t.val - 1)) (yb c)) ∗ anyOf (c : Thread nD τ) (yS (f16 (t.val - 1)))
            ∗ owns (c : Thread nD τ) (rS (f2 (t.val - 1))) fullShare (red X Y c (f16 (t.val - 1))))) := by
  have ht1 := (cond4_iff t).mp h4
  rw [k0_part3_eq_skeleton]
  unfold k0_part3_skel
  simp only [Prog.lift, Prog.bind_op, Prog.bind_ret, Prog.pure_eq_ret]
  iintro ⟨Hm, Hy, Hr⟩
  iapply (load_at c mp (off22 c t ht1) (rowsOf (yb c) (part X Y c (f16 (t.val - 1))))) $$ [Hm]; · iexact Hm
  iintro Hm
  iapply (load_at c my (off23 t ht1) (rowsOf (yb c) (part X Y (ynb c) (f16 (t.val - 1))))) $$ [Hy]; · iexact Hy
  iintro Hy
  iapply (load_any c mr (off24 t ht1)) $$ [Hr]; · iexact Hr
  iintro %V Hr
  iapply (store_at c mr (off24 t ht1)) $$ [Hr]; · iexact Hr
  iintro Hr
  rw [wp_ret]
  imodintro
  isplitl [Hm]; · iapply (any_intro (c : Thread nD τ) (pH (f2 (t.val - 1)) (yb c)) (rowsOf (yb c) (part X Y c (f16 (t.val - 1))))); iexact Hm
  isplitl [Hy]; · iapply (any_intro (c : Thread nD τ) (yS (f16 (t.val - 1))) (rowsOf (yb c) (part X Y (ynb c) (f16 (t.val - 1))))); iexact Hy
  iexact Hr

end Cert.KernelIdeal.P
-- ==== Proof.KI.TripC.lean ====
/-
  The trips of the first call's loop: the copies a trip issues.
-/
module

public import proofs.«01_k».proof.Proof.KI.TripB

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

section
variable {α : Type} {Q : α → sProp (MT nD τ sig Unit (Elt F) ℕ UU ℕ)}

/-- Half of a partial product is sent to the neighbour that reduces it. -/
theorem send_y (t : ℕ) (ht : t < 16) (a u : ℕ) (ha : a ≤ t) {o₁ o₂ : Fin 1 → ℕ} {o₃ o₄ : Fin 3 → ℕ} (h₁ : o₁ = ![(f16 t).val]) (h₂ : o₂ = ![(f16 t).val])
    (h₃ : o₃ = ![(f16 t).val, 0, 0]) (h₄ : o₄ = ![(f2 t).val, 1024 * (yb (ynb c)).val, 0]) {i₁ i₂ i₃ i₄} {n : Dev nD} (hn : n = ynb c) {hsc} {hsrc} {hdst} {hsem}
    {k : PUnit → Prog (TpuEff nD τ sig (Elt F) Λ₀ .tc) α} :
    iprop(records X Y κ ∗ owing c (Oyx c t u) ∗ ysS c a t ∗ owns (c : Thread nD τ) (pH (f2 t) (yb (ynb c))) fullShare (rowsOf (yb (ynb c)) (part X Y c (f16 t))))
      ⊢ iprop(((owing c (Oyx c (t + 1) u) ∗ ysS c a (t + 1)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma ((mp.slice (Rect.unit (s := S2x2048x256) o₄ S1x1024x256.size i₄) (fun _ => rfl)).squeeze S1024x256 squeezes_S1x1024x256_S1024x256)
            (.remote (Dev.tc n) ((my.slice (Rect.unit (s := S16x1024x256) o₃ S1x1024x256.size i₃) (fun _ => rfl)).squeeze S1024x256 squeezes_S1x1024x256_S1024x256)
              (.dma ((cc0_scratch8.slice (Rect.unit (s := S16) o₁ S1.size i₁)).squeeze S_ squeezes_S1_S_).sem) hsc)
            (.dma ((cc0_scratch9.slice (Rect.unit (s := S16) o₂ S1.size i₂)).squeeze S_ squeezes_S1_S_).sem) hsrc hdst hsem) k) Q) := by
  have hs := sem_ys (f16 t) h₁ i₁
  have hr := sem_yr (f16 t) h₂ i₂
  subst h₃ h₄
  have e : (owns (c : Thread nD τ) (pHq (f2 t) (yb (ynb c))) fullShare (shapeCast S1024x256 (rowsOf (yb (ynb c)) (part X Y c (f16 t))) shapeCasts_S1x1024x256_S1024x256) : sProp 𝕄)
      = owns (c : Thread nD τ) (pH (f2 t) (yb (ynb c))) fullShare (rowsOf (yb (ynb c)) (part X Y c (f16 t))) := owns_squeeze (c : Thread nD τ) (pH (f2 t) (yb (ynb c))) _ _ _ _
  have e' : (owns (ynb c : Thread nD τ) (ySq (f16 t)) fullShare (shapeCast S1024x256 (rowsOf (yb (ynb c)) (part X Y c (f16 t))) shapeCasts_S1x1024x256_S1024x256) : sProp 𝕄)
      = owns (ynb c : Thread nD τ) (yS (f16 t)) fullShare (rowsOf (yb (ynb c)) (part X Y c (f16 t))) := owns_squeeze (ynb c : Thread nD τ) (yS (f16 t)) _ _ _ _
  have hpay : owns (c : Thread nD τ) (pHq (f2 t) (yb (ynb c))) fullShare (shapeCast S1024x256 (rowsOf (yb (ynb c)) (part X Y c (f16 t))) shapeCasts_S1x1024x256_S1024x256) ⊢ pay X Y c 0 0 (.ys (f16 t)) := by
    show _ ⊢ anyOf (c : Thread nD τ) (pHq (f2 (f16 t).val) (yb (ynb c)))
    rw [f16_val t ht]
    exact any_intro (c : Thread nD τ) (pHq (f2 t) (yb (ynb c))) _
  have hpay' : owns (ynb c : Thread nD τ) (ySq (f16 t)) fullShare (shapeCast S1024x256 (rowsOf (yb (ynb c)) (part X Y c (f16 t))) shapeCasts_S1x1024x256_S1024x256) ⊢ pay X Y (ynb c) 0 0 (.yr (f16 t)) := by
    show _ ⊢ owns (ynb c : Thread nD τ) (yS (f16 t)) fullShare (rowsOf (yb (ynb c)) (part X Y (ynb (ynb c)) (f16 t)))
    rw [e', ynb_ynb]
  rw [← e]
  iintro ⟨#Hr, Ho, Hs, Hp⟩ Hk
  ihave Hs := (stage_start (ysD c) (ysF c) (ysR c) (a := a) (b := t) ha ht) $$ Hs
  icases Hs with ⟨⟨Hd, Hi, Hd', Hr', Ha⟩, Hs⟩
  iapply (send_at X Y κ c (ynb c) (.ys (f16 t)) (.yr (f16 t)) (fun h => nomatch h) (fun h => nomatch h) hn hs hr rfl rfl fullShare _ Nc (credit_c _) rfl rfl (Oyx c (t + 1) u) (Oyx_y c t u ht) hpay hpay') $$ [Ho Hp Hd Hi Hd' Hr' Ha]
  · isplitr; · iexact Hr
    isplitl [Hp]; · iexact Hp
    isplitl [Ha]; · iexact Ha
    isplitl [Ho]; · iexact Ho
    isplitl [Hd]; · iexact Hd
    isplitl [Hi]; · iexact Hi
    isplitl [Hd']; · iexact Hd'
    iexact Hr'
  iintro ⟨Hf, Ho⟩
  iapply Hk
  isplitl [Ho]; · iexact Ho
  iapply Hs; iexact Hf

/-- A chunk of columns of the right operand is copied to its slot. -/
theorem copy_dy (t : ℕ) (ht : t < 16) {o₁ : Fin 1 → ℕ} {o₂ : Fin 3 → ℕ} {o₃ : Fin 2 → ℕ} (h₁ : o₁ = ![(f2 t).val])
    (h₂ : o₂ = ![(f2 t).val, 0, 0]) (h₃ : o₃ = ![0, 4096 * (xh c).val + 256 * (f16 t).val]) {i₁ i₂ i₃} {hsrc} {hdst} {hsem}
    {k : PUnit → Prog (TpuEff nD τ sig (Elt F) Λ₀ .tc) α} :
    iprop(records X Y κ ∗ dyI (F := F) c t ∗ dyR' Y c t)
      ⊢ iprop((fl (F := F) c (.dy (f2 t)) (t / 2) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (mdy.slice (Rect.unit (s := S2048x8192) o₃ S2048x256.size i₃) (fun _ => rfl))
            (.here ((mdb.slice (Rect.unit (s := S2x2048x256) o₂ S1x2048x256.size i₂) (fun _ => rfl)).squeeze S2048x256 squeezes_S1x2048x256_S2048x256))
            (.dma ((cc0_scratch6.slice (Rect.unit (s := S2) o₁ S1.size i₁)).squeeze S_ squeezes_S1_S_).sem) hsrc hdst hsem) k) Q) := by
  have hs := sem_dy (f2 t) h₁ i₁
  subst h₂ h₃
  have hpay : iprop(owns (c : Thread nD τ) (dSq (f2 t)) fullShare (chunk Y c (f16 t)) ∗ owns (c : Thread nD τ) (dyW (xh c) (f16 t)) fullShare (chunk Y c (f16 t))) ⊢ pay X Y c (t / 2) 0 (.dy (f2 t)) := by
    show _ ⊢ iprop(owns (c : Thread nD τ) (dSq (f2 t)) fullShare (chunk Y c (kOf (f2 t) (t / 2))) ∗ owns (c : Thread nD τ) (dyW (xh c) (kOf (f2 t) (t / 2))) fullShare (chunk Y c (kOf (f2 t) (t / 2))))
    rw [kOf_t t ht]
  unfold dyI
  rw [← any_dSq]
  iintro ⟨#Hr, ⟨Hi, Ha⟩, Hd, Hy⟩ Hk
  iapply (copy_at X Y κ c (.dy (f2 t)) (t / 2) (fun h => nomatch h) (by show _ < 8; omega) hs rfl rfl fullShare (chunk Y c (f16 t)) (credit_d _) hpay) $$ [Hi Ha Hd Hy]
  · isplitr; · iexact Hr
    isplitl [Hy]; · iexact Hy
    isplitl [Ha]; · iexact Ha
    isplitl [Hd]; · iexact Hd
    iexact Hi
  iexact Hk

/-- The rights to send a chunk of the result, and the place it goes to. -/
abbrev xsR (j : ℕ) : sProp (MT nD τ sig Unit (Elt F) ℕ UU ℕ) :=
  iprop(dutyTok ER (gc c (.xs (f16 j))) 0 0 ∗ idle c (.xs (f16 j)) 0 ∗ dutyTok ER (gc (xnb c) (.xr (f16 j))) 0 0
    ∗ reached ER (gc (xnb c) (.xr (f16 j))) 0 ∗ anyOf (xnb c : Thread nD τ) (oW (xh c) (f16 j)))

/-- A chunk of the result is sent to the neighbour of the other column half. -/
theorem send_x (j : ℕ) (hj : j < 16) (s : ℕ) {o₁ o₂ : Fin 1 → ℕ} {o₃ : Fin 2 → ℕ} {o₄ : Fin 3 → ℕ} (h₁ : o₁ = ![(f16 j).val]) (h₂ : o₂ = ![(f16 j).val])
    (h₃ : o₃ = ![0, 4096 * (xh c).val + 256 * (f16 j).val]) (h₄ : o₄ = ![(f2 j).val, 0, 0]) {i₁ i₂ i₃ i₄} {n : Dev nD} (hn : n = xnb c) {hsc} {hsrc} {hdst} {hsem}
    {k : PUnit → Prog (TpuEff nD τ sig (Elt F) Λ₀ .tc) α} :
    iprop(records X Y κ ∗ owing c (Oyx c s j) ∗ xsR (F := F) c j ∗ owns (c : Thread nD τ) (rSq (f2 j)) lh (red2 X Y c (f16 j)))
      ⊢ iprop(((owing c (Oyx c s (j + 1)) ∗ fl (F := F) c (.xs (f16 j)) 0) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma ((mr.slice (Rect.unit (s := S2x1024x256) o₄ S1x1024x256.size i₄) (fun _ => rfl)).squeeze S1024x256 squeezes_S1x1024x256_S1024x256)
            (.remote (Dev.tc n) (mo.slice (Rect.unit (s := S1024x8192) o₃ S1024x256.size i₃) (fun _ => rfl))
              (.dma ((cc0_scratch10.slice (Rect.unit (s := S16) o₁ S1.size i₁)).squeeze S_ squeezes_S1_S_).sem) hsc)
            (.dma ((cc0_scratch11.slice (Rect.unit (s := S16) o₂ S1.size i₂)).squeeze S_ squeezes_S1_S_).sem) hsrc hdst hsem) k) Q) := by
  have hs := sem_xs (f16 j) h₁ i₁
  have hr := sem_xr (f16 j) h₂ i₂
  subst h₃ h₄
  have hpay : owns (c : Thread nD τ) (rSq (f2 j)) lh (red2 X Y c (f16 j)) ⊢ pay X Y c 0 0 (.xs (f16 j)) := by
    show _ ⊢ owns (c : Thread nD τ) (rSq (f2 (f16 j).val)) lh (red2 X Y c (f16 j))
    rw [f16_val j hj]
  have hpay' : owns (xnb c : Thread nD τ) (oW (xh c) (f16 j)) fullShare (red2 X Y c (f16 j)) ⊢ pay X Y (xnb c) 0 0 (.xr (f16 j)) := by
    show _ ⊢ owns (xnb c : Thread nD τ) (oW (xh (xnb (xnb c))) (f16 j)) fullShare (red2 X Y (xnb (xnb c)) (f16 j))
    rw [xnb_xnb]
  iintro ⟨#Hr, Ho, ⟨Hd, Hi, Hd', Hr', Ha⟩, Hp⟩ Hk
  iapply (send_at X Y κ c (xnb c) (.xs (f16 j)) (.xr (f16 j)) (fun h => nomatch h) (fun h => nomatch h) hn hs hr rfl rfl lh _ Nc (credit_c _) rfl rfl (Oyx c s (j + 1)) (Oyx_x c s j hj) hpay hpay') $$ [Ho Hp Hd Hi Hd' Hr' Ha]
  · isplitr; · iexact Hr
    isplitl [Hp]; · iexact Hp
    isplitl [Ha]; · iexact Ha
    isplitl [Ho]; · iexact Ho
    isplitl [Hd]; · iexact Hd
    isplitl [Hi]; · iexact Hi
    isplitl [Hd']; · iexact Hd'
    iexact Hr'
  iintro ⟨Hf, Ho⟩
  iapply Hk
  isplitl [Ho]; · iexact Ho
  iexact Hf

/-- A chunk of the result is copied to its place on the device itself. -/
theorem copy_o (j : ℕ) (hj : j < 16) {o₁ : Fin 1 → ℕ} {o₃ : Fin 2 → ℕ} {o₄ : Fin 3 → ℕ} (h₁ : o₁ = ![(f2 j).val])
    (h₃ : o₃ = ![0, 4096 * (xh c).val + 256 * (f16 j).val]) (h₄ : o₄ = ![(f2 j).val, 0, 0]) {i₁ i₃ i₄} {hsrc} {hdst} {hsem}
    {k : PUnit → Prog (TpuEff nD τ sig (Elt F) Λ₀ .tc) α} :
    iprop(records X Y κ ∗ owns (c : Thread nD τ) (rSq (f2 j)) rh (red2 X Y c (f16 j)) ∗ anyOf (c : Thread nD τ) (oW (xh c) (f16 j))
        ∗ dutyTok ER (gc c (.out (f2 j))) (j / 2) 0 ∗ idle (F := F) c (.out (f2 j)) (j / 2))
      ⊢ iprop((fl (F := F) c (.out (f2 j)) (j / 2) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma ((mr.slice (Rect.unit (s := S2x1024x256) o₄ S1x1024x256.size i₄) (fun _ => rfl)).squeeze S1024x256 squeezes_S1x1024x256_S1024x256)
            (.here (mo.slice (Rect.unit (s := S1024x8192) o₃ S1024x256.size i₃) (fun _ => rfl)))
            (.dma ((cc0_scratch7.slice (Rect.unit (s := S2) o₁ S1.size i₁)).squeeze S_ squeezes_S1_S_).sem) hsrc hdst hsem) k) Q) := by
  have hs := sem_out (f2 j) h₁ i₁
  subst h₃ h₄
  have hpay : iprop(owns (c : Thread nD τ) (oW (xh c) (f16 j)) fullShare (red2 X Y c (f16 j)) ∗ owns (c : Thread nD τ) (rSq (f2 j)) rh (red2 X Y c (f16 j))) ⊢ pay X Y c (j / 2) 0 (.out (f2 j)) := by
    show _ ⊢ iprop(owns (c : Thread nD τ) (oW (xh c) (kOf (f2 j) (j / 2))) fullShare (red2 X Y c (kOf (f2 j) (j / 2))) ∗ owns (c : Thread nD τ) (rSq (f2 j)) rh (red2 X Y c (kOf (f2 j) (j / 2))))
    rw [kOf_t j hj]
  exact copy_at X Y κ c (.out (f2 j)) (j / 2) (fun h => nomatch h) (by show _ < 8; omega) hs rfl rfl rh (red2 X Y c (f16 j)) (credit_c _) hpay

/-- A program run before another. -/
theorem wp_step {β : Type} {m : Prog (TpuEff nD τ sig (Elt F) Λ₀ .tc) β} {k : β → Prog (TpuEff nD τ sig (Elt F) Λ₀ .tc) α}
    {P : sProp (MT nD τ sig Unit (Elt F) ℕ UU ℕ)} {Q' : β → sProp (MT nD τ sig Unit (Elt F) ℕ UU ℕ)}
    (h : P ⊢ wp frame (wpE (defs₀ (F := F)) 𝒱₀ (c : Thread nD τ) none) Set.univ m Q') :
    P ⊢ iprop((∀ a, (Q' a -∗ wp frame (wpE (defs₀ (F := F)) 𝒱₀ (c : Thread nD τ) none) Set.univ (k a) Q))
      -∗ wp frame (wpE (defs₀ (F := F)) 𝒱₀ (c : Thread nD τ) none) Set.univ (m >>= k) Q) := by
  rw [wp_bind]
  exact h.trans (wp_wand _ _ _)

/-- The list of halves to receive: the next is taken, and put back as received. -/
theorem yr_step (a : ℕ) (ha : a < 16) : yrS (F := F) c a ⊢ iprop(yrR c a ∗ (yrD c a -∗ yrS c (a + 1))) := by
  unfold yrS stage
  rw [Finset.Ico_self, Finset.Ico_self, bigSep_Ico_succ_bot ha, bigSep_Ico_succ_top (Nat.zero_le a)]
  iintro ⟨HD, HF, ⟨HR, HRs⟩⟩
  isplitl [HR]; · iexact HR
  iintro Hd
  isplitl [HD Hd]; · isplitl [Hd]; · iexact Hd
                     iexact HD
  isplitl [HF]; · iexact HF
  iexact HRs
end

end Cert.KernelIdeal.P
-- ==== Proof.KI.TripD.lean ====
/-
  A whole trip of the first call's loop.
-/
module

public import proofs.«01_k».proof.Proof.KI.TripC

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

/-- Two chunks on, the slot is the same. -/
theorem free_2 (t : ℕ) : f2 (t + 2) = f2 t := by apply Fin.ext; unfold f2; simp only [Fin.val_ofNat]; omega
/-- Two chunks on, the round of the slot is the next. -/
theorem half_2 (t : ℕ) : (t + 2) / 2 = t / 2 + 1 := by omega

/-- The columns' slot is free again for the chunk two trips later. -/
theorem dyI_next (t : ℕ) : iprop(idle c (.dy (f2 t)) (t / 2 + 1) ∗ anyOf (c : Thread nD τ) (dS (f2 t))) = dyI (F := F) c (t + 2) := by
  unfold dyI; rw [free_2, half_2]

section
variable {α : Type} {Q : α → sProp (MT nD τ sig Unit (Elt F) ℕ UU ℕ)}

/-- The next chunk of columns is asked for, but at the last trip. -/
theorem wp_next (t : Fin k0_t1_loop.trips) (K : Prog (TpuEff nD τ sig (Elt F) Λ₀ .tc) α) :
    iprop(records X Y κ ∗ dyI c (t.val + 1) ∗ dyS Y c (t.val + 1) (t.val + 1))
      ⊢ iprop(((dyC c (t.val + 1) ∗ dyS Y c (t.val + 1) (t.val + 2)) -∗ wp frame (wpE (defs₀ (F := F)) 𝒱₀ (c : Thread nD τ) none) Set.univ K Q)
        -∗ wp frame (wpE (defs₀ (F := F)) 𝒱₀ (c : Thread nD τ) none) Set.univ
          (if k0_h3 : k0_cond3 t = 1#1 then
            .op (.enqueueDma (mdy.slice (Rect.unit (s := S2048x8192) (k0_off14 c t) S2048x256.size (k0_off14_inb c t k0_h3)) (fun _ => rfl))
              (.here ((mdb.slice (Rect.unit (s := S2x2048x256) (k0_off13 t) S1x2048x256.size (k0_off13_inb t k0_h3)) (fun _ => rfl)).squeeze S2048x256 squeezes_S1x2048x256_S2048x256))
              (.dma ((cc0_scratch6.slice (Rect.unit (s := S2) (k0_off12 t) S1.size (k0_off12_inb t k0_h3))).squeeze S_ squeezes_S1_S_).sem)
              (View.wordExact_bits rfl) ((View.wordExact_bits rfl).reshape _ _) ⟨Or.inl rfl, trivial⟩) (fun _ => K)
          else K) Q) := by
  have ht := lt1 t
  by_cases h : t.val < 15
  · have hc := (cond3_iff t).mpr h
    have hd : dyC (F := F) c (t.val + 1) = fl c (.dy (f2 (t.val + 1))) ((t.val + 1) / 2) := if_pos (by omega)
    rw [hd]
    simp only [dif_pos hc, Prog.lift, Prog.bind_op, Prog.bind_ret, Prog.pure_eq_ret]
    iintro ⟨#Hr, Hi, Hs⟩ Hk
    ihave Hs := (stage_start (dyD Y c) (fun _ => iprop(emp)) (dyR' Y c) (a := t.val + 1) (b := t.val + 1) (le_refl _) (by omega)) $$ Hs
    icases Hs with ⟨Hd, Hs⟩
    iapply (copy_dy X Y κ c (t.val + 1) (by omega) (off12 t h) (off13 t h) (off14 c t h)) $$ [Hi Hd]
    · isplitr; · iexact Hr
      isplitl [Hi]; · iexact Hi
      iexact Hd
    iintro Hf
    iapply Hk
    isplitl [Hf]; · iexact Hf
    iapply Hs
    iempintro
  · have hc : ¬ k0_cond3 t = 1#1 := fun h' => h ((cond3_iff t).mp h')
    have hd : dyC (F := F) c (t.val + 1) = dyI c (t.val + 1) := if_neg (by omega)
    rw [hd]
    simp only [dif_neg hc, Prog.pure_eq_ret]
    have hs : dyS Y c (t.val + 1) (t.val + 1) ⊢ dyS Y c (t.val + 1) (t.val + 2) := by
      have e : t.val = 15 := by omega
      unfold dyS stage
      rw [e]
      show iprop(_ ∗ bigSep (Finset.Ico 16 16) _ ∗ bigSep (Finset.Ico 16 16) _) ⊢ iprop(_ ∗ bigSep (Finset.Ico 16 17) _ ∗ bigSep (Finset.Ico 17 16) _)
      rw [bigSep_Ico_succ_bot (by omega : 16 < 17), Finset.Ico_self, Finset.Ico_eq_empty_of_le (by omega : 16 ≤ 17)]
      iintro ⟨H1, H2, H3⟩
      isplitl [H1]; · iexact H1
      isplitl [H2]
      · isplitr; · iempintro
        iexact H2
      iexact H3
    iintro ⟨#Hr, Hi, Hs⟩ Hk
    iapply Hk
    isplitl [Hi]; · iexact Hi
    iapply hs; iexact Hs

/-- The previous chunk of the result is formed and goes out, but at the first trip. -/
theorem wp_block (v2 v5 v6 v7 v8 v11 v15 : BitVec 32) (t : Fin k0_t1_loop.trips) (K : Prog (TpuEff nD τ sig (Elt F) Λ₀ .tc) α) :
    iprop(records X Y κ ∗ owing c (Oyx c (t.val + 1) (t.val - 1)) ∗ (oS X Y c (t.val - 3) (t.val - 1) ∗ freeS c (t.val - 1)) ∗ yrS c (t.val - 1) ∗ prev X Y c t.val)
      ⊢ iprop(((owing c (Oyx c (t.val + 1) t.val) ∗ (oS X Y c (t.val - 2) t.val ∗ freeS c t.val) ∗ yrS c t.val ∗ mine c (t.val + 1)) -∗ wp frame (wpE (defs₀ (F := F)) 𝒱₀ (c : Thread nD τ) none) Set.univ K Q)
        -∗ wp frame (wpE (defs₀ (F := F)) 𝒱₀ (c : Thread nD τ) none) Set.univ
          (if k0_h4 : k0_cond4 t = 1#1 then
            k0_part2 mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11 c v2 v6 v11 t v15 k0_h4 >>= fun v228 =>
            k0_part3 mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11 c v5 v7 v8 v11 t k0_h4 v228 >>= fun _ =>
            .op (.enqueueDma ((mr.slice (Rect.unit (s := S2x1024x256) (k0_off26 t) S1x1024x256.size (k0_off26_inb t k0_h4)) (fun _ => rfl)).squeeze S1024x256 squeezes_S1x1024x256_S1024x256)
              (.remote (Dev.tc (⟨k0_dev4 c, k0_dev4_lt c t k0_h4⟩ : Dev nD)) (mo.slice (Rect.unit (s := S1024x8192) (k0_off25 c t) S1024x256.size (k0_off25_inb c t k0_h4)) (fun _ => rfl))
                (.dma ((cc0_scratch10.slice (Rect.unit (s := S16) (k0_off19 t) S1.size (k0_off19_inb t k0_h4))).squeeze S_ squeezes_S1_S_).sem))
              (.dma ((cc0_scratch11.slice (Rect.unit (s := S16) (k0_off19 t) S1.size (k0_off19_inb t k0_h4))).squeeze S_ squeezes_S1_S_).sem)
              ((View.wordExact_bits rfl).reshape _ _) (View.wordExact_bits rfl) ⟨⟨rfl, Or.inl rfl⟩, trivial⟩) fun _ =>
            .op (.enqueueDma ((mr.slice (Rect.unit (s := S2x1024x256) (k0_off26 t) S1x1024x256.size (k0_off26_inb t k0_h4)) (fun _ => rfl)).squeeze S1024x256 squeezes_S1x1024x256_S1024x256)
              (.here (mo.slice (Rect.unit (s := S1024x8192) (k0_off25 c t) S1024x256.size (k0_off25_inb c t k0_h4)) (fun _ => rfl)))
              (.dma ((cc0_scratch7.slice (Rect.unit (s := S2) (k0_off27 t) S1.size (k0_off27_inb t k0_h4))).squeeze S_ squeezes_S1_S_).sem)
              ((View.wordExact_bits rfl).reshape _ _) (View.wordExact_bits rfl) ⟨Or.inl rfl, trivial⟩) fun _ => K
          else K) Q) := by
  have ht := lt1 t
  by_cases h : 1 ≤ t.val
  · have hc := (cond4_iff t).mpr h
    have hp : prev X Y c t.val = owns (c : Thread nD τ) (pH (f2 (t.val - 1)) (yb c)) fullShare (rowsOf (yb c) (part X Y c (f16 (t.val - 1)))) := if_neg (by omega)
    have hm : mine (F := F) c (t.val + 1) = anyOf (c : Thread nD τ) (pH (f2 (t.val - 1)) (yb c)) := by
      have e : t.val + 1 = t.val - 1 + 2 := by omega
      unfold mine
      rw [e, free_2]
    have e1 : t.val - 1 + 1 = t.val := by omega
    rw [hp, hm]
    simp only [dif_pos hc, Prog.lift, Prog.bind_op, Prog.bind_ret, Prog.pure_eq_ret]
    iintro ⟨#Hr, Ho, ⟨Hs, Hf⟩, Hy, Hm⟩ Hk
    ihave Hy := (yr_step c (t.val - 1) (by omega)) $$ Hy
    icases Hy with ⟨Hy, Hys⟩
    iapply (wp_step c (wp_part2 X Y κ c v2 v6 v11 v15 t hc (t.val + 1) (by omega))) $$ [Ho Hs Hf Hy]
    · isplitr; · iexact Hr
      isplitl [Ho]; · iexact Ho
      isplitl [Hs]; · iexact Hs
      isplitl [Hf]; · iexact Hf
      iexact Hy
    iintro %w ⟨Ho, Hs, ⟨Hi, Hn⟩, Hf, Ha, Hy⟩
    iapply (wp_step c (wp_part3 X Y c v5 v7 v8 v11 w t hc)) $$ [Hm Hy Hn]
    · isplitl [Hm]; · iexact Hm
      isplitl [Hy]; · iexact Hy
      iexact Hn
    iintro %_ ⟨Hm, Hy, Hn⟩
    have hh : (owns (c : Thread nD τ) (rS (f2 (t.val - 1))) fullShare (red X Y c (f16 (t.val - 1))) : sProp 𝕄) ⊢ iprop(owns (c : Thread nD τ) (rSq (f2 (t.val - 1))) lh (red2 X Y c (f16 (t.val - 1))) ∗ owns (c : Thread nD τ) (rSq (f2 (t.val - 1))) rh (red2 X Y c (f16 (t.val - 1)))) := by
      rw [← owns_rSq]
      exact (owns_halves (c : Thread nD τ) (rSq (f2 (t.val - 1))) fullShare (red2 X Y c (f16 (t.val - 1)))).1
    ihave Hn := hh $$ Hn
    icases Hn with ⟨Hn, Hn'⟩
    ihave Hs := (stage_start (oD X Y c) (oF c) (oR' c) (a := t.val - 2) (b := t.val - 1) (by omega) (by omega)) $$ Hs
    icases Hs with ⟨⟨H1, H2, H3, H4, H5, H6, H7⟩, Hs⟩
    iapply (send_x X Y κ c (t.val - 1) (by omega) (t.val + 1) (off19 t h) (off19 t h) (off25 c t h) (off26 t h) (dev4 c _)) $$ [Ho H1 H2 H3 H4 H5 Hn]
    · isplitr; · iexact Hr
      isplitl [Ho]; · iexact Ho
      isplitl [H1 H2 H3 H4 H5]
      · isplitl [H1]; · iexact H1
        isplitl [H2]; · iexact H2
        isplitl [H3]; · iexact H3
        isplitl [H4]; · iexact H4
        iexact H5
      iexact Hn
    iintro ⟨Ho, Hx⟩
    iapply (copy_o X Y κ c (t.val - 1) (by omega) (off27 t h) (off25 c t h) (off26 t h)) $$ [Hn' H7 H6 Hi]
    · isplitr; · iexact Hr
      isplitl [Hn']; · iexact Hn'
      isplitl [H7]; · iexact H7
      isplitl [H6]; · iexact H6
      iexact Hi
    iintro Hx'
    rw [e1]
    iapply Hk
    isplitl [Ho]; · iexact Ho
    isplitl [Hs Hf Hx Hx']
    · isplitr [Hf]
      · iapply Hs
        isplitl [Hx]; · iexact Hx
        iexact Hx'
      iexact Hf
    isplitl [Hys Ha Hy]
    · iapply Hys
      isplitl [Ha]; · iexact Ha
      iexact Hy
    iexact Hm
  · have e : t.val = 0 := by omega
    have hc : ¬ k0_cond4 t = 1#1 := fun h' => h ((cond4_iff t).mp h')
    simp only [dif_neg hc, Prog.pure_eq_ret]
    rw [e]
    have hp : prev X Y c 0 = mine (F := F) c (0 + 1) := if_pos rfl
    rw [hp]
    iintro ⟨-, H⟩ Hk
    iapply Hk
    iexact H

end

/-- The invariant of the next trip. -/
theorem inv_succ (t : ℕ) : inv X Y c (t + 1) =
  iprop(owing c (Oyx c (t + 1) t) ∗ xD X c ∗ (dyC c (t + 1) ∗ dyI c (t + 2) ∗ dyS Y c (t + 1) (t + 2))
    ∗ (ysS c (t - 1) (t + 1) ∗ theirsS c (t + 1) ∗ mine c (t + 1) ∗ owns (c : Thread nD τ) (pH (f2 t) (yb c)) fullShare (rowsOf (yb c) (part X Y c (f16 t))))
    ∗ yrS c t ∗ (oS X Y c (t - 2) t ∗ freeS c t)) := rfl

/-- One trip of the first call's loop. -/
theorem wp_trip (v2 v5 v6 v7 v8 v11 : BitVec 32) (t : Fin k0_t1_loop.trips) :
    iprop(records X Y κ ∗ inv X Y c t.val)
      ⊢ wp frame (wpE (defs₀ (F := F)) 𝒱₀ (c : Thread nD τ) none) Set.univ
          (k0_t1_body mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11 c v2 v5 v6 v7 v8 v11 0#32 t ())
          (fun _ => iprop(records X Y κ ∗ inv X Y c (t.val + 1))) := by
  have ht := lt1 t
  rw [inv_succ]
  unfold k0_t1_body inv
  simp only [Prog.lift, Prog.bind_op, Prog.bind_ret, Prog.pure_eq_ret]
  iintro ⟨#Hr, Ho, Hx, ⟨Hd, Hi, Hds⟩, ⟨Hs, Hth, Hm, Hp⟩, Hy, Ho'⟩
  iapply (wp_step c (wp_part4 X Y κ c v11 t (t.val - 1))) $$ [Ho Hx Hd Hs Hth]
  · isplitr; · iexact Hr
    isplitl [Ho]; · iexact Ho
    isplitl [Hx]; · iexact Hx
    isplitl [Hd]; · iexact Hd
    isplitl [Hs]; · iexact Hs
    iexact Hth
  iintro %r
  obtain ⟨v15, w⟩ := r
  iintro ⟨%hw, Ho, Hx, ⟨Hdi, Hd, Hdy⟩, ⟨Hs, Ht, Hth⟩⟩
  have hw : w = X c := hw
  subst hw
  iapply (wp_step c (wp_part5 X Y c t v15)) $$ [Hd Hm Ht]
  · isplitl [Hd]; · iexact Hd
    isplitl [Hm]; · iexact Hm
    iexact Ht
  iintro %_ ⟨Hd, Hm, Ht⟩
  iapply (send_y X Y κ c t.val ht (t.val - 1) (t.val - 1) (by omega) (off9 t) (off9 t) (off10 t) (off11 c t) (dev3 c)) $$ [Ho Hs Ht]
  · isplitr; · iexact Hr
    isplitl [Ho]; · iexact Ho
    isplitl [Hs]; · iexact Hs
    iexact Ht
  iintro ⟨Ho, Hs⟩
  ihave Hds := (stage_finish (dyD Y c) (fun _ => iprop(emp)) (dyR' Y c) (a := t.val) (b := t.val + 1) (by omega)) $$ Hds
  icases Hds with ⟨-, Hds⟩
  iapply (wp_next X Y κ c t) $$ [Hi Hds Hdy]
  · isplitr; · iexact Hr
    isplitl [Hi]; · iexact Hi
    iapply Hds; iexact Hdy
  iintro ⟨Hi, Hds⟩
  iapply (wp_block X Y κ c v2 v5 v6 v7 v8 v11 v15 t) $$ [Ho Ho' Hy Hp]
  · isplitr; · iexact Hr
    isplitl [Ho]; · iexact Ho
    isplitl [Ho']; · iexact Ho'
    isplitl [Hy]; · iexact Hy
    iexact Hp
  iintro ⟨Ho, Ho', Hy, Hp⟩
  rw [wp_ret]
  imodintro
  isplitr; · iexact Hr
  isplitl [Ho]; · iexact Ho
  isplitl [Hx]; · iexact Hx
  isplitl [Hi Hds Hdi Hd]
  · isplitl [Hi]; · iexact Hi
    isplitl [Hdi Hd]
    · iapply (Entails.of_eq (dyI_next c t.val))
      isplitl [Hdi]; · iexact Hdi
      iexact Hd
    iexact Hds
  isplitl [Hs Hth Hp Hm]
  · isplitl [Hs]; · iexact Hs
    isplitl [Hth]; · iexact Hth
    isplitl [Hp]; · iexact Hp
    iexact Hm
  isplitl [Hy]; · iexact Hy
  iexact Ho'

end Cert.KernelIdeal.P
-- ==== Proof.KI.Head.lean ====
/-
  The first call up to the end of its loop.
-/
module

public import proofs.«01_k».proof.Proof.KI.TripD
public import Idealize.ShloMosaic.Lib.Scf

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

/-- The sixteen chunks, by number. -/
theorem bigSep_f16 (Φ : Fin 16 → sProp (MT nD τ sig Unit (Elt F) ℕ UU ℕ)) : bigSep Finset.univ Φ = bigSep (Finset.Ico 0 16) fun k => Φ (f16 k) := by
  rw [← bigSep_image_of_injOn (f := f16) (s := Finset.Ico 0 16)]
  · congr 1
  · intro a ha b hb h
    have ha : a < 16 := (Finset.mem_Ico.mp ha).2
    have hb : b < 16 := (Finset.mem_Ico.mp hb).2
    have := congrArg Fin.val h
    rwa [f16_val a ha, f16_val b hb] at this

/-- The rights for a send of a half, but for the neighbour's slot. -/
abbrev ysR₀ (k : ℕ) : sProp (MT nD τ sig Unit (Elt F) ℕ UU ℕ) :=
  iprop(dutyTok ER (gc c (.ys (f16 k))) 0 0 ∗ idle c (.ys (f16 k)) 0 ∗ dutyTok ER (gc (ynb c) (.yr (f16 k))) 0 0)
/-- The rights for a chunk of the result to go out, but for the neighbour's place of it. -/
abbrev oR₀ (k : ℕ) : sProp (MT nD τ sig Unit (Elt F) ℕ UU ℕ) :=
  iprop(dutyTok ER (gc c (.xs (f16 k))) 0 0 ∗ idle c (.xs (f16 k)) 0 ∗ dutyTok ER (gc (xnb c) (.xr (f16 k))) 0 0
    ∗ dutyTok ER (gc c (.out (f2 k))) (k / 2) 0 ∗ anyOf (c : Thread nD τ) (oW (xh c) (f16 k)))
/-- What the device holds when the first call's body begins, but for the chunks it waits for in the end. -/
def start : sProp (MT nD τ sig Unit (Elt F) ℕ UU ℕ) :=
  iprop(owing c (O₀ c)
    ∗ (cred (tallyAt (gc c .bar) () 2) ∗ atPos ER (gc c .bar) 0 ∅ 0 ∗ dutyTok ER (gc (ynb c) .bar) 0 0 ∗ dutyTok ER (gc (xnb c) .bar) 0 1)
    ∗ (barY (ynb c) ∗ barX (xnb c))
    ∗ (dutyTok ER (gc c .x) 0 0 ∗ idle c .x 0 ∗ owns (c : Thread nD τ) mx fullShare (X c) ∗ anyOf (c : Thread nD τ) mxv)
    ∗ (dyS Y c 0 0 ∗ dyI c 0 ∗ dyI c 1)
    ∗ (bigSep (Finset.Ico 0 16) (ysR₀ c) ∗ theirsS c 0 ∗ mine c 0 ∗ mine c 1)
    ∗ yrS c 0
    ∗ (bigSep (Finset.Ico 0 16) (oR₀ c) ∗ freeS c 0))

/-- The neighbour's receive slots complete the rights to send. -/
theorem ys_start : iprop(bigSep (Finset.Ico 0 16) (ysR₀ (F := F) c) ∗ barY c) ⊢ ysS (F := F) c 0 0 := by
  have h : iprop(bigSep (Finset.Ico 0 16) (ysR₀ (F := F) c) ∗ bigSep (Finset.Ico 0 16) fun k => iprop(anyOf (ynb c : Thread nD τ) (ySq (f16 k)) ∗ reached ER (gc (ynb c) (.yr (f16 k))) 0))
      ⊢ bigSep (Finset.Ico 0 16) (ysR (F := F) c) := by
    rw [← bigSep_sep']
    refine bigSep_mono fun k _ => (show iprop(ysR₀ (F := F) c k ∗ anyOf (ynb c : Thread nD τ) (ySq (f16 k)) ∗ reached ER (gc (ynb c) (.yr (f16 k))) 0) ⊢ ysR (F := F) c k from ?_)
    iintro ⟨⟨H1, H2, H3⟩, H4, H5⟩
    isplitl [H1]; · iexact H1
    isplitl [H2]; · iexact H2
    isplitl [H3]; · iexact H3
    isplitl [H5]; · iexact H5
    iexact H4
  unfold barY ysS stage
  rw [bigSep_f16, Finset.Ico_self, bigSep_empty, bigSep_empty]
  iintro H
  isplitr; · iempintro
  isplitr; · iempintro
  iapply h; iexact H

/-- The neighbour's columns of the result complete the rights to send them. -/
theorem o_start : iprop(bigSep (Finset.Ico 0 16) (oR₀ (F := F) c) ∗ barX c) ⊢ oS X Y c 0 0 := by
  have h : iprop(bigSep (Finset.Ico 0 16) (oR₀ (F := F) c) ∗ bigSep (Finset.Ico 0 16) fun k => iprop(anyOf (xnb c : Thread nD τ) (oW (xh c) (f16 k)) ∗ reached ER (gc (xnb c) (.xr (f16 k))) 0))
      ⊢ bigSep (Finset.Ico 0 16) (oR' (F := F) c) := by
    rw [← bigSep_sep']
    refine bigSep_mono fun k _ => (show iprop(oR₀ (F := F) c k ∗ anyOf (xnb c : Thread nD τ) (oW (xh c) (f16 k)) ∗ reached ER (gc (xnb c) (.xr (f16 k))) 0) ⊢ oR' (F := F) c k from ?_)
    iintro ⟨⟨H1, H2, H3, H6, H7⟩, H4, H5⟩
    isplitl [H1]; · iexact H1
    isplitl [H2]; · iexact H2
    isplitl [H3]; · iexact H3
    isplitl [H5]; · iexact H5
    isplitl [H4]; · iexact H4
    isplitl [H6]; · iexact H6
    iexact H7
  unfold barX oS stage
  rw [bigSep_f16, Finset.Ico_self, bigSep_empty, bigSep_empty]
  iintro H
  isplitr; · iempintro
  isplitr; · iempintro
  iapply h; iexact H

/-- The left operand is asked for. -/
theorem copy_x {α : Type} {Q : α → sProp (MT nD τ sig Unit (Elt F) ℕ UU ℕ)} {hsrc} {hdst} {hsem} {k : PUnit → Prog (TpuEff nD τ sig (Elt F) Λ₀ .tc) α} :
    iprop(records X Y κ ∗ dutyTok ER (gc c .x) 0 0 ∗ idle c .x 0 ∗ owns (c : Thread nD τ) mx fullShare (X c) ∗ anyOf (c : Thread nD τ) mxv)
      ⊢ iprop((fl (F := F) c .x 0 -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma mx (.here mxv) (.dma cc0_scratch5.sem) hsrc hdst hsem) k) Q) := by
  have hpay : iprop(owns (c : Thread nD τ) mxv fullShare (X c) ∗ owns (c : Thread nD τ) mx fullShare (X c)) ⊢ pay X Y c 0 0 .x := .rfl
  iintro ⟨#Hr, Hd, Hi, Hx, Hv⟩ Hk
  iapply (copy_at X Y κ c .x 0 (fun h => nomatch h) (by show 0 < 1; omega) sem_x rfl rfl fullShare (X c) (credit_x _) hpay) $$ [Hd Hi Hx Hv]
  · isplitr; · iexact Hr
    isplitl [Hx]; · iexact Hx
    isplitl [Hv]; · iexact Hv
    isplitl [Hd]; · iexact Hd
    iexact Hi
  iexact Hk

/-- The head of the first call: its first copies, and the neighbours heard of. -/
theorem wp_part6 :
    iprop(records X Y κ ∗ start X Y c)
      ⊢ wp frame (wpE (defs₀ (F := F)) 𝒱₀ (c : Thread nD τ) none) Set.univ
          (k0_part6 mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11)
          (fun r => iprop(⌜r.1 = c ∧ r.2.2.2.2.2.2.2 = 0#32⌝ ∗ atPos ER (gc c .bar) 1 ∅ 0 ∗ inv X Y c 0)) := by
  have e1 : (1#32 : BitVec 32).toInt = 1 := by decide
  have e2 : (2#32 : BitVec 32).toInt = 2 := by decide
  have hp : prev X Y c 0 = mine (F := F) c 1 := if_pos rfl
  have hx : xS X c 0 = fl (F := F) c .x 0 := if_pos rfl
  have hd : dyC (F := F) c 0 = fl (F := F) c (.dy (f2 0)) (0 / 2) := if_pos (by omega)
  have hY : barY (ynb c) ⊢ pay X Y (ynb c) 0 0 .bar := by show _ ⊢ (if (0 : Fin 2) = 0 then barY (ynb c) else barX (ynb c)); rw [if_pos rfl]
  have hX : barX (xnb c) ⊢ pay X Y (xnb c) 0 1 .bar := by show _ ⊢ (if (1 : Fin 2) = 0 then barY (xnb c) else barX (xnb c)); rw [if_neg (by decide)]
  rw [k0_part6_eq_skeleton]
  unfold k0_part6_skel start inv
  rw [hp, hx, hd]
  simp only [Prog.lift, Prog.bind_op, Prog.bind_ret, Prog.pure_eq_ret, semSignalWord, semWaitWord, e1, e2, wp_deviceId]
  iintro ⟨#Hr, Ho, ⟨Hc, Hb, Ht1, Ht2⟩, ⟨HY, HX⟩, Hx, ⟨Hds, Hd0, Hd1⟩, ⟨Hys, Hth, Hm0, Hm1⟩, Hyr, ⟨Hos, Hf⟩⟩
  iapply (copy_x X Y κ c) $$ [Hx]
  · isplitr; · iexact Hr
    iexact Hx
  iintro Hx
  ihave Hds := (stage_start (dyD Y c) (fun _ => iprop(emp)) (dyR' Y c) (a := 0) (b := 0) (le_refl _) (by omega)) $$ Hds
  icases Hds with ⟨Hd, Hds⟩
  iapply (copy_dy X Y κ c 0 (by omega) rfl rfl (off1 c)) $$ [Hd0 Hd]
  · isplitr; · iexact Hr
    isplitl [Hd0]; · iexact Hd0
    iexact Hd
  iintro Hd
  iapply (signal_cell X Y κ c (ynb c) 0 (dev1 c) rfl (Oyx c 0 0 + tallyAt (gc (xnb c) .bar) () 1) rfl) $$ [Ho Ht1 HY]
  · isplitr; · iexact Hr
    isplitl [Ho]; · iexact Ho
    isplitl [Ht1]; · iexact Ht1
    iapply hY; iexact HY
  iintro Ho
  iapply (signal_cell X Y κ c (xnb c) 1 (dev2 c) rfl (Oyx c 0 0) rfl) $$ [Ho Ht2 HX]
  · isplitr; · iexact Hr
    isplitl [Ho]; · iexact Ho
    isplitl [Ht2]; · iexact Ht2
    iapply hX; iexact HX
  iintro Ho
  iapply (wait_bar X Y κ c rfl (mayWait c .bar 0 0 (by show 1 < 2; omega) (by show 1 < 100; omega))) $$ [Hc Ho Hb]
  · isplitr; · iexact Hr
    isplitl [Hc]; · iexact Hc
    isplitl [Ho]; · iexact Ho
    iexact Hb
  iintro ⟨Ho, Hb, HY, HX⟩
  rw [wp_ret]
  imodintro
  isplitr; · ipureintro; exact ⟨rfl, rfl⟩
  isplitl [Hb]; · iexact Hb
  isplitl [Ho]; · iexact Ho
  isplitl [Hx]; · iexact Hx
  isplitl [Hd Hd1 Hds]
  · isplitl [Hd]; · iexact Hd
    isplitl [Hd1]; · iexact Hd1
    iapply Hds; iempintro
  isplitl [Hys HY Hth Hm0 Hm1]
  · isplitl [Hys HY]
    · iapply (ys_start c)
      isplitl [Hys]; · iexact Hys
      iexact HY
    isplitl [Hth]; · iexact Hth
    isplitl [Hm0]; · iexact Hm0
    iexact Hm1
  isplitl [Hyr]; · iexact Hyr
  isplitl [Hos HX]
  · iapply (o_start X Y c)
    isplitl [Hos]; · iexact Hos
    iexact HX
  iexact Hf

/-- The first call's loop. -/
theorem wp_loop1 (v2 v5 v6 v7 v8 v11 : BitVec 32) :
    iprop(records X Y κ ∗ inv X Y c 0)
      ⊢ wp frame (wpE (defs₀ (F := F)) 𝒱₀ (c : Thread nD τ) none) Set.univ
          (Scf.Loop.for k0_t1_loop k0_t1_ok ⟨⟩ (k0_t1_body mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11 c v2 v5 v6 v7 v8 v11 0#32))
          (fun _ => iprop(records X Y κ ∗ inv X Y c 16)) := by
  iintro H
  iapply (Scf.wp_for frame (wpE (defs₀ (F := F)) 𝒱₀ (c : Thread nD τ) none) Set.univ k0_t1_loop.lb k0_t1_loop.ub k0_t1_loop.st k0_t1_ok ⟨⟩
    (k0_t1_body mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11 c v2 v5 v6 v7 v8 v11 0#32) (fun k _ => iprop(records X Y κ ∗ inv X Y c k)) (fun k _ => wp_trip X Y κ c v2 v5 v6 v7 v8 v11 k))
  isplitl [H]; · iexact H
  have e : Scf.trips k0_t1_loop.lb k0_t1_loop.ub k0_t1_loop.st = 16 := trips1
  rw [e]
  iintro %_ H
  iexact H

end Cert.KernelIdeal.P
-- ==== Proof.KI.Tail.lean ====
/-
  The first call from its loop on: the last chunk of the result, the last waits, and the counters handed back.
-/
module

public import proofs.«01_k».proof.Proof.KI.Head

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

/-! ## The last chunk -/

/-- What is not touched any more after the loop. -/
abbrev keep : sProp (MT nD τ sig Unit (Elt F) ℕ UU ℕ) :=
  iprop(xD X c ∗ (dyC c 16 ∗ dyI c 17 ∗ dyS Y c 16 17) ∗ theirsS c 16 ∗ mine c 16 ∗ freeS c 15)

/-- After the loop: all chunks multiplied and sent along the second axis, the last one not yet reduced. -/
theorem inv_16 : inv X Y c 16 =
  iprop(owing c (Oyx c 16 15) ∗ xD X c ∗ (dyC c 16 ∗ dyI c 17 ∗ dyS Y c 16 17)
    ∗ (ysS c 14 16 ∗ theirsS c 16 ∗ mine c 16 ∗ owns (c : Thread nD τ) (pH (f2 15) (yb c)) fullShare (rowsOf (yb c) (part X Y c (f16 15))))
    ∗ yrS c 15 ∗ (oS X Y c 13 15 ∗ freeS c 15)) := rfl

/-- After the loop: the waits for the last chunk, and the half kept of it. -/
theorem wp_part7 (v2 v5 v6 v7 v8 v11 : BitVec 32) :
    iprop(records X Y κ ∗ inv X Y c 0)
      ⊢ wp frame (wpE (defs₀ (F := F)) 𝒱₀ (c : Thread nD τ) none) Set.univ
          (k0_part7 mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11 c v2 v5 v6 v7 v8 v11 0#32)
          (fun r => iprop(⌜r = k0_pay3 (rowsOf (yb c) (part X Y c (f16 15)))⌝ ∗ owing c (Oyx c 16 15) ∗ keep X Y c ∗ ysS c 14 16
            ∗ owns (c : Thread nD τ) (pH (f2 15) (yb c)) fullShare (rowsOf (yb c) (part X Y c (f16 15)))
            ∗ ((yrD c 15 -∗ yrS c 16) ∗ atPos ER (gc c (.yr (f16 15))) 1 ∅ 0 ∗ owns (c : Thread nD τ) (yS (f16 15)) fullShare (rowsOf (yb c) (part X Y (ynb c) (f16 15))))
            ∗ (oS X Y c 14 15 ∗ free c 15))) := by
  rw [k0_part7_eq_skeleton]
  unfold k0_part7_skel
  simp only [Prog.lift, Prog.bind_op, Prog.bind_ret, Prog.pure_eq_ret]
  iintro ⟨#Hr, H⟩
  iapply (wp_step c (wp_loop1 X Y κ c v2 v5 v6 v7 v8 v11)) $$ [H]
  · isplitr; · iexact Hr
    iexact H
  rw [inv_16]
  iintro %_ ⟨-, Ho, Hx, Hd, ⟨Hys, Hth, Hm, Hp⟩, Hyr, ⟨Hos, Hf⟩⟩
  ihave Hos := (stage_finish (oD X Y c) (oF c) (oR' c) (a := 13) (b := 15) (by omega)) $$ Hos
  icases Hos with ⟨⟨Hfx, Hfo⟩, Hos⟩
  iapply (wait_at X Y κ c (.out (f2 13)) (13 / 2) (fun h => nomatch h) (by show _ < 8; omega) _ (sem_out (f2 13) rfl _) (credit_c _) 16 15 (by show 0 < _; omega) (by show 0 < _; omega)) $$ [Ho Hfo]
  · isplitr; · iexact Hr
    isplitl [Hfo]; · iexact Hfo
    iexact Ho
  iintro ⟨Ho, Hi, Hq⟩
  iapply (wait_at X Y κ c (.xs (f16 13)) 0 (fun h => nomatch h) (by show 0 < 1; omega) _ (sem_xs (f16 13) rfl _) (credit_c _) 16 15 (by show 0 < _; omega) (by show 0 < _; omega)) $$ [Ho Hfx]
  · isplitr; · iexact Hr
    isplitl [Hfx]; · iexact Hfx
    iexact Ho
  iintro ⟨Ho, Hj, Hq'⟩
  ihave Hn := (pay_o X Y c 13 (by omega)) $$ [Hi Hq Hj Hq']
  · isplitl [Hi]; · iexact Hi
    isplitl [Hq]; · iexact Hq
    isplitl [Hj]; · iexact Hj
    iexact Hq'
  icases Hn with ⟨Hdo, Hn⟩
  ihave Hyr := (yr_step c 15 (by omega)) $$ Hyr
  icases Hyr with ⟨Hy, Hyr⟩
  iapply (wait_at X Y κ c (.yr (f16 15)) 0 (fun h => nomatch h) (by show 0 < 1; omega) _ (sem_yr (f16 15) rfl _) (credit_c _) 16 15 (by show 17 < _; omega) (by show 17 < _; omega)) $$ [Ho Hy]
  · isplitr; · iexact Hr
    isplitl [Hy]; · iexact Hy
    iexact Ho
  iintro ⟨Ho, Hy, Hyp⟩
  iapply (load_at c mp (off30 c) (rowsOf (yb c) (part X Y c (f16 15)))) $$ [Hp]; · iexact Hp
  iintro Hp
  rw [wp_ret]
  imodintro
  isplitr; · ipureintro; rfl
  isplitl [Ho]; · iexact Ho
  isplitl [Hx Hd Hth Hm Hf]
  · isplitl [Hx]; · iexact Hx
    isplitl [Hd]; · iexact Hd
    isplitl [Hth]; · iexact Hth
    isplitl [Hm]; · iexact Hm
    iexact Hf
  isplitl [Hys]; · iexact Hys
  isplitl [Hp]; · iexact Hp
  isplitl [Hyr Hy Hyp]
  · isplitl [Hyr]; · iexact Hyr
    unfold idle
    icases Hy with ⟨Hy, -⟩
    isplitl [Hy]; · iexact Hy
    iapply (pay_yr X Y c); iexact Hyp
  isplitl [Hos Hdo]; · iapply Hos; iexact Hdo
  iexact Hn

/-- The last chunk of the result is formed and goes out. -/
theorem wp_part8 (v5 v7 v11 : BitVec 32) :
    iprop(records X Y κ ∗ owing c (Oyx c 16 15)
            ∗ owns (c : Thread nD τ) (pH (f2 15) (yb c)) fullShare (rowsOf (yb c) (part X Y c (f16 15)))
            ∗ ((yrD c 15 -∗ yrS c 16) ∗ atPos ER (gc c (.yr (f16 15))) 1 ∅ 0 ∗ owns (c : Thread nD τ) (yS (f16 15)) fullShare (rowsOf (yb c) (part X Y (ynb c) (f16 15))))
            ∗ (oS X Y c 14 15 ∗ free c 15))
      ⊢ wp frame (wpE (defs₀ (F := F)) 𝒱₀ (c : Thread nD τ) none) Set.univ
          (k0_part8 mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11 c v5 v7 v11 (k0_pay3 (rowsOf (yb c) (part X Y c (f16 15)))))
          (fun _ => iprop(owing c (Oyx c 16 16) ∗ mine c 17 ∗ yrS c 16 ∗ oS X Y c 14 16)) := by
  have hh : (owns (c : Thread nD τ) (rS (f2 15)) fullShare (k0_pay4 (k0_pay3 (rowsOf (yb c) (part X Y c (f16 15)))) (rowsOf (yb c) (part X Y (ynb c) (f16 15)))) : sProp 𝕄)
      ⊢ iprop(owns (c : Thread nD τ) (rSq (f2 15)) lh (red2 X Y c (f16 15)) ∗ owns (c : Thread nD τ) (rSq (f2 15)) rh (red2 X Y c (f16 15))) := by
    have e : k0_pay4 (k0_pay3 (rowsOf (yb c) (part X Y c (f16 15)))) (rowsOf (yb c) (part X Y (ynb c) (f16 15))) = red X Y c (f16 15) := rfl
    rw [e, ← owns_rSq]
    exact (owns_halves (c : Thread nD τ) (rSq (f2 15)) fullShare (red2 X Y c (f16 15))).1
  have hm : mine (F := F) c 17 = anyOf (c : Thread nD τ) (pH (f2 15) (yb c)) := by
    unfold mine; rw [show f2 17 = f2 15 from rfl]
  rw [k0_part8_eq_skeleton, hm]
  unfold k0_part8_skel
  simp only [Prog.lift, Prog.bind_op, Prog.bind_ret, Prog.pure_eq_ret]
  iintro ⟨#Hr, Ho, Hp, ⟨Hyr, Hy, Hyp⟩, ⟨Hos, ⟨Hi, Hn⟩⟩⟩
  iapply (load_at c my (off' := ![(f16 15).val, 0, 0]) rfl (rowsOf (yb c) (part X Y (ynb c) (f16 15)))) $$ [Hyp]; · iexact Hyp
  iintro Hyp
  iapply (load_any c mr (off' := ![(f2 15).val, 0, 0]) rfl) $$ [Hn]; · iexact Hn
  iintro %V Hn
  iapply (store_at c mr (off' := ![(f2 15).val, 0, 0]) rfl) $$ [Hn]; · iexact Hn
  iintro Hn
  ihave Hn := hh $$ Hn
  icases Hn with ⟨Hn, Hn'⟩
  ihave Hos := (stage_start (oD X Y c) (oF c) (oR' c) (a := 14) (b := 15) (by omega) (by omega)) $$ Hos
  icases Hos with ⟨⟨H1, H2, H3, H4, H5, H6, H7⟩, Hos⟩
  iapply (send_x X Y κ c 15 (by omega) 16 rfl rfl (off28 c) rfl (dev5 c)) $$ [Ho H1 H2 H3 H4 H5 Hn]
  · isplitr; · iexact Hr
    isplitl [Ho]; · iexact Ho
    isplitl [H1 H2 H3 H4 H5]
    · isplitl [H1]; · iexact H1
      isplitl [H2]; · iexact H2
      isplitl [H3]; · iexact H3
      isplitl [H4]; · iexact H4
      iexact H5
    iexact Hn
  iintro ⟨Ho, Hx⟩
  iapply (copy_o X Y κ c 15 (by omega) rfl (off28 c) rfl) $$ [Hn' H7 H6 Hi]
  · isplitr; · iexact Hr
    isplitl [Hn']; · iexact Hn'
    isplitl [H7]; · iexact H7
    isplitl [H6]; · iexact H6
    iexact Hi
  iintro Hx'
  rw [wp_ret]
  imodintro
  isplitl [Ho]; · iexact Ho
  isplitl [Hp]; · iapply (any_intro (c : Thread nD τ) (pH (f2 15) (yb c)) (rowsOf (yb c) (part X Y c (f16 15)))); iexact Hp
  isplitl [Hyr Hy Hyp]
  · iapply Hyr
    isplitl [Hy]; · iexact Hy
    iapply (any_intro (c : Thread nD τ) (yS (f16 15)) (rowsOf (yb c) (part X Y (ynb c) (f16 15)))); iexact Hyp
  iapply Hos
  isplitl [Hx]; · iexact Hx
  iexact Hx'

/-- A wait once nothing is owed. -/
theorem wait_z {α : Type} {Q : α → sProp (MT nD τ sig Unit (Elt F) ℕ UU ℕ)} (x : Cell) (R : ℕ) (hx : x ≠ .bar) (hR : R < rounds x) (i : Fin sig.nDmaSem) (hs : SemLoc.dma i = enc x)
    {sp sp' : Space} {s : Shape} {e : EltTy} {src : Memref sig .tc sp s e} {dst : Memref sig .tc sp' s e}
    {hsrc : src.view.WordExact} {hdst : dst.view.WordExact} (hk : dst.view.dmaCredit = amt x)
    {k : PUnit → Prog (TpuEff nD τ sig (Elt F) Λ₀ .tc) α} :
    iprop(records X Y κ ∗ fl (F := F) c x R ∗ owing (F := F) c 0)
      ⊢ iprop(((owing (F := F) c 0 ∗ idle (F := F) c x (R + 1) ∗ pay X Y c R 0 x)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 i src dst hsrc hdst) k) Q) := by
  have hO : (levAts L lv : sProp 𝕄) ⊢ MayWait (c : Thread nD τ) (enc x) () 0 := by rw [MayWait_zero]; iintro -; iempintro
  unfold fl idle
  iintro ⟨#Hr, ⟨Ha, Hc⟩, Ho⟩ Hk
  iapply (wait_cell X Y κ c x R hx hR hs (wpE_waitDma2_eq 𝒱₀ (c : Thread nD τ) none Set.univ) hk hO) $$ [Ha Hc Ho]
  · isplitr; · iexact Hr
    isplitl [Hc]; · iexact Hc
    isplitl [Ho]; · iexact Ho
    iexact Ha
  iintro ⟨Ho, Ha, Hrr, Hp⟩
  iapply Hk
  isplitl [Ho]; · iexact Ho
  isplitl [Ha Hrr]
  · isplitl [Ha]; · iexact Ha
    iexact Hrr
  iexact Hp

/-- The last waits for halves sent, and for the last but one chunk of the result. -/
theorem wp_part9 (v11 : BitVec 32) :
    iprop(records X Y κ ∗ owing c 0 ∗ ysS c 14 16 ∗ oS X Y c 14 16)
      ⊢ wp frame (wpE (defs₀ (F := F)) 𝒱₀ (c : Thread nD τ) none) Set.univ
          (k0_part9 mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11 c v11)
          (fun _ => iprop(owing c 0 ∗ (ysS c 16 16 ∗ theirs c 16 ∗ theirs c 17) ∗ (oS X Y c 15 16 ∗ free c 16))) := by
  rw [k0_part9_eq_skeleton]
  unfold k0_part9_skel
  simp only [Prog.lift, Prog.bind_op, Prog.bind_ret, Prog.pure_eq_ret]
  iintro ⟨#Hr, Ho, Hys, Hos⟩
  ihave Hys := (stage_finish (ysD c) (ysF c) (ysR c) (a := 14) (b := 16) (by omega)) $$ Hys
  icases Hys with ⟨Hy, Hys⟩
  iapply (wait_z X Y κ c (.ys (f16 14)) 0 (fun h => nomatch h) (by show 0 < 1; omega) _ (sem_ys (f16 14) rfl _) (credit_c _)) $$ [Ho Hy]
  · isplitr; · iexact Hr
    isplitl [Hy]; · iexact Hy
    iexact Ho
  iintro ⟨Ho, Hj, Ht⟩
  ihave Ht := (pay_ys X Y c 16 (by omega) (by omega)) $$ Ht
  ihave Hys := Hys $$ [Hj]
  · unfold idle
    icases Hj with ⟨Hj, -⟩
    iexact Hj
  ihave Hos := (stage_finish (oD X Y c) (oF c) (oR' c) (a := 14) (b := 16) (by omega)) $$ Hos
  icases Hos with ⟨⟨Hfx, Hfo⟩, Hos⟩
  iapply (wait_z X Y κ c (.xs (f16 14)) 0 (fun h => nomatch h) (by show 0 < 1; omega) _ (sem_xs (f16 14) rfl _) (credit_c _)) $$ [Ho Hfx]
  · isplitr; · iexact Hr
    isplitl [Hfx]; · iexact Hfx
    iexact Ho
  iintro ⟨Ho, Hj, Hq'⟩
  iapply (wait_z X Y κ c (.out (f2 14)) (14 / 2) (fun h => nomatch h) (by show _ < 8; omega) _ (sem_out (f2 14) rfl _) (credit_c _)) $$ [Ho Hfo]
  · isplitr; · iexact Hr
    isplitl [Hfo]; · iexact Hfo
    iexact Ho
  iintro ⟨Ho, Hi, Hq⟩
  ihave Hn := (pay_o X Y c 14 (by omega)) $$ [Hi Hq Hj Hq']
  · isplitl [Hi]; · iexact Hi
    isplitl [Hq]; · iexact Hq
    isplitl [Hj]; · iexact Hj
    iexact Hq'
  icases Hn with ⟨Hdo, Hn⟩
  ihave Hys := (stage_finish (ysD c) (ysF c) (ysR c) (a := 15) (b := 16) (by omega)) $$ Hys
  icases Hys with ⟨Hy, Hys⟩
  iapply (wait_z X Y κ c (.ys (f16 15)) 0 (fun h => nomatch h) (by show 0 < 1; omega) _ (sem_ys (f16 15) rfl _) (credit_c _)) $$ [Ho Hy]
  · isplitr; · iexact Hr
    isplitl [Hy]; · iexact Hy
    iexact Ho
  iintro ⟨Ho, Hj, Ht'⟩
  ihave Ht' := (pay_ys X Y c 17 (by omega) (by omega)) $$ Ht'
  rw [wp_ret]
  imodintro
  isplitl [Ho]; · iexact Ho
  isplitl [Hys Hj Ht Ht']
  · isplitl [Hys Hj]
    · iapply Hys
      unfold idle
      icases Hj with ⟨Hj, -⟩
      iexact Hj
    isplitl [Ht]; · iexact Ht
    iexact Ht'
  isplitl [Hos Hdo]; · iapply Hos; iexact Hdo
  iexact Hn

end Cert.KernelIdeal.P
-- ==== Proof.KI.Rest.lean ====
/-
  The end of the first call: its last waits, and the whole of its body.
-/
module

public import proofs.«01_k».proof.Proof.KI.Tail

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

/-! ## The neighbour's chunks of the result -/

/-- The neighbour's chunk arrived. -/
abbrev xrD (k : ℕ) : sProp (MT nD τ sig Unit (Elt F) ℕ UU ℕ) :=
  iprop(atPos ER (gc c (.xr (f16 k))) 1 ∅ 0 ∗ owns (c : Thread nD τ) (oW (xh (xnb c)) (f16 k)) fullShare (red2 X Y (xnb c) (f16 k)))
/-- The neighbour's chunk still to arrive. -/
abbrev xrR (k : ℕ) : sProp (MT nD τ sig Unit (Elt F) ℕ UU ℕ) := fl c (.xr (f16 k)) 0
/-- The neighbour's chunks: arrived below `a`, to arrive from there on. -/
abbrev xrS (a : ℕ) : sProp (MT nD τ sig Unit (Elt F) ℕ UU ℕ) := stage (xrD X Y c) (xrR c) (xrR c) a a

/-- The next chunk is taken off the list, and put back as arrived. -/
theorem xr_step (a : ℕ) (ha : a < 16) : xrS X Y c a ⊢ iprop(xrR c a ∗ (xrD X Y c a -∗ xrS X Y c (a + 1))) := by
  unfold xrS stage
  rw [Finset.Ico_self, Finset.Ico_self, bigSep_Ico_succ_bot ha, bigSep_Ico_succ_top (Nat.zero_le a)]
  iintro ⟨HD, HF, ⟨HR, HRs⟩⟩
  isplitl [HR]; · iexact HR
  iintro Hd
  isplitl [HD Hd]
  · isplitl [Hd]; · iexact Hd
    iexact HD
  isplitl [HF]; · iexact HF
  iexact HRs

/-- What a chunk's wait leaves. -/
theorem pay_xr (k : Fin 16) : pay X Y c 0 0 (.xr k) ⊢ owns (c : Thread nD τ) (oW (xh (xnb c)) k) fullShare (red2 X Y (xnb c) k) := .rfl

/-- One wait for a chunk of the neighbour's. -/
theorem wp_trip2 (t : Fin k0_t2_loop.trips) :
    iprop(records X Y κ ∗ owing c 0 ∗ xrS X Y c t.val)
      ⊢ wp frame (wpE (defs₀ (F := F)) 𝒱₀ (c : Thread nD τ) none) Set.univ
          (k0_t2_body mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11 c t ⟨⟩)
          (fun _ => iprop(records X Y κ ∗ owing c 0 ∗ xrS X Y c (t.val + 1))) := by
  have ht : t.val < 16 := lt_of_lt_of_eq t.isLt trips2
  unfold k0_t2_body
  simp only [Prog.lift, Prog.bind_op, Prog.bind_ret, Prog.pure_eq_ret]
  iintro ⟨#Hr, Ho, Hx⟩
  ihave Hx := (xr_step X Y c t.val ht) $$ Hx
  icases Hx with ⟨Hx, Hxs⟩
  iapply (wait_z X Y κ c (.xr (f16 t)) 0 (fun h => nomatch h) (by show 0 < 1; omega) _ (sem_xr (f16 t) (off32 t) _) (credit_c _)) $$ [Ho Hx]
  · isplitr; · iexact Hr
    isplitl [Hx]; · iexact Hx
    iexact Ho
  iintro ⟨Ho, Hi, Hq⟩
  rw [wp_ret]
  imodintro
  isplitr; · iexact Hr
  isplitl [Ho]; · iexact Ho
  iapply Hxs
  isplitl [Hi]
  · unfold idle
    icases Hi with ⟨Hi, -⟩
    iexact Hi
  iapply (pay_xr X Y c (f16 t)); iexact Hq

/-- The loop of those waits. -/
theorem wp_loop2 :
    iprop(records X Y κ ∗ owing c 0 ∗ xrS X Y c 0)
      ⊢ wp frame (wpE (defs₀ (F := F)) 𝒱₀ (c : Thread nD τ) none) Set.univ
          (Scf.Loop.for k0_t2_loop k0_t2_ok ⟨⟩ (k0_t2_body mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11 c))
          (fun _ => iprop(records X Y κ ∗ owing c 0 ∗ xrS X Y c 16)) := by
  iintro H
  iapply (Scf.wp_for frame (wpE (defs₀ (F := F)) 𝒱₀ (c : Thread nD τ) none) Set.univ k0_t2_loop.lb k0_t2_loop.ub k0_t2_loop.st k0_t2_ok ⟨⟩
    (k0_t2_body mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11 c) (fun k _ => iprop(records X Y κ ∗ owing c 0 ∗ xrS X Y c k)) (fun k _ => wp_trip2 X Y κ c k))
  isplitl [H]; · iexact H
  have e : Scf.trips k0_t2_loop.lb k0_t2_loop.ub k0_t2_loop.st = 16 := trips2
  rw [e]
  iintro %_ H
  iexact H

/-! ## The whole body -/

/-- What the device holds after the first call's last wait: everything back, and both halves of the result. -/
abbrev ended : sProp (MT nD τ sig Unit (Elt F) ℕ UU ℕ) :=
  iprop(atPos ER (gc c .bar) 1 ∅ 0 ∗ owing c 0 ∗ keep X Y c ∗ (ysS c 16 16 ∗ theirs c 16 ∗ theirs c 17) ∗ mine c 17 ∗ yrS c 16
    ∗ (oS X Y c 16 16 ∗ free c 16 ∗ free c 17) ∗ xrS X Y c 16)

/-- The body of the first call, by its first wait, its loop and its last waits. -/
theorem wp_body0 :
    iprop(records X Y κ ∗ start X Y c ∗ xrS X Y c 0)
      ⊢ wp frame (wpE (defs₀ (F := F)) 𝒱₀ (c : Thread nD τ) none) Set.univ
          (cc0_body mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11) (fun _ => ended X Y c) := by
  rw [cc0_body_eq_skeleton]
  unfold cc0_body_skel
  simp only [Prog.pure_eq_ret]
  iintro ⟨#Hr, H, Hx⟩
  iapply (wp_step c (wp_part6 X Y κ c)) $$ [H]
  · isplitr; · iexact Hr
    iexact H
  iintro %r
  obtain ⟨d0, v2, v5, v6, v7, v8, v11, z⟩ := r
  iintro ⟨%hz, Hb, H⟩
  obtain ⟨rfl, rfl⟩ : d0 = c ∧ z = 0#32 := hz
  iapply (wp_step d0 (wp_part7 X Y κ d0 v2 v5 v6 v7 v8 v11)) $$ [H]
  · isplitr; · iexact Hr
    iexact H
  iintro %v ⟨%hv, Ho, Hk, Hys, Hp, Hyr, Hos⟩
  subst hv
  iapply (wp_step d0 (wp_part8 X Y κ d0 v5 v7 v11)) $$ [Ho Hp Hyr Hos]
  · isplitr; · iexact Hr
    isplitl [Ho]; · iexact Ho
    isplitl [Hp]; · iexact Hp
    isplitl [Hyr]; · iexact Hyr
    iexact Hos
  iintro %_ ⟨Ho, Hm, Hyr, Hos⟩
  rw [Oyx_done]
  iapply (wp_step d0 (wp_part9 X Y κ d0 v11)) $$ [Ho Hys Hos]
  · isplitr; · iexact Hr
    isplitl [Ho]; · iexact Ho
    isplitl [Hys]; · iexact Hys
    iexact Hos
  iintro %_ ⟨Ho, Hys, Hos, Hf⟩
  simp only [Prog.lift, Prog.bind_op, Prog.bind_ret, Prog.pure_eq_ret]
  ihave Hos := (stage_finish (oD X Y d0) (oF d0) (oR' d0) (a := 15) (b := 16) (by omega)) $$ Hos
  icases Hos with ⟨⟨Hfx, Hfo⟩, Hos⟩
  iapply (wait_z X Y κ d0 (.xs (f16 15)) 0 (fun h => nomatch h) (by show 0 < 1; omega) _ (sem_xs (f16 15) rfl _) (credit_c _)) $$ [Ho Hfx]
  · isplitr; · iexact Hr
    isplitl [Hfx]; · iexact Hfx
    iexact Ho
  iintro ⟨Ho, Hj, Hq'⟩
  iapply (wait_z X Y κ d0 (.out (f2 15)) (15 / 2) (fun h => nomatch h) (by show _ < 8; omega) _ (sem_out (f2 15) rfl _) (credit_c _)) $$ [Ho Hfo]
  · isplitr; · iexact Hr
    isplitl [Hfo]; · iexact Hfo
    iexact Ho
  iintro ⟨Ho, Hi, Hq⟩
  ihave Hn := (pay_o X Y d0 15 (by omega)) $$ [Hi Hq Hj Hq']
  · isplitl [Hi]; · iexact Hi
    isplitl [Hq]; · iexact Hq
    isplitl [Hj]; · iexact Hj
    iexact Hq'
  icases Hn with ⟨Hdo, Hn⟩
  iapply (wp_step d0 (wp_loop2 X Y κ d0)) $$ [Ho Hx]
  · isplitr; · iexact Hr
    isplitl [Ho]; · iexact Ho
    iexact Hx
  iintro %_ ⟨-, Ho, Hx⟩
  rw [wp_ret]
  imodintro
  isplitl [Hb]; · iexact Hb
  isplitl [Ho]; · iexact Ho
  isplitl [Hk]; · iexact Hk
  isplitl [Hys]; · iexact Hys
  isplitl [Hm]; · iexact Hm
  isplitl [Hyr]; · iexact Hyr
  isplitl [Hos Hdo Hf Hn]
  · isplitl [Hos Hdo]; · iapply Hos; iexact Hdo
    isplitl [Hf]; · iexact Hf
    iexact Hn
  iexact Hx

end Cert.KernelIdeal.P
-- ==== Proof.KI.Split.lean ====
/-
  The buffers of both calls as the pieces their copies move.
-/
module

public import proofs.«01_k».proof.Proof.KI.Geo

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

/-! ## A memref cut along a family of rectangles -/

section Cut
variable {sp : Space} {sh : Shape} {e : EltTy} (m : Memref sig .tc sp sh e) (q : PosShare TreeShare) {T : Type} [Fintype T] [DecidableEq T]
variable (off : T → Fin sh.rank → ℕ) (size : Fin sh.rank → ℕ) (inb : ∀ t a, off t a + size a ≤ sh.size a) (loc : sh.Idx → T)
variable (huniq : ∀ t y, (∀ a, off t a ≤ (y a).val ∧ (y a).val < off t a + size a) → t = loc y)
variable (hmem : ∀ y a, off (loc y) a ≤ (y a).val ∧ (y a).val < off (loc y) a + size a)
include huniq hmem

/-- A memref owned at a value is its rectangles owned at theirs. -/
theorem owns_cut (V : sh.Idx → Elt F e) : (owns (c : Thread nD τ) m q V : sProp 𝕄)
    = bigSep Finset.univ fun t => owns (c : Thread nD τ) (m.slice (Rect.unit (s := sh) (off t) size (inb t)) (fun _ => rfl)) q (fun j => V ((Rect.unit (s := sh) (off t) size (inb t)).emb j)) :=
  equiv_of (owns_rects (c : Thread nD τ) m q (fun t => Rect.unit (s := sh) (off t) size (inb t)) (fun _ _ => rfl) (unit_disjoint off size inb loc huniq) (unit_cover off size inb loc hmem) V)
    (owns_of_rects (c : Thread nD τ) m q (fun t => Rect.unit (s := sh) (off t) size (inb t)) (fun _ _ => rfl) (unit_disjoint off size inb loc huniq) (unit_cover off size inb loc hmem) V)

/-- A free memref is its rectangles, each free. -/
theorem any_cut : (anyOf (c : Thread nD τ) m : sProp 𝕄)
    = bigSep Finset.univ fun t => anyOf (c : Thread nD τ) (m.slice (Rect.unit (s := sh) (off t) size (inb t)) (fun _ => rfl)) :=
  anyOf_rects (c : Thread nD τ) m (fun t => Rect.unit (s := sh) (off t) size (inb t)) (fun _ _ => rfl) (unit_disjoint off size inb loc huniq) (unit_cover off size inb loc hmem)

end Cut

/-! ## Columns in chunks -/

/-- The half and the chunk a column lies in. -/
def colLoc (n : ℕ) (h : n < 8192) : Fin 2 × Fin 16 := (⟨n / 4096, by omega⟩, ⟨n % 4096 / 256, by omega⟩)

/-- A column lies in no other chunk than the one computed for it. -/
theorem colLoc_uniq (t : Fin 2 × Fin 16) (n : ℕ) (h : n < 8192) (h₁ : 4096 * t.1.val + 256 * t.2.val ≤ n) (h₂ : n < 4096 * t.1.val + 256 * t.2.val + 256) : t = colLoc n h := by
  obtain ⟨a, b⟩ := t
  have ha := a.isLt; have hb := b.isLt
  refine Prod.ext (Fin.ext ?_) (Fin.ext ?_)
  · show a.val = n / 4096; dsimp only at h₁ h₂; omega
  · show b.val = n % 4096 / 256; dsimp only at h₁ h₂; omega
/-- A column lies in the chunk computed for it. -/
theorem colLoc_mem (n : ℕ) (h : n < 8192) : 4096 * (colLoc n h).1.val + 256 * (colLoc n h).2.val ≤ n ∧ n < 4096 * (colLoc n h).1.val + 256 * (colLoc n h).2.val + 256 := by
  show 4096 * (n / 4096) + 256 * (n % 4096 / 256) ≤ n ∧ n < 4096 * (n / 4096) + 256 * (n % 4096 / 256) + 256
  omega

/-- The right operand in chunks of columns. -/
theorem owns_dy (V : Vec F S2048x8192 .f32) : (owns (c : Thread nD τ) mdy fullShare V : sProp 𝕄)
    = bigSep Finset.univ fun h => bigSep Finset.univ fun k => owns (c : Thread nD τ) (dyW h k) fullShare (fun j => V ((dyR h k).emb j)) := by
  rw [← bigSep_univ_prod (fun t : Fin 2 × Fin 16 => (owns (c : Thread nD τ) (dyW t.1 t.2) fullShare (fun j => V ((dyR t.1 t.2).emb j)) : sProp 𝕄))]
  exact owns_cut c mdy fullShare (fun t : Fin 2 × Fin 16 => ![0, 4096 * t.1.val + 256 * t.2.val]) S2048x256.size _ (fun y => colLoc (y 1).val (y 1).isLt)
    (fun t y hy => colLoc_uniq t (y 1).val (y 1).isLt (hy 1).1 (hy 1).2)
    (fun y a => by
      fin_cases a
      · have h : (y 0).val < 2048 := (y 0).isLt
        show 0 ≤ (y 0).val ∧ (y 0).val < 0 + 2048; omega
      · exact colLoc_mem (y 1).val (y 1).isLt) V

/-- An index of the result lies in the rectangle of its column's chunk. -/
theorem o_mem (y : S1024x8192.Idx) (a : Fin 2) : (![0, 4096 * (colLoc (y 1).val (y 1).isLt).1.val + 256 * (colLoc (y 1).val (y 1).isLt).2.val] : Fin 2 → ℕ) a ≤ (y a).val
    ∧ (y a).val < (![0, 4096 * (colLoc (y 1).val (y 1).isLt).1.val + 256 * (colLoc (y 1).val (y 1).isLt).2.val] : Fin 2 → ℕ) a + S1024x256.size a := by
  fin_cases a
  · have h : (y 0).val < 1024 := (y 0).isLt
    show 0 ≤ (y 0).val ∧ (y 0).val < 0 + 1024; omega
  · exact colLoc_mem (y 1).val (y 1).isLt

/-- The first call's result, free, in chunks of columns. -/
theorem any_o : (anyOf (c : Thread nD τ) mo : sProp 𝕄)
    = bigSep Finset.univ fun h => bigSep Finset.univ fun k => anyOf (c : Thread nD τ) (oW h k) := by
  rw [← bigSep_univ_prod (fun t : Fin 2 × Fin 16 => (anyOf (c : Thread nD τ) (oW t.1 t.2) : sProp 𝕄))]
  exact any_cut c mo (fun t : Fin 2 × Fin 16 => ![0, 4096 * t.1.val + 256 * t.2.val]) S1024x256.size _ (fun y => colLoc (y 1).val (y 1).isLt)
    (fun t y hy => colLoc_uniq t (y 1).val (y 1).isLt (hy 1).1 (hy 1).2) o_mem

/-- The value at a chunk of columns of the first call's result. -/
theorem outV_at (h : Fin 2) (k : Fin 16) : (fun j => outV X Y c ((oR h k).emb j)) = red2 X Y (colDev c h) k := by
  funext j
  have e1 : ((oR h k).emb j 1).val = 4096 * h.val + 256 * k.val + 1 * (j 1).val := rfl
  have e0 : ((oR h k).emb j 0).val = 0 + 1 * (j 0).val := rfl
  have hh := h.isLt; have hk := k.isLt
  have hj : (j 1).val < 256 := (j 1).isLt
  have hd : (⟨((oR h k).emb j 1).val / 4096, by have h : ((oR h k).emb j 1).val < 8192 := ((oR h k).emb j 1).isLt; omega⟩ : Fin 2) = h := Fin.ext (by show ((oR h k).emb j 1).val / 4096 = h.val; omega)
  have hc : (⟨((oR h k).emb j 1).val % 4096 / 256, by omega⟩ : Fin 16) = k := Fin.ext (by show ((oR h k).emb j 1).val % 4096 / 256 = k.val; omega)
  unfold outV
  rw [hd, hc]
  refine congrArg _ (funext fun a => Fin.ext ?_)
  fin_cases a
  · show ((oR h k).emb j 0).val = (j 0).val; omega
  · show ((oR h k).emb j 1).val % 256 = (j 1).val; omega

/-- The first call's result is its chunks, each at the value its reducing device formed. -/
theorem owns_o : (owns (c : Thread nD τ) mo fullShare (outV X Y c) : sProp 𝕄)
    = bigSep Finset.univ fun h => bigSep Finset.univ fun k => owns (c : Thread nD τ) (oW h k) fullShare (red2 X Y (colDev c h) k) := by
  have e : (bigSep Finset.univ fun h => bigSep Finset.univ fun k => owns (c : Thread nD τ) (oW h k) fullShare (red2 X Y (colDev c h) k) : sProp 𝕄)
      = bigSep Finset.univ fun t : Fin 2 × Fin 16 => owns (c : Thread nD τ) (oW t.1 t.2) fullShare (fun j => outV X Y c ((oR t.1 t.2).emb j)) := by
    rw [bigSep_univ_prod]
    exact bigSep_congr fun h _ => bigSep_congr fun k _ => congrArg _ (outV_at X Y c h k).symm
  rw [e]
  exact owns_cut c mo fullShare (fun t : Fin 2 × Fin 16 => ![0, 4096 * t.1.val + 256 * t.2.val]) S1024x256.size _ (fun y => colLoc (y 1).val (y 1).isLt)
    (fun t y hy => colLoc_uniq t (y 1).val (y 1).isLt (hy 1).1 (hy 1).2) o_mem (outV X Y c)

/-! ## Buffers of slots -/

/-- The buffer of column chunks at unknown contents is its slots. -/
theorem any_db : (anyOf (c : Thread nD τ) mdb : sProp 𝕄) = bigSep Finset.univ fun b => anyOf (c : Thread nD τ) (dS b) :=
  any_cut c mdb (fun b : Fin 2 => ![b.val, 0, 0]) S1x2048x256.size _ (fun y => y 0)
    (fun t y hy => Fin.ext (by have h1 : t.val ≤ (y 0).val := (hy 0).1; have h2 : (y 0).val < t.val + 1 := (hy 0).2; omega))
    (fun y a => by
      fin_cases a
      · exact ⟨le_refl _, Nat.lt_succ_self _⟩
      · exact ⟨Nat.zero_le _, lt_of_lt_of_eq (y 1).isLt (Nat.zero_add _).symm⟩
      · exact ⟨Nat.zero_le _, lt_of_lt_of_eq (y 2).isLt (Nat.zero_add _).symm⟩)

/-- The buffer of reduced chunks at unknown contents is its slots. -/
theorem any_r : (anyOf (c : Thread nD τ) mr : sProp 𝕄) = bigSep Finset.univ fun b => anyOf (c : Thread nD τ) (rS b) :=
  any_cut c mr (fun b : Fin 2 => ![b.val, 0, 0]) S1x1024x256.size _ (fun y => y 0)
    (fun t y hy => Fin.ext (by have h1 : t.val ≤ (y 0).val := (hy 0).1; have h2 : (y 0).val < t.val + 1 := (hy 0).2; omega))
    (fun y a => by
      fin_cases a
      · exact ⟨le_refl _, Nat.lt_succ_self _⟩
      · exact ⟨Nat.zero_le _, lt_of_lt_of_eq (y 1).isLt (Nat.zero_add _).symm⟩
      · exact ⟨Nat.zero_le _, lt_of_lt_of_eq (y 2).isLt (Nat.zero_add _).symm⟩)

/-- The receive buffer at unknown contents is its slots. -/
theorem any_y : (anyOf (c : Thread nD τ) my : sProp 𝕄) = bigSep Finset.univ fun k => anyOf (c : Thread nD τ) (yS k) :=
  any_cut c my (fun k : Fin 16 => ![k.val, 0, 0]) S1x1024x256.size _ (fun y => y 0)
    (fun t y hy => Fin.ext (by have h1 : t.val ≤ (y 0).val := (hy 0).1; have h2 : (y 0).val < t.val + 1 := (hy 0).2; omega))
    (fun y a => by
      fin_cases a
      · exact ⟨le_refl _, Nat.lt_succ_self _⟩
      · exact ⟨Nat.zero_le _, lt_of_lt_of_eq (y 1).isLt (Nat.zero_add _).symm⟩
      · exact ⟨Nat.zero_le _, lt_of_lt_of_eq (y 2).isLt (Nat.zero_add _).symm⟩)

/-- The buffer of partial products, in halves of slots: for each slot the half kept and the half sent. -/
theorem any_p : (anyOf (c : Thread nD τ) mp : sProp 𝕄)
    = bigSep Finset.univ fun b => iprop(anyOf (c : Thread nD τ) (pH b (yb c)) ∗ anyOf (c : Thread nD τ) (pH b (yb (ynb c)))) := by
  have e : (bigSep Finset.univ fun b => iprop(anyOf (c : Thread nD τ) (pH b (yb c)) ∗ anyOf (c : Thread nD τ) (pH b (yb (ynb c)))) : sProp 𝕄)
      = bigSep Finset.univ fun t : Fin 2 × Fin 2 => anyOf (c : Thread nD τ) (pH t.1 t.2) := by
    rw [bigSep_univ_prod]
    exact bigSep_congr fun b _ => (two_yb c (fun h => anyOf (c : Thread nD τ) (pH b h))).symm
  rw [e]
  exact any_cut c mp (fun t : Fin 2 × Fin 2 => ![t.1.val, 1024 * t.2.val, 0]) S1x1024x256.size _
    (fun y => (y 0, ⟨(y 1).val / 1024, by have : (y 1).val < 2048 := (y 1).isLt; omega⟩))
    (fun t y hy => by
      have h1 : t.1.val ≤ (y 0).val := (hy 0).1
      have h2 : (y 0).val < t.1.val + 1 := (hy 0).2
      have h3 : 1024 * t.2.val ≤ (y 1).val := (hy 1).1
      have h4 : (y 1).val < 1024 * t.2.val + 1024 := (hy 1).2
      refine Prod.ext (Fin.ext ?_) (Fin.ext ?_)
      · show t.1.val = (y 0).val; omega
      · show t.2.val = (y 1).val / 1024; omega)
    (fun y a => by
      fin_cases a
      · exact ⟨le_refl _, Nat.lt_succ_self _⟩
      · show 1024 * ((y 1).val / 1024) ≤ (y 1).val ∧ (y 1).val < 1024 * ((y 1).val / 1024) + 1024
        omega
      · exact ⟨Nat.zero_le _, lt_of_lt_of_eq (y 2).isLt (Nat.zero_add _).symm⟩)

/-! ## Blocks of rows -/

/-- An index lies in no other block of 128 rows than its row's. -/
theorem v_uniq (t : Fin 8) (y : S1024x8192.Idx) (hy : ∀ a, (![128 * t.val, 0] : Fin 2 → ℕ) a ≤ (y a).val ∧ (y a).val < (![128 * t.val, 0] : Fin 2 → ℕ) a + S128x8192.size a) :
    t = ⟨(y 0).val / 128, by have h : (y 0).val < 1024 := (y 0).isLt; omega⟩ := by
  have h1 : 128 * t.val ≤ (y 0).val := (hy 0).1
  have h2 : (y 0).val < 128 * t.val + 128 := (hy 0).2
  exact Fin.ext (by show t.val = (y 0).val / 128; omega)
/-- An index lies in its row's block. -/
theorem v_mem (y : S1024x8192.Idx) (a : Fin 2) : (![128 * ((y 0).val / 128), 0] : Fin 2 → ℕ) a ≤ (y a).val ∧ (y a).val < (![128 * ((y 0).val / 128), 0] : Fin 2 → ℕ) a + S128x8192.size a := by
  fin_cases a
  · show 128 * ((y 0).val / 128) ≤ (y 0).val ∧ (y 0).val < 128 * ((y 0).val / 128) + 128
    omega
  · exact ⟨Nat.zero_le _, lt_of_lt_of_eq (y 1).isLt (Nat.zero_add _).symm⟩

/-- A result by blocks of 128 rows: the first call's, -/
theorem owns_vI (V : Vec F S1024x8192 .f32) : (owns (c : Thread nD τ) mo fullShare V : sProp 𝕄)
    = bigSep Finset.univ fun k => owns (c : Thread nD τ) (vI k) fullShare (fun j => V ((vR k).emb j)) :=
  owns_cut c mo fullShare (fun k : Fin 8 => ![128 * k.val, 0]) S128x8192.size _ (fun y => ⟨(y 0).val / 128, by have h : (y 0).val < 1024 := (y 0).isLt; omega⟩) v_uniq v_mem V
/-- the second call's, -/
theorem owns_vO (V : Vec F S1024x8192 .f32) : (owns (c : Thread nD τ) mq fullShare V : sProp 𝕄)
    = bigSep Finset.univ fun k => owns (c : Thread nD τ) (vO k) fullShare (fun j => V ((vR k).emb j)) :=
  owns_cut c mq fullShare (fun k : Fin 8 => ![128 * k.val, 0]) S128x8192.size _ (fun y => ⟨(y 0).val / 128, by have h : (y 0).val < 1024 := (y 0).isLt; omega⟩) v_uniq v_mem V
/-- the same free, -/
theorem any_vO : (anyOf (c : Thread nD τ) mq : sProp 𝕄) = bigSep Finset.univ fun k => anyOf (c : Thread nD τ) (vO k) :=
  any_cut c mq (fun k : Fin 8 => ![128 * k.val, 0]) S128x8192.size _ (fun y => ⟨(y 0).val / 128, by have h : (y 0).val < 1024 := (y 0).isLt; omega⟩) v_uniq v_mem
/-- and the buffer between them. -/
theorem any_st : (anyOf (c : Thread nD τ) mst : sProp 𝕄) = bigSep Finset.univ fun k => anyOf (c : Thread nD τ) (tS k) :=
  any_cut c mst (fun k : Fin 8 => ![k.val, 0, 0]) S1x128x8192.size _ (fun y => y 0)
    (fun t y hy => Fin.ext (by have h1 : t.val ≤ (y 0).val := (hy 0).1; have h2 : (y 0).val < t.val + 1 := (hy 0).2; omega))
    (fun y a => by
      fin_cases a
      · exact ⟨le_refl _, Nat.lt_succ_self _⟩
      · exact ⟨Nat.zero_le _, lt_of_lt_of_eq (y 1).isLt (Nat.zero_add _).symm⟩
      · exact ⟨Nat.zero_le _, lt_of_lt_of_eq (y 2).isLt (Nat.zero_add _).symm⟩)
/-- A staging slot at unknown contents, with or without its unit axis. -/
theorem any_tSq (k : Fin 8) : (anyOf (c : Thread nD τ) (tSq k) : sProp 𝕄) = anyOf (c : Thread nD τ) (tS k) :=
  anyOf_squeeze (c : Thread nD τ) (tS k) _ (by decide) (by decide)

/-- A free whole buffer, at contents not chosen. -/
theorem any_whole (b : Ref sig .tc) : (anyOf (c : Thread nD τ) (Memref.whole b) : sProp 𝕄) = iprop(∃ f : Buf (Elt F) ((c : Thread nD τ).loc b), ((c : Thread nD τ).loc b) ↦{fullShare} f) := by
  unfold anyOf
  refine congrArg _ (funext fun f => ?_)
  exact owns_whole (c : Thread nD τ) b fullShare f

end Cert.KernelIdeal.P
-- ==== Proof.KI.Body1.lean ====
/-
  The second call: its result in eight blocks of rows, each copied to a buffer and from there to its place.
-/
module

public import proofs.«01_k».proof.Proof.KI.Split
public import proofs.«01_k».proof.Proof.KI.Tail

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

/-! ## The stages of a block -/

/-- A number as a block's. -/
def f8 (n : ℕ) : Fin 8 := Fin.ofNat 8 n
/-- A number below eight is its own residue. -/
theorem f8_val (n : ℕ) (h : n < 8) : (f8 n).val = n := Nat.mod_eq_of_lt h

/-- The semaphore that the copy-in of block `k` uses is the cell `rin k`. -/
theorem sem_rin (k : Fin 8) {o : Fin 1 → ℕ} (h : o = ![k.val]) (i) : SemLoc.dma ((cc1_scratch1.slice (Rect.unit (s := S8) o S1.size i)).squeeze S_ squeezes_S1_S_).sem = enc (.rin k) := by
  subst h; revert k; decide
/-- The semaphore that the copy-out of block `k` uses is the cell `rout k`. -/
theorem sem_rout (k : Fin 8) {o : Fin 1 → ℕ} (h : o = ![k.val]) (i) : SemLoc.dma ((cc1_scratch2.slice (Rect.unit (s := S8) o S1.size i)).squeeze S_ squeezes_S1_S_).sem = enc (.rout k) := by
  subst h; revert k; decide
/-- A copy into a staging slot pays its cell's whole amount. -/
theorem credit_t (k : Fin 8) : (tSq k).view.dmaCredit = amt (.rin k) := by show _ = Nv; unfold Nv; rfl
/-- A copy into a block of the result pays its cell's whole amount. -/
theorem credit_v' (k : Fin 8) : (vO k).view.dmaCredit = amt (.rout k) := by show _ = Nv; unfold Nv; rfl

/-- Block `k` of the rows of the result. -/
abbrev blk (k : Fin 8) : Vec F S128x8192 .f32 := fun j => outV X Y c ((vR k).emb j)
/-- What the way out of a block needs. -/
abbrev rO (k : ℕ) : sProp (MT nD τ sig Unit (Elt F) ℕ UU ℕ) :=
  iprop(dutyTok ER (gc c (.rout (f8 k))) 0 0 ∗ idle c (.rout (f8 k)) 0 ∗ anyOf (c : Thread nD τ) (vO (f8 k)))
/-- A block not yet asked for. -/
abbrev rA (k : ℕ) : sProp (MT nD τ sig Unit (Elt F) ℕ UU ℕ) :=
  iprop((owns (c : Thread nD τ) (vI (f8 k)) fullShare (blk X Y c (f8 k)) ∗ anyOf (c : Thread nD τ) (tSq (f8 k)) ∗ dutyTok ER (gc c (.rin (f8 k))) 0 0 ∗ idle c (.rin (f8 k)) 0) ∗ rO c k)
/-- A block on its way in. -/
abbrev rB (k : ℕ) : sProp (MT nD τ sig Unit (Elt F) ℕ UU ℕ) := iprop(fl c (.rin (f8 k)) 0 ∗ rO c k)
/-- What a block leaves once it is in. -/
abbrev rI (k : ℕ) : sProp (MT nD τ sig Unit (Elt F) ℕ UU ℕ) :=
  iprop(atPos ER (gc c (.rin (f8 k))) 1 ∅ 0 ∗ owns (c : Thread nD τ) (vI (f8 k)) fullShare (blk X Y c (f8 k)))
/-- A block on its way out. -/
abbrev rC (k : ℕ) : sProp (MT nD τ sig Unit (Elt F) ℕ UU ℕ) := iprop(rI X Y c k ∗ fl c (.rout (f8 k)) 0)
/-- A block in its place. -/
abbrev rD (k : ℕ) : sProp (MT nD τ sig Unit (Elt F) ℕ UU ℕ) :=
  iprop(rI X Y c k ∗ atPos ER (gc c (.rout (f8 k))) 1 ∅ 0 ∗ owns (c : Thread nD τ) (vO (f8 k)) fullShare (blk X Y c (f8 k)) ∗ anyOf (c : Thread nD τ) (tSq (f8 k)))

/-- `a` blocks asked for, `b` sent on, `d` in place. -/
def blocks (a b d : ℕ) : sProp (MT nD τ sig Unit (Elt F) ℕ UU ℕ) :=
  iprop(owing c 0 ∗ bigSep (Finset.Ico 0 d) (rD X Y c) ∗ bigSep (Finset.Ico d b) (rC X Y c) ∗ bigSep (Finset.Ico b a) (rB c) ∗ bigSep (Finset.Ico a 8) (rA X Y c))

section
variable {Q : PUnit → sProp (MT nD τ sig Unit (Elt F) ℕ UU ℕ)}

/-- The next block is asked for. -/
theorem step_in (a b d : ℕ) (ha : a < 8) (hb : b ≤ a) {o₁ : Fin 1 → ℕ} {o₂ : Fin 2 → ℕ} {o₃ : Fin 3 → ℕ} (h₁ : o₁ = ![(f8 a).val]) (h₂ : o₂ = ![128 * (f8 a).val, 0]) (h₃ : o₃ = ![(f8 a).val, 0, 0])
    {i₁ i₂ i₃} {hsrc} {hdst} {hsem} {k : PUnit → Prog (TpuEff nD τ sig (Elt F) Λ₀ .tc) PUnit}
    (hk : iprop(records X Y κ ∗ blocks X Y c (a + 1) b d) ⊢ wp frame (wpE (defs₀ (F := F)) 𝒱₀ (c : Thread nD τ) none) Set.univ (k ⟨⟩) Q) :
    iprop(records X Y κ ∗ blocks X Y c a b d) ⊢ wp frame (wpE (defs₀ (F := F)) 𝒱₀ (c : Thread nD τ) none) Set.univ
      (.op (.enqueueDma (mo.slice (Rect.unit (s := S1024x8192) o₂ S128x8192.size i₂) (fun _ => rfl))
        (.here ((mst.slice (Rect.unit (s := S8x128x8192) o₃ S1x128x8192.size i₃) (fun _ => rfl)).squeeze S128x8192 squeezes_S1x128x8192_S128x8192))
        (.dma ((cc1_scratch1.slice (Rect.unit (s := S8) o₁ S1.size i₁)).squeeze S_ squeezes_S1_S_).sem) hsrc hdst hsem) k) Q := by
  have hs := sem_rin (f8 a) h₁ i₁
  subst h₂ h₃
  have hpay : iprop(owns (c : Thread nD τ) (tSq (f8 a)) fullShare (blk X Y c (f8 a)) ∗ owns (c : Thread nD τ) (vI (f8 a)) fullShare (blk X Y c (f8 a))) ⊢ pay X Y c 0 0 (.rin (f8 a)) := .rfl
  unfold blocks at hk ⊢
  rw [bigSep_Ico_succ_top hb] at hk
  rw [bigSep_Ico_succ_bot ha]
  iintro ⟨#Hr, Ho, HD, HC, HB, ⟨⟨⟨H1, H2, H3, H4⟩, H5⟩, HA⟩⟩
  iapply (copy_at X Y κ c (.rin (f8 a)) 0 (fun h => nomatch h) (by show 0 < 1; omega) hs rfl rfl fullShare (blk X Y c (f8 a)) (credit_t _) hpay) $$ [H1 H2 H3 H4]
  · isplitr; · iexact Hr
    isplitl [H1]; · iexact H1
    isplitl [H2]; · iexact H2
    isplitl [H3]; · iexact H3
    iexact H4
  iintro H1
  iapply hk
  isplitr; · iexact Hr
  isplitl [Ho]; · iexact Ho
  isplitl [HD]; · iexact HD
  isplitl [HC]; · iexact HC
  isplitl [HB H1 H5]
  · isplitl [H1 H5]
    · isplitl [H1]; · iexact H1
      iexact H5
    iexact HB
  iexact HA

/-- The next block is waited for and sent on. -/
theorem step_on (b d : ℕ) (hb : b < 8) (hd : d ≤ b) {o₁ o₄ : Fin 1 → ℕ} {o₂ : Fin 2 → ℕ} {o₃ : Fin 3 → ℕ} (h₁ : o₁ = ![(f8 b).val]) (h₄ : o₄ = ![(f8 b).val]) (h₂ : o₂ = ![128 * (f8 b).val, 0]) (h₃ : o₃ = ![(f8 b).val, 0, 0])
    {i₁ i₂ i₃ i₄} {hsrc} {hdst} {hsem} {sp : Space} {src : Memref sig .tc sp S128x8192 .f32} {hsrc'} {hdst'} {k : PUnit → Prog (TpuEff nD τ sig (Elt F) Λ₀ .tc) PUnit}
    (hk : iprop(records X Y κ ∗ blocks X Y c 8 (b + 1) d) ⊢ wp frame (wpE (defs₀ (F := F)) 𝒱₀ (c : Thread nD τ) none) Set.univ (k ⟨⟩) Q) :
    iprop(records X Y κ ∗ blocks X Y c 8 b d) ⊢ wp frame (wpE (defs₀ (F := F)) 𝒱₀ (c : Thread nD τ) none) Set.univ
      (.op (.waitDma2 ((cc1_scratch1.slice (Rect.unit (s := S8) o₁ S1.size i₁)).squeeze S_ squeezes_S1_S_).sem src
          ((mst.slice (Rect.unit (s := S8x128x8192) o₃ S1x128x8192.size i₃) (fun _ => rfl)).squeeze S128x8192 squeezes_S1x128x8192_S128x8192) hsrc' hdst') fun _ =>
        .op (.enqueueDma ((mst.slice (Rect.unit (s := S8x128x8192) o₃ S1x128x8192.size i₃) (fun _ => rfl)).squeeze S128x8192 squeezes_S1x128x8192_S128x8192)
          (.here (mq.slice (Rect.unit (s := S1024x8192) o₂ S128x8192.size i₂) (fun _ => rfl)))
          (.dma ((cc1_scratch2.slice (Rect.unit (s := S8) o₄ S1.size i₄)).squeeze S_ squeezes_S1_S_).sem) hsrc hdst hsem) k) Q := by
  have hs := sem_rin (f8 b) h₁ i₁
  have hs' := sem_rout (f8 b) h₄ i₄
  subst h₂ h₃
  have hpay : iprop(owns (c : Thread nD τ) (vO (f8 b)) fullShare (blk X Y c (f8 b)) ∗ owns (c : Thread nD τ) (tSq (f8 b)) fullShare (blk X Y c (f8 b))) ⊢ pay X Y c 0 0 (.rout (f8 b)) := .rfl
  have hgot : pay X Y c 0 0 (.rin (f8 b)) ⊢ iprop(owns (c : Thread nD τ) (tSq (f8 b)) fullShare (blk X Y c (f8 b)) ∗ owns (c : Thread nD τ) (vI (f8 b)) fullShare (blk X Y c (f8 b))) := .rfl
  unfold blocks at hk ⊢
  rw [bigSep_Ico_succ_top hd] at hk
  rw [bigSep_Ico_succ_bot hb]
  iintro ⟨#Hr, Ho, HD, HC, ⟨⟨HB, ⟨H1, H2, H3⟩⟩, HBs⟩, HA⟩
  iapply (wait_z X Y κ c (.rin (f8 b)) 0 (fun h => nomatch h) (by show 0 < 1; omega) _ hs (credit_t _)) $$ [Ho HB]
  · isplitr; · iexact Hr
    isplitl [HB]; · iexact HB
    iexact Ho
  iintro ⟨Ho, Hi, Hp⟩
  ihave Hp := hgot $$ Hp
  icases Hp with ⟨Ht, Hv⟩
  iapply (copy_at X Y κ c (.rout (f8 b)) 0 (fun h => nomatch h) (by show 0 < 1; omega) hs' rfl rfl fullShare (blk X Y c (f8 b)) (credit_v' _) hpay) $$ [Ht H1 H2 H3]
  · isplitr; · iexact Hr
    isplitl [Ht]; · iexact Ht
    isplitl [H3]; · iexact H3
    isplitl [H1]; · iexact H1
    iexact H2
  iintro H1
  iapply hk
  isplitr; · iexact Hr
  isplitl [Ho]; · iexact Ho
  isplitl [HD]; · iexact HD
  isplitl [HC Hi Hv H1]
  · isplitl [Hi Hv H1]
    · isplitl [Hi Hv]
      · isplitl [Hi]
        · unfold idle
          icases Hi with ⟨Hi, -⟩
          iexact Hi
        iexact Hv
      iexact H1
    iexact HC
  isplitl [HBs]; · iexact HBs
  iexact HA

/-- The next block is in its place. -/
theorem step_out (d : ℕ) (hd : d < 8) {o₁ : Fin 1 → ℕ} (h₁ : o₁ = ![(f8 d).val])
    {i₁} {sp : Space} {src : Memref sig .tc sp S128x8192 .f32} {o₂ : Fin 2 → ℕ} (h₂ : o₂ = ![128 * (f8 d).val, 0]) {i₂} {hsrc} {hdst} {k : PUnit → Prog (TpuEff nD τ sig (Elt F) Λ₀ .tc) PUnit}
    (hk : iprop(records X Y κ ∗ blocks X Y c 8 8 (d + 1)) ⊢ wp frame (wpE (defs₀ (F := F)) 𝒱₀ (c : Thread nD τ) none) Set.univ (k ⟨⟩) Q) :
    iprop(records X Y κ ∗ blocks X Y c 8 8 d) ⊢ wp frame (wpE (defs₀ (F := F)) 𝒱₀ (c : Thread nD τ) none) Set.univ
      (.op (.waitDma2 ((cc1_scratch2.slice (Rect.unit (s := S8) o₁ S1.size i₁)).squeeze S_ squeezes_S1_S_).sem src
          (mq.slice (Rect.unit (s := S1024x8192) o₂ S128x8192.size i₂) (fun _ => rfl)) hsrc hdst) k) Q := by
  have hs := sem_rout (f8 d) h₁ i₁
  subst h₂
  have hgot : pay X Y c 0 0 (.rout (f8 d)) ⊢ iprop(owns (c : Thread nD τ) (vO (f8 d)) fullShare (blk X Y c (f8 d)) ∗ owns (c : Thread nD τ) (tSq (f8 d)) fullShare (blk X Y c (f8 d))) := .rfl
  unfold blocks at hk ⊢
  rw [bigSep_Ico_succ_top (Nat.zero_le d)] at hk
  rw [bigSep_Ico_succ_bot hd]
  iintro ⟨#Hr, Ho, HD, ⟨⟨⟨HI, HO⟩, HC⟩, HB, HA⟩⟩
  iapply (wait_z X Y κ c (.rout (f8 d)) 0 (fun h => nomatch h) (by show 0 < 1; omega) _ hs (credit_v' _)) $$ [Ho HO]
  · isplitr; · iexact Hr
    isplitl [HO]; · iexact HO
    iexact Ho
  iintro ⟨Ho, Hi, Hp⟩
  ihave Hp := hgot $$ Hp
  icases Hp with ⟨Hv, Ht⟩
  iapply hk
  isplitr; · iexact Hr
  isplitl [Ho]; · iexact Ho
  isplitl [HD HI Hi Hv Ht]
  · isplitl [HI Hi Hv Ht]
    · isplitl [HI]; · iexact HI
      isplitl [Hi]
      · unfold idle
        icases Hi with ⟨Hi, -⟩
        iexact Hi
      isplitl [Hv]; · iexact Hv
      iapply (any_intro (c : Thread nD τ) (tSq (f8 d)) (blk X Y c (f8 d))); iexact Ht
    iexact HD
  isplitl [HC]; · iexact HC
  isplitl [HB]; · iexact HB
  iexact HA
end

/-- The second call's body. -/
theorem wp_body1 :
    iprop(records X Y κ ∗ blocks X Y c 0 0 0)
      ⊢ wp frame (wpE (defs₀ (F := F)) 𝒱₀ (c : Thread nD τ) none) Set.univ
          (cc1_body mo (Memref.isWhole_whole _) mq (Memref.isWhole_whole _) mst (Memref.isWhole_whole _) cc1_scratch1 cc1_scratch2) (fun _ => blocks X Y c 8 8 8) := by
  rw [cc1_body_eq_skeleton]
  unfold cc1_body_skel
  rw [k1_part1_eq_skeleton, k1_part2_eq_skeleton, k1_part3_eq_skeleton, k1_part4_eq_skeleton, k1_part5_eq_skeleton, k1_part6_eq_skeleton]
  unfold k1_part1_skel k1_part2_skel k1_part3_skel k1_part4_skel k1_part5_skel k1_part6_skel
  simp only [Prog.lift, Prog.bind_op, Prog.bind_ret, Prog.pure_eq_ret]
  refine step_in X Y κ c 0 0 0 (by omega) (by omega) rfl rfl rfl ?_
  refine step_in X Y κ c 1 0 0 (by omega) (by omega) rfl rfl rfl ?_
  refine step_in X Y κ c 2 0 0 (by omega) (by omega) rfl rfl rfl ?_
  refine step_in X Y κ c 3 0 0 (by omega) (by omega) rfl rfl rfl ?_
  refine step_in X Y κ c 4 0 0 (by omega) (by omega) rfl rfl rfl ?_
  refine step_in X Y κ c 5 0 0 (by omega) (by omega) rfl rfl rfl ?_
  refine step_in X Y κ c 6 0 0 (by omega) (by omega) rfl rfl rfl ?_
  refine step_in X Y κ c 7 0 0 (by omega) (by omega) rfl rfl rfl ?_
  refine step_on X Y κ c 0 0 (by omega) (by omega) rfl rfl rfl rfl ?_
  refine step_on X Y κ c 1 0 (by omega) (by omega) rfl rfl rfl rfl ?_
  refine step_on X Y κ c 2 0 (by omega) (by omega) rfl rfl rfl rfl ?_
  refine step_on X Y κ c 3 0 (by omega) (by omega) rfl rfl rfl rfl ?_
  refine step_on X Y κ c 4 0 (by omega) (by omega) rfl rfl rfl rfl ?_
  refine step_on X Y κ c 5 0 (by omega) (by omega) rfl rfl rfl rfl ?_
  refine step_on X Y κ c 6 0 (by omega) (by omega) rfl rfl rfl rfl ?_
  refine step_on X Y κ c 7 0 (by omega) (by omega) rfl rfl rfl rfl ?_
  refine step_out X Y κ c 0 (by omega) rfl rfl ?_
  refine step_out X Y κ c 1 (by omega) rfl rfl ?_
  refine step_out X Y κ c 2 (by omega) rfl rfl ?_
  refine step_out X Y κ c 3 (by omega) rfl rfl ?_
  refine step_out X Y κ c 4 (by omega) rfl rfl ?_
  refine step_out X Y κ c 5 (by omega) rfl rfl ?_
  refine step_out X Y κ c 6 (by omega) rfl rfl ?_
  refine step_out X Y κ c 7 (by omega) rfl rfl ?_
  rw [wp_ret]
  iintro ⟨-, H⟩
  imodintro
  iexact H

end Cert.KernelIdeal.P
-- ==== Proof.KI.Begin.lean ====
/-
  The cells of each call, opened when it begins and closed when it ends; what a call's body starts from and
  leaves, in whole buffers.
-/
module

public import proofs.«01_k».proof.Proof.KI.Rest
public import proofs.«01_k».proof.Proof.KI.Body1

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

/-! ## The cells of a call -/

/-- Names of the first call's own cells. -/
abbrev K0 : Type := Unit ⊕ Fin 2 ⊕ Fin 2 ⊕ Fin 16 ⊕ Fin 16 ⊕ Fin 16 ⊕ Fin 16
/-- Names of the second call's cells. -/
abbrev K1 : Type := Fin 8 ⊕ Fin 8
/-- The first call's own cells. -/
def c0 : K0 → Cell
  | .inl _ => .x | .inr (.inl b) => .dy b | .inr (.inr (.inl b)) => .out b | .inr (.inr (.inr (.inl k))) => .ys k
  | .inr (.inr (.inr (.inr (.inl k)))) => .yr k | .inr (.inr (.inr (.inr (.inr (.inl k))))) => .xs k | .inr (.inr (.inr (.inr (.inr (.inr k))))) => .xr k
/-- The second call's own cells. -/
def c1 : K1 → Cell
  | .inl k => .rin k | .inr k => .rout k

/-- A list over the sixteen chunks, and one over the eight blocks. -/
abbrev l16 (Φ : ℕ → sProp (MT nD τ sig Unit (Elt F) ℕ UU ℕ)) : sProp (MT nD τ sig Unit (Elt F) ℕ UU ℕ) := bigSep (Finset.Ico 0 16) Φ
/-- A product over the eight blocks, by number. -/
abbrev l8 (Φ : ℕ → sProp (MT nD τ sig Unit (Elt F) ℕ UU ℕ)) : sProp (MT nD τ sig Unit (Elt F) ℕ UU ℕ) := bigSep (Finset.Ico 0 8) Φ

/-- Something of every cell of the first call. -/
def cells0 (Φ : Cell → sProp (MT nD τ sig Unit (Elt F) ℕ UU ℕ)) : sProp (MT nD τ sig Unit (Elt F) ℕ UU ℕ) :=
  iprop(Φ .x ∗ (Φ (.dy 0) ∗ Φ (.dy 1)) ∗ (Φ (.out 0) ∗ Φ (.out 1)) ∗ l16 (fun k => Φ (.ys (f16 k))) ∗ l16 (fun k => Φ (.yr (f16 k)))
    ∗ l16 (fun k => Φ (.xs (f16 k))) ∗ l16 (fun k => Φ (.xr (f16 k))))
/-- Something of every cell of the second call. -/
def cells1 (Φ : Cell → sProp (MT nD τ sig Unit (Elt F) ℕ UU ℕ)) : sProp (MT nD τ sig Unit (Elt F) ℕ UU ℕ) :=
  iprop(l8 (fun k => Φ (.rin (f8 k))) ∗ l8 (fun k => Φ (.rout (f8 k))))

/-- The eight blocks, by number. -/
theorem bigSep_f8 (Φ : Fin 8 → sProp (MT nD τ sig Unit (Elt F) ℕ UU ℕ)) : bigSep Finset.univ Φ = bigSep (Finset.Ico 0 8) fun k => Φ (f8 k) := by
  rw [← bigSep_image_of_injOn (f := f8) (s := Finset.Ico 0 8)]
  · congr 1
  · intro a ha b hb h
    have := congrArg Fin.val h
    rwa [f8_val a (Finset.mem_Ico.mp ha).2, f8_val b (Finset.mem_Ico.mp hb).2] at this

/-- A product over the one-element type is its one factor. -/
theorem bigSep_unit (Φ : Unit → sProp (MT nD τ sig Unit (Elt F) ℕ UU ℕ)) : bigSep Finset.univ Φ = Φ () := by
  rw [Finset.univ_unique, bigSep_singleton]

/-- A product over the first call's own cells, written out by kind of cell. -/
theorem cells0_eq (Φ : Cell → sProp (MT nD τ sig Unit (Elt F) ℕ UU ℕ)) : bigSep Finset.univ (fun k => Φ (c0 k)) = cells0 Φ := by
  rw [bigSep_univ_sum, bigSep_univ_sum, bigSep_univ_sum, bigSep_univ_sum, bigSep_univ_sum, bigSep_univ_sum, bigSep_unit, BI.bigSep_fin_two, BI.bigSep_fin_two,
    bigSep_f16, bigSep_f16, bigSep_f16, bigSep_f16]
  rfl
/-- A product over the second call's cells, written out by kind of cell. -/
theorem cells1_eq (Φ : Cell → sProp (MT nD τ sig Unit (Elt F) ℕ UU ℕ)) : bigSep Finset.univ (fun k => Φ (c1 k)) = cells1 Φ := by
  rw [bigSep_univ_sum, bigSep_f8, bigSep_f8]
  rfl

section
variable {K : Type} [Fintype K] (x : K → Cell)

/-- Counters at zero go into their cells. -/
theorem open_all : iprop(records X Y κ ∗ (bigSep Finset.univ fun k => openTok ER (gc c (x k))) ∗ bigSep Finset.univ fun k => semVal (gc c (x k)) 0)
    ⊢ (|={Set.univ}=> bigSep Finset.univ fun k => idle c (x k) 0 : sProp 𝕄) := by
  classical
  rw [← bigSep_sep']
  refine BIBase.Entails.trans ?_ (bigSep_fupd Finset.univ _)
  refine bigSep_with_persistent fun k _ => (show iprop(records X Y κ ∗ openTok ER (gc c (x k)) ∗ semVal (gc c (x k)) 0) ⊢ (|={Set.univ}=> idle c (x k) 0 : sProp 𝕄) from ?_)
  iintro ⟨#Hr, Ho, Hs⟩
  iapply (Rounds.cell_open ER (Rd X Y) (g := gc c (x k)) (Set.mem_univ (κ (gc c (x k)))))
  isplitr; · iapply (inv_at X Y κ c (x k)); iexact Hr
  isplitl [Ho]; · iexact Ho
  iexact Hs

/-- Past their last rounds the counters are back at zero. -/
theorem close_all : iprop(records X Y κ ∗ bigSep Finset.univ fun k => atPos ER (gc c (x k)) (rounds (x k)) ∅ 0)
    ⊢ (|={Set.univ}=> bigSep Finset.univ fun k => semVal (gc c (x k)) 0 : sProp 𝕄) := by
  classical
  exact (bigSep_with_persistent fun k _ => close_cell X Y κ c (x k)).trans (bigSep_fupd Finset.univ _)
end

/-! ## The first call -/

/-- A product over the two column halves is the device's own half and its neighbour's. -/
theorem two_xh (Φ : Fin 2 → sProp (MT nD τ sig Unit (Elt F) ℕ UU ℕ)) : bigSep Finset.univ Φ = iprop(Φ (xh c) ∗ Φ (xh (xnb c))) := by
  have h : (Finset.univ : Finset (Fin 2)) = {xh c, xh (xnb c)} := by revert c; decide
  have hn : xh c ∉ ({xh (xnb c)} : Finset (Fin 2)) := by revert c; decide
  rw [h, bigSep_insert hn, bigSep_singleton]; rfl

/-- The rights to pay the first call's rounds that device `c` pays. -/
def toks0 : sProp (MT nD τ sig Unit (Elt F) ℕ UU ℕ) :=
  iprop((dutyTok ER (gc (ynb c) .bar) 0 0 ∗ dutyTok ER (gc (xnb c) .bar) 0 1) ∗ dutyTok ER (gc c .x) 0 0
    ∗ l16 (fun k => dutyTok ER (gc c (.dy (f2 k))) (k / 2) 0) ∗ l16 (fun k => dutyTok ER (gc c (.out (f2 k))) (k / 2) 0)
    ∗ l16 (fun k => dutyTok ER (gc c (.ys (f16 k))) 0 0) ∗ l16 (fun k => dutyTok ER (gc (ynb c) (.yr (f16 k))) 0 0)
    ∗ l16 (fun k => dutyTok ER (gc c (.xs (f16 k))) 0 0) ∗ l16 (fun k => dutyTok ER (gc (xnb c) (.xr (f16 k))) 0 0))
/-- The rights to wait for what other devices pay. -/
def creds0 : sProp (MT nD τ sig Unit (Elt F) ℕ UU ℕ) :=
  iprop(cred (tallyAt (gc c .bar) () 2) ∗ l16 (fun k => cred (tallyAt (gc c (.yr (f16 k))) () (amt (.yr (f16 k)))))
    ∗ l16 (fun k => cred (tallyAt (gc c (.xr (f16 k))) () (amt (.xr (f16 k))))))
/-- The columns of the right operand the device's first coordinate leaves out. -/
def otherDy : sProp (MT nD τ sig Unit (Elt F) ℕ UU ℕ) :=
  bigSep Finset.univ fun k => owns (c : Thread nD τ) (dyW (xh (xnb c)) k) fullShare (fun j => Y c ((dyR (xh (xnb c)) k).emb j))
/-- The buffers of the first call, its scratch free. -/
def scratch0 : sProp (MT nD τ sig Unit (Elt F) ℕ UU ℕ) :=
  iprop(anyOf (c : Thread nD τ) mxv ∗ anyOf (c : Thread nD τ) mdb ∗ anyOf (c : Thread nD τ) mp ∗ anyOf (c : Thread nD τ) my ∗ anyOf (c : Thread nD τ) mr)

/-! The buffers by the pieces the body moves: the column halves, the slots, the chunks. -/

/-- The right operand is the sixteen chunks of the device's own half of the columns, and the other half. -/
theorem dy_halves : owns (c : Thread nD τ) mdy fullShare (Y c) = (iprop(l16 (fun k => owns (c : Thread nD τ) (dyW (xh c) (f16 k)) fullShare (chunk Y c (f16 k))) ∗ otherDy Y c) : sProp 𝕄) := by
  rw [owns_dy, two_xh c, bigSep_f16]
  rfl
/-- The result is the sixteen chunks of the device's own half of the columns and the sixteen of the other. -/
theorem o_halves : anyOf (c : Thread nD τ) mo = (iprop(l16 (fun k => anyOf (c : Thread nD τ) (oW (xh c) (f16 k))) ∗ l16 (fun k => anyOf (c : Thread nD τ) (oW (xh (xnb c)) (f16 k)))) : sProp 𝕄) := by
  rw [any_o, two_xh c, bigSep_f16, bigSep_f16]
/-- The buffer of column chunks is its two slots. -/
theorem db_slots : anyOf (c : Thread nD τ) mdb = (iprop(anyOf (c : Thread nD τ) (dS 0) ∗ anyOf (c : Thread nD τ) (dS 1)) : sProp 𝕄) := by
  rw [any_db, BI.bigSep_fin_two]
  rfl
/-- The buffer of reduced chunks is its two slots. -/
theorem r_slots : anyOf (c : Thread nD τ) mr = (iprop(anyOf (c : Thread nD τ) (rS 0) ∗ anyOf (c : Thread nD τ) (rS 1)) : sProp 𝕄) := by
  rw [any_r, BI.bigSep_fin_two]
  rfl
/-- The receive buffer is its sixteen slots. -/
theorem y_slots : anyOf (c : Thread nD τ) my = (l16 (fun k => anyOf (c : Thread nD τ) (yS (f16 k))) : sProp 𝕄) := by
  rw [any_y, bigSep_f16]
/-- The buffer of partial products is two slots, each of a half of rows that the device keeps and one that it sends. -/
theorem p_slots : anyOf (c : Thread nD τ) mp = (iprop((anyOf (c : Thread nD τ) (pH 0 (yb c)) ∗ anyOf (c : Thread nD τ) (pH 0 (yb (ynb c))))
    ∗ (anyOf (c : Thread nD τ) (pH 1 (yb c)) ∗ anyOf (c : Thread nD τ) (pH 1 (yb (ynb c))))) : sProp 𝕄) := by
  rw [any_p, BI.bigSep_fin_two]
  rfl

/-- What the first call's body starts from. -/
theorem begin0 : iprop(owing c (O₀ c) ∗ (atPos ER (gc c .bar) 0 ∅ 0 ∗ creds0 c ∗ toks0 c ∗ cells0 (fun x => idle c x 0))
      ∗ (owns (c : Thread nD τ) mx fullShare (X c) ∗ owns (c : Thread nD τ) mdy fullShare (Y c) ∗ anyOf (c : Thread nD τ) mo) ∗ scratch0 c)
    ⊢ (iprop(start X Y c ∗ xrS X Y c 0 ∗ otherDy Y c) : sProp 𝕄) := by
  have e1 : bigSep (Finset.Ico 0 16) (dyR' Y c) = iprop(l16 (fun k => dutyTok ER (gc c (.dy (f2 k))) (k / 2) 0)
      ∗ l16 (fun k => (owns (c : Thread nD τ) (dyW (xh c) (f16 k)) fullShare (chunk Y c (f16 k)) : sProp 𝕄))) := by
    rw [← bigSep_sep']
  have e2 : bigSep (Finset.Ico 0 16) (ysR₀ (F := F) c) = iprop(l16 (fun k => dutyTok ER (gc c (.ys (f16 k))) 0 0) ∗ l16 (fun k => idle c (.ys (f16 k)) 0)
      ∗ l16 (fun k => dutyTok ER (gc (ynb c) (.yr (f16 k))) 0 0)) := by
    rw [← bigSep_sep', ← bigSep_sep']
  have e3 : bigSep (Finset.Ico 0 16) (oR₀ (F := F) c) = iprop(l16 (fun k => dutyTok ER (gc c (.xs (f16 k))) 0 0) ∗ l16 (fun k => idle c (.xs (f16 k)) 0)
      ∗ l16 (fun k => dutyTok ER (gc (xnb c) (.xr (f16 k))) 0 0) ∗ l16 (fun k => dutyTok ER (gc c (.out (f2 k))) (k / 2) 0)
      ∗ l16 (fun k => anyOf (c : Thread nD τ) (oW (xh c) (f16 k)))) := by
    rw [← bigSep_sep', ← bigSep_sep', ← bigSep_sep', ← bigSep_sep']
  have e4 (x : ℕ → Cell) : bigSep (Finset.Ico 0 16) (fun k => fl (F := F) c (x k) 0) = iprop(l16 (fun k => atPos ER (gc c (x k)) 0 ∅ 0) ∗ l16 (fun k => cred (tallyAt (gc c (x k)) () (amt (x k))))) := by
    rw [← bigSep_sep']; rfl
  have e5 (x : ℕ → Cell) : bigSep (Finset.Ico 0 16) (fun k => idle (F := F) c (x k) 0) = iprop(l16 (fun k => atPos ER (gc c (x k)) 0 ∅ 0) ∗ l16 (fun k => reached ER (gc c (x k)) 0)) := by
    rw [← bigSep_sep']; rfl
  have e6 : barY (F := F) (ynb c) = iprop(l16 (fun k => anyOf (c : Thread nD τ) (yS (f16 k))) ∗ l16 (fun k => reached ER (gc c (.yr (f16 k))) 0)) := by
    unfold barY
    rw [ynb_ynb, bigSep_f16, ← bigSep_sep']
    exact bigSep_congr fun k _ => by rw [any_ySq]
  have e7 : barX (F := F) (xnb c) = iprop(l16 (fun k => anyOf (c : Thread nD τ) (oW (xh (xnb c)) (f16 k))) ∗ l16 (fun k => reached ER (gc c (.xr (f16 k))) 0)) := by
    unfold barX
    rw [xnb_xnb, bigSep_f16, ← bigSep_sep']
  have e9 (A B R : ℕ → sProp (MT nD τ sig Unit (Elt F) ℕ UU ℕ)) : l16 R ⊢ stage A B R 0 0 := by
    unfold stage
    rw [Finset.Ico_self, bigSep_empty, bigSep_empty]
    iintro H
    isplitr; · iempintro
    isplitr; · iempintro
    iexact H
  have e8 : theirsS (F := F) c 0 = iprop(theirs c 0 ∗ theirs c 1) := by
    unfold theirsS
    rw [bigSep_Ico_succ_bot (by omega), bigSep_Ico_one]
  have e8' : freeS (F := F) c 0 = iprop(free c 0 ∗ free c 1) := by
    unfold freeS
    rw [bigSep_Ico_succ_bot (by omega), bigSep_Ico_one]
  unfold start cells0 creds0 toks0 scratch0
  iintro ⟨Ho, ⟨Hb, ⟨Cb, Cy, Cx⟩, ⟨Tb, Tx, Td, To, Tys, Tyr, Txs, Txr⟩, ⟨Ix, ⟨Id0, Id1⟩, ⟨Io0, Io1⟩, Iys, Iyr, Ixs, Ixr⟩⟩, ⟨Bx, By, Bo⟩, ⟨Bxv, Bd, Bp, Byr, Br⟩⟩
  ihave Iyr := (Entails.of_eq (e5 (fun k => .yr (f16 k)))) $$ Iyr
  icases Iyr with ⟨Ayr, Ryr⟩
  ihave Ixr := (Entails.of_eq (e5 (fun k => .xr (f16 k)))) $$ Ixr
  icases Ixr with ⟨Axr, Rxr⟩
  ihave By := (Entails.of_eq (dy_halves Y c)) $$ By
  icases By with ⟨By, By'⟩
  ihave Bo := (Entails.of_eq (o_halves c)) $$ Bo
  icases Bo with ⟨Bo, Bo'⟩
  ihave Bd := (Entails.of_eq (db_slots c)) $$ Bd
  icases Bd with ⟨Bd0, Bd1⟩
  ihave Bp := (Entails.of_eq (p_slots c)) $$ Bp
  icases Bp with ⟨⟨Bm0, Bt0⟩, ⟨Bm1, Bt1⟩⟩
  ihave Byr := (Entails.of_eq (y_slots c)) $$ Byr
  ihave Br := (Entails.of_eq (r_slots c)) $$ Br
  icases Br with ⟨Br0, Br1⟩
  isplitl [Ho Hb Cb Cy Tb Tx Td To Tys Tyr Txs Txr Ix Id0 Id1 Io0 Io1 Iys Ayr Ryr Ixs Rxr Bx By Bo Bo' Bxv Bd0 Bd1 Bm0 Bt0 Bm1 Bt1 Byr Br0 Br1]
  · isplitl [Ho]; · iexact Ho
    isplitl [Hb Cb Tb]
    · isplitl [Cb]; · iexact Cb
      isplitl [Hb]; · iexact Hb
      iexact Tb
    isplitl [Byr Ryr Bo' Rxr]
    · isplitl [Byr Ryr]
      · iapply (Entails.of_eq e6.symm)
        isplitl [Byr]; · iexact Byr
        iexact Ryr
      iapply (Entails.of_eq e7.symm)
      isplitl [Bo']; · iexact Bo'
      iexact Rxr
    isplitl [Tx Ix Bx Bxv]
    · isplitl [Tx]; · iexact Tx
      isplitl [Ix]; · iexact Ix
      isplitl [Bx]; · iexact Bx
      iexact Bxv
    isplitl [Td By Id0 Id1 Bd0 Bd1]
    · isplitl [Td By]
      · iapply (e9 (dyD Y c) (fun _ => iprop(emp)) (dyR' Y c))
        iapply (Entails.of_eq e1.symm)
        isplitl [Td]; · iexact Td
        iexact By
      isplitl [Id0 Bd0]
      · isplitl [Id0]; · iexact Id0
        iexact Bd0
      isplitl [Id1]; · iexact Id1
      iexact Bd1
    isplitl [Tys Iys Tyr Bt0 Bt1 Bm0 Bm1]
    · isplitl [Tys Iys Tyr]
      · iapply (Entails.of_eq e2.symm)
        isplitl [Tys]; · iexact Tys
        isplitl [Iys]; · iexact Iys
        iexact Tyr
      isplitl [Bt0 Bt1]
      · iapply (Entails.of_eq e8.symm)
        isplitl [Bt0]; · iexact Bt0
        iexact Bt1
      isplitl [Bm0]; · iexact Bm0
      iexact Bm1
    isplitl [Ayr Cy]
    · iapply (e9 (yrD c) (yrR c) (yrR c))
      iapply (Entails.of_eq (e4 (fun k => .yr (f16 k))).symm)
      isplitl [Ayr]; · iexact Ayr
      iexact Cy
    isplitl [Txs Ixs Txr To Bo]
    · iapply (Entails.of_eq e3.symm)
      isplitl [Txs]; · iexact Txs
      isplitl [Ixs]; · iexact Ixs
      isplitl [Txr]; · iexact Txr
      isplitl [To]; · iexact To
      iexact Bo
    iapply (Entails.of_eq e8'.symm)
    isplitl [Io0 Br0]
    · isplitl [Io0]; · iexact Io0
      iexact Br0
    isplitl [Io1]; · iexact Io1
    iexact Br1
  isplitl [Axr Cx]
  · iapply (e9 (xrD X Y c) (xrR c) (xrR c))
    iapply (Entails.of_eq (e4 (fun k => .xr (f16 k))).symm)
    isplitl [Axr]; · iexact Axr
    iexact Cx
  iexact By'

end Cert.KernelIdeal.P
-- ==== Proof.KI.Finish.lean ====
/-
  What each call's body leaves, in whole buffers, with the counters of its cells back at zero; and what the second
  call's body starts from.
-/
module

public import proofs.«01_k».proof.Proof.KI.Begin

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

/-! ## The first call -/

/-- The finished result is the device's own reduced chunks and those that its neighbour sent. -/
theorem o_done : owns (c : Thread nD τ) mo fullShare (outV X Y c)
    = (iprop(l16 (fun k => owns (c : Thread nD τ) (oW (xh c) (f16 k)) fullShare (red2 X Y c (f16 k)))
        ∗ l16 (fun k => owns (c : Thread nD τ) (oW (xh (xnb c)) (f16 k)) fullShare (red2 X Y (xnb c) (f16 k)))) : sProp 𝕄) := by
  have h1 : colDev c (xh c) = c := if_pos rfl
  have h2 : colDev c (xh (xnb c)) = xnb c := if_neg (by revert c; decide)
  rw [owns_o, two_xh c, h1, h2, bigSep_f16, bigSep_f16]

/-- After the first call's body: its cells past their last rounds, its two operands as they were, the result
    complete, the scratch free. -/
theorem finish0 : iprop(ended X Y c ∗ otherDy Y c)
    ⊢ (iprop(owing c 0 ∗ atPos ER (gc c .bar) 1 ∅ 0 ∗ cells0 (fun x => atPos ER (gc c x) (rounds x) ∅ 0)
      ∗ (owns (c : Thread nD τ) mx fullShare (X c) ∗ owns (c : Thread nD τ) mdy fullShare (Y c) ∗ owns (c : Thread nD τ) mo fullShare (outV X Y c)) ∗ scratch0 c) : sProp 𝕄) := by
  have s1 (D Fl R : ℕ → sProp (MT nD τ sig Unit (Elt F) ℕ UU ℕ)) (b : ℕ) : stage D Fl R 16 b ⊢ l16 D := by
    unfold stage
    iintro ⟨H, -⟩
    iexact H
  have s2 (D E : ℕ → sProp (MT nD τ sig Unit (Elt F) ℕ UU ℕ)) : bigSep (Finset.Ico 0 16) (fun k => iprop(D k ∗ E k)) ⊢ iprop(l16 D ∗ l16 E) :=
    Entails.of_eq (bigSep_sep' _ _ _)
  have d16 : dyC (F := F) c 16 = iprop((atPos ER (gc c (.dy 0)) 8 ∅ 0 ∗ reached ER (gc c (.dy 0)) 8) ∗ anyOf (c : Thread nD τ) (dS 0)) := by
    unfold dyC; rw [if_neg (by omega)]; rfl
  have d17 : dyI (F := F) c 17 = iprop((atPos ER (gc c (.dy 1)) 8 ∅ 0 ∗ reached ER (gc c (.dy 1)) 8) ∗ anyOf (c : Thread nD τ) (dS 1)) := rfl
  have o16 : free (F := F) c 16 = iprop((atPos ER (gc c (.out 0)) 8 ∅ 0 ∗ reached ER (gc c (.out 0)) 8) ∗ anyOf (c : Thread nD τ) (rS 0)) := rfl
  have o17 : free (F := F) c 17 = iprop((atPos ER (gc c (.out 1)) 8 ∅ 0 ∗ reached ER (gc c (.out 1)) 8) ∗ anyOf (c : Thread nD τ) (rS 1)) := rfl
  unfold ended keep cells0 scratch0
  iintro ⟨⟨Hb, Ho, ⟨⟨Ax, Bxv, Bx⟩, ⟨Hd0, Hd1, Hd⟩, -, Hm0, -⟩, ⟨Hys, Ht0, Ht1⟩, Hm1, Hyr, ⟨Hos, Hf0, Hf1⟩, Hxr⟩, Hoth⟩
  ihave Hd0 := (Entails.of_eq d16) $$ Hd0
  icases Hd0 with ⟨⟨Ad0, -⟩, Bd0⟩
  ihave Hd1 := (Entails.of_eq d17) $$ Hd1
  icases Hd1 with ⟨⟨Ad1, -⟩, Bd1⟩
  ihave Hf0 := (Entails.of_eq o16) $$ Hf0
  icases Hf0 with ⟨⟨Ao0, -⟩, Br0⟩
  ihave Hf1 := (Entails.of_eq o17) $$ Hf1
  icases Hf1 with ⟨⟨Ao1, -⟩, Br1⟩
  ihave Hd := (s1 _ _ _ 17) $$ Hd
  ihave Hys := (s1 _ _ _ 16) $$ Hys
  ihave Hyr := (s1 _ _ _ 16) $$ Hyr
  ihave Hyr := (s2 (fun k => atPos ER (gc c (.yr (f16 k))) 1 ∅ 0) (fun k => anyOf (c : Thread nD τ) (yS (f16 k)))) $$ Hyr
  icases Hyr with ⟨Ayr, Byr⟩
  ihave Hos := (s1 _ _ _ 16) $$ Hos
  ihave Hos := (s2 (fun k => atPos ER (gc c (.xs (f16 k))) 1 ∅ 0) (fun k => owns (c : Thread nD τ) (oW (xh c) (f16 k)) fullShare (red2 X Y c (f16 k)))) $$ Hos
  icases Hos with ⟨Axs, Bo⟩
  ihave Hxr := (s1 _ _ _ 16) $$ Hxr
  ihave Hxr := (s2 (fun k => atPos ER (gc c (.xr (f16 k))) 1 ∅ 0) (fun k => owns (c : Thread nD τ) (oW (xh (xnb c)) (f16 k)) fullShare (red2 X Y (xnb c) (f16 k)))) $$ Hxr
  icases Hxr with ⟨Axr, Bo'⟩
  isplitl [Ho]; · iexact Ho
  isplitl [Hb]; · iexact Hb
  isplitl [Ax Ad0 Ad1 Ao0 Ao1 Hys Ayr Axs Axr]
  · isplitl [Ax]; · iexact Ax
    isplitl [Ad0 Ad1]
    · isplitl [Ad0]; · iexact Ad0
      iexact Ad1
    isplitl [Ao0 Ao1]
    · isplitl [Ao0]; · iexact Ao0
      iexact Ao1
    isplitl [Hys]; · iexact Hys
    isplitl [Ayr]; · iexact Ayr
    isplitl [Axs]; · iexact Axs
    iexact Axr
  isplitl [Bx Hd Hoth Bo Bo']
  · isplitl [Bx]; · iexact Bx
    isplitl [Hd Hoth]
    · iapply (Entails.of_eq (dy_halves Y c).symm)
      isplitl [Hd]; · iexact Hd
      iexact Hoth
    iapply (Entails.of_eq (o_done X Y c).symm)
    isplitl [Bo]; · iexact Bo
    iexact Bo'
  isplitl [Bxv]; · iapply (any_intro (c : Thread nD τ) mxv (X c)); iexact Bxv
  isplitl [Bd0 Bd1]
  · iapply (Entails.of_eq (db_slots c).symm)
    isplitl [Bd0]; · iexact Bd0
    iexact Bd1
  isplitl [Hm0 Hm1 Ht0 Ht1]
  · iapply (Entails.of_eq (p_slots c).symm)
    isplitl [Hm0 Ht0]
    · isplitl [Hm0]; · iexact Hm0
      iexact Ht0
    isplitl [Hm1]; · iexact Hm1
    iexact Ht1
  isplitl [Byr]; · iapply (Entails.of_eq (y_slots c).symm); iexact Byr
  iapply (Entails.of_eq (r_slots c).symm)
  isplitl [Br0]; · iexact Br0
  iexact Br1

/-! ## The second call -/

/-- The rights to pay the second call's rounds. -/
def toks1 : sProp (MT nD τ sig Unit (Elt F) ℕ UU ℕ) :=
  iprop(l8 (fun k => dutyTok ER (gc c (.rin (f8 k))) 0 0) ∗ l8 (fun k => dutyTok ER (gc c (.rout (f8 k))) 0 0))

/-- The first result, finished, is its eight blocks of rows. -/
theorem i_blocks : owns (c : Thread nD τ) mo fullShare (outV X Y c) = (l8 (fun k => owns (c : Thread nD τ) (vI (f8 k)) fullShare (blk X Y c (f8 k))) : sProp 𝕄) := by
  rw [owns_vI, bigSep_f8]
/-- The second result, finished, is its eight blocks of rows. -/
theorem o_blocks : owns (c : Thread nD τ) mq fullShare (outV X Y c) = (l8 (fun k => owns (c : Thread nD τ) (vO (f8 k)) fullShare (blk X Y c (f8 k))) : sProp 𝕄) := by
  rw [owns_vO, bigSep_f8]
/-- The second result at unknown contents is its eight blocks. -/
theorem o_any : anyOf (c : Thread nD τ) mq = (l8 (fun k => anyOf (c : Thread nD τ) (vO (f8 k))) : sProp 𝕄) := by
  rw [any_vO, bigSep_f8]
/-- The staging buffer is its eight slots. -/
theorem t_slots : anyOf (c : Thread nD τ) mst = (l8 (fun k => anyOf (c : Thread nD τ) (tSq (f8 k))) : sProp 𝕄) := by
  rw [any_st, bigSep_f8]
  exact bigSep_congr fun k _ => by rw [any_tSq]

/-- What the second call's body starts from. -/
theorem begin1 : iprop(owing c 0 ∗ (toks1 c ∗ cells1 (fun x => idle c x 0)) ∗ owns (c : Thread nD τ) mo fullShare (outV X Y c) ∗ anyOf (c : Thread nD τ) mq ∗ anyOf (c : Thread nD τ) mst)
    ⊢ (blocks X Y c 0 0 0 : sProp 𝕄) := by
  have e : bigSep (Finset.Ico 0 8) (rA X Y c) = iprop((l8 (fun k => owns (c : Thread nD τ) (vI (f8 k)) fullShare (blk X Y c (f8 k))) ∗ l8 (fun k => anyOf (c : Thread nD τ) (tSq (f8 k)))
      ∗ l8 (fun k => dutyTok ER (gc c (.rin (f8 k))) 0 0) ∗ l8 (fun k => idle c (.rin (f8 k)) 0)) ∗ l8 (fun k => dutyTok ER (gc c (.rout (f8 k))) 0 0) ∗ l8 (fun k => idle c (.rout (f8 k)) 0)
      ∗ l8 (fun k => anyOf (c : Thread nD τ) (vO (f8 k)))) := by
    rw [← bigSep_sep', ← bigSep_sep', ← bigSep_sep', ← bigSep_sep', ← bigSep_sep', ← bigSep_sep']
  unfold blocks
  rw [Finset.Ico_self, bigSep_empty, bigSep_empty, bigSep_empty, e]
  unfold toks1 cells1
  iintro ⟨Ho, ⟨⟨Ti, To⟩, ⟨Ii, Io⟩⟩, Bo, Bq, Bs⟩
  isplitl [Ho]; · iexact Ho
  isplitr; · iempintro
  isplitr; · iempintro
  isplitr; · iempintro
  isplitl [Bo Bs Ti Ii]
  · isplitl [Bo]; · iapply (Entails.of_eq (i_blocks X Y c)); iexact Bo
    isplitl [Bs]; · iapply (Entails.of_eq (t_slots c)); iexact Bs
    isplitl [Ti]; · iexact Ti
    iexact Ii
  isplitl [To]; · iexact To
  isplitl [Io]; · iexact Io
  iapply (Entails.of_eq (o_any c)); iexact Bq

/-- What the second call's body leaves. -/
theorem finish1 : blocks X Y c 8 8 8
    ⊢ (iprop(owing c 0 ∗ cells1 (fun x => atPos ER (gc c x) (rounds x) ∅ 0) ∗ owns (c : Thread nD τ) mo fullShare (outV X Y c)
      ∗ owns (c : Thread nD τ) mq fullShare (outV X Y c) ∗ anyOf (c : Thread nD τ) mst) : sProp 𝕄) := by
  have e : bigSep (Finset.Ico 0 8) (rD X Y c) = iprop((l8 (fun k => atPos ER (gc c (.rin (f8 k))) 1 ∅ 0) ∗ l8 (fun k => owns (c : Thread nD τ) (vI (f8 k)) fullShare (blk X Y c (f8 k))))
      ∗ l8 (fun k => atPos ER (gc c (.rout (f8 k))) 1 ∅ 0) ∗ l8 (fun k => owns (c : Thread nD τ) (vO (f8 k)) fullShare (blk X Y c (f8 k))) ∗ l8 (fun k => anyOf (c : Thread nD τ) (tSq (f8 k)))) := by
    rw [← bigSep_sep', ← bigSep_sep', ← bigSep_sep', ← bigSep_sep']
  unfold blocks cells1
  rw [e]
  iintro ⟨Ho, ⟨⟨Ai, Bo⟩, Ao, Bq, Bs⟩, -⟩
  isplitl [Ho]; · iexact Ho
  isplitl [Ai Ao]
  · isplitl [Ai]; · iexact Ai
    iexact Ao
  isplitl [Bo]; · iapply (Entails.of_eq (i_blocks X Y c).symm); iexact Bo
  isplitl [Bq]; · iapply (Entails.of_eq (o_blocks X Y c).symm); iexact Bq
  iapply (Entails.of_eq (t_slots c).symm); iexact Bs

end Cert.KernelIdeal.P
-- ==== Proof.KI.Calls.lean ====
/-
  Each call as a whole: the buffers, the positions and the tokens it takes, and what it gives back.
-/
module

public import proofs.«01_k».proof.Proof.KI.Finish
public import proofs.«01_k».proof.Proof.Gen.KernelIdeal.Regions

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

/-! ## The buffers between the calls -/

section
variable (m : (ℓ : Loc nD τ sig) → Buf (Elt F) ℓ)

/-- The left operand of every device at launch. -/
abbrev XX : Dev nD → Vec F S2048x2048 .f32 := fun c => m (c, main_arg0)
/-- The right operand of every device at launch. -/
abbrev YY : Dev nD → Vec F S2048x8192 .f32 := fun c => m (c, main_arg1)
/-- A device's buffers at launch, after the first call, and after the second. -/
abbrev W0 (c : Dev nD) : Valuation τ sig (Elt F) := fun b => m (c, b)
/-- The buffers after the first call. -/
def W1 (c : Dev nD) : Valuation τ sig (Elt F) := Function.update (W0 m c) main_v1 (outV (XX m) (YY m) c)
/-- The buffers after both calls. -/
def W2 (c : Dev nD) : Valuation τ sig (Elt F) := Function.update (W1 m c) main_v2 (outV (XX m) (YY m) c)

/-- After the first call the left operand is as at launch. -/
theorem W1_arg0 : W1 m c main_arg0 = XX m c := Function.update_of_ne (StableHlo.devRef_ne_of_ne (by decide)) _ _
/-- After the first call the right operand is as at launch. -/
theorem W1_arg1 : W1 m c main_arg1 = YY m c := Function.update_of_ne (StableHlo.devRef_ne_of_ne (by decide)) _ _
/-- After the first call its result is the reduced product. -/
theorem W1_v1 : W1 m c main_v1 = outV (XX m) (YY m) c := Function.update_self _ _ _
/-- After the first call the second call's result is still as at launch. -/
theorem W1_v2 : W1 m c main_v2 = m (c, main_v2) := Function.update_of_ne (StableHlo.devRef_ne_of_ne (by decide)) _ _
/-- After both calls the left operand is as at launch. -/
theorem W2_arg0 : W2 m c main_arg0 = XX m c := (Function.update_of_ne (StableHlo.devRef_ne_of_ne (by decide)) _ _).trans (W1_arg0 c m)
/-- After both calls the right operand is as at launch. -/
theorem W2_arg1 : W2 m c main_arg1 = YY m c := (Function.update_of_ne (StableHlo.devRef_ne_of_ne (by decide)) _ _).trans (W1_arg1 c m)
/-- After both calls the first result is the reduced product. -/
theorem W2_v1 : W2 m c main_v1 = outV (XX m) (YY m) c := (Function.update_of_ne (StableHlo.devRef_ne_of_ne (by decide)) _ _).trans (W1_v1 c m)
/-- After both calls the second result is the reduced product too. -/
theorem W2_v2 : W2 m c main_v2 = outV (XX m) (YY m) c := Function.update_self _ _ _

end

/-- The buffers held, one by one. -/
theorem held_uc (V : Valuation τ sig (Elt F)) : (StableHlo.held (c : Thread nD τ) (Pipeline.ucRefs τ sig) V : sProp 𝕄)
    = iprop(owns (c : Thread nD τ) mx fullShare (V main_arg0) ∗ owns (c : Thread nD τ) mdy fullShare (V main_arg1) ∗ owns (c : Thread nD τ) mo fullShare (V main_v1)
        ∗ owns (c : Thread nD τ) mq fullShare (V main_v2)) := by
  unfold StableHlo.held
  rw [bigSep_eq_bigSepL_of_eq [Proc.devRef .tc main_arg0, Proc.devRef .tc main_arg1, Proc.devRef .tc main_v1, Proc.devRef .tc main_v2] (by decide) (by decide),
    owns_whole, owns_whole, owns_whole, owns_whole]
  rfl

/-- The scratch buffers of both calls, at contents not chosen. -/
theorem rest_eq : (Pipeline.scopedRest (Ix := Unit) (Name := ℕ) (U := UU) (Lvl := ℕ) (Val := Elt F) (cfg0.spec) c : sProp 𝕄)
    = iprop(anyOf (c : Thread nD τ) mxv ∗ anyOf (c : Thread nD τ) mdb ∗ anyOf (c : Thread nD τ) mp ∗ anyOf (c : Thread nD τ) my ∗ anyOf (c : Thread nD τ) mr ∗ anyOf (c : Thread nD τ) mst) := by
  rw [scopedRest0_eq, any_whole, any_whole, any_whole, any_whole, any_whole, any_whole]
/-- The same of the second call: it lists the same buffers. -/
theorem rest_eq' : (Pipeline.scopedRest (Ix := Unit) (Name := ℕ) (U := UU) (Lvl := ℕ) (Val := Elt F) (cfg1.spec) c : sProp 𝕄)
    = iprop(anyOf (c : Thread nD τ) mxv ∗ anyOf (c : Thread nD τ) mdb ∗ anyOf (c : Thread nD τ) mp ∗ anyOf (c : Thread nD τ) my ∗ anyOf (c : Thread nD τ) mr ∗ anyOf (c : Thread nD τ) mst) := by
  rw [scopedRest1_eq, any_whole, any_whole, any_whole, any_whole, any_whole, any_whole]

/-! ## The first call -/

/-- The first call's semaphores. -/
abbrev osem0 (k : K0) : SemLoc sig := enc (c0 k)
/-- The second call's semaphores. -/
abbrev osem1 (k : K1) : SemLoc sig := enc (c1 k)

/-- What a device brings to the first call, its cells not open yet. -/
def T0 : sProp (MT nD τ sig Unit (Elt F) ℕ UU ℕ) :=
  iprop(∃ κ, records X Y κ ∗ atPos ER (gc c .bar) 0 ∅ 0 ∗ creds0 c ∗ toks0 c ∗ bigSep Finset.univ fun k : K0 => openTok ER (gc c (c0 k)))
/-- The same, its cells open. -/
def X0 : sProp (MT nD τ sig Unit (Elt F) ℕ UU ℕ) :=
  iprop(∃ κ, records X Y κ ∗ atPos ER (gc c .bar) 0 ∅ 0 ∗ creds0 c ∗ toks0 c ∗ cells0 (fun x => idle c x 0))
/-- What the first call leaves alone. -/
def side0 (V : Vec F S1024x8192 .f32) : sProp (MT nD τ sig Unit (Elt F) ℕ UU ℕ) :=
  iprop((∃ r, prngReg c r) ∗ anyOf (c : Thread nD τ) mst ∗ owns (c : Thread nD τ) mq fullShare V)
/-- All it is entered with, but what the core owes. -/
def pre0 (V : Vec F S1024x8192 .f32) : sProp (MT nD τ sig Unit (Elt F) ℕ UU ℕ) :=
  iprop(X0 X Y c ∗ (owns (c : Thread nD τ) mx fullShare (X c) ∗ owns (c : Thread nD τ) mdy fullShare (Y c) ∗ anyOf (c : Thread nD τ) mo) ∗ scratch0 c ∗ side0 c V)
/-- All it is left with, but what the core owes. -/
def post0 (V : Vec F S1024x8192 .f32) : sProp (MT nD τ sig Unit (Elt F) ℕ UU ℕ) :=
  iprop((bigSep Finset.univ fun k : K0 => semVal (gc c (c0 k)) 0) ∗ semVal (gc c .bar) 0
    ∗ (owns (c : Thread nD τ) mx fullShare (X c) ∗ owns (c : Thread nD τ) mdy fullShare (Y c) ∗ owns (c : Thread nD τ) mo fullShare (outV X Y c)) ∗ scratch0 c ∗ side0 c V)

/-- The first call begins: its counters at zero open its cells. -/
theorem open0 : iprop(T0 X Y c ∗ (bigSep Finset.univ fun k : K0 => semVal (gc c (c0 k)) 0) ∗ levAts L lv) ⊢ (|={Set.univ}=> X0 X Y c : sProp 𝕄) := by
  unfold T0 X0
  iintro ⟨⟨%κ, #Hr, Hb, Hc, Ht, Ho⟩, Hs, -⟩
  imod (open_all X Y κ c c0) $$ [Ho Hs] with Hi
  · isplitr; · iexact Hr
    isplitl [Ho]; · iexact Ho
    iexact Hs
  imodintro
  iexists κ
  isplitr; · iexact Hr
  isplitl [Hb]; · iexact Hb
  isplitl [Hc]; · iexact Hc
  isplitl [Ht]; · iexact Ht
  iapply (Entails.of_eq (cells0_eq (fun x => idle c x 0))); iexact Hi

/-- The first call's body, entered and left. -/
theorem run0 (V : Vec F S1024x8192 .f32) : iprop(pre0 X Y c V ∗ owing c (O₀ c))
      ⊢ wp frame (wpE (defs₀ (F := F)) 𝒱₀ (c : Thread nD τ) none) Set.univ
          (cc0_body mx (Memref.isWhole_whole _) mdy (Memref.isWhole_whole _) mo (Memref.isWhole_whole _) mxv (Memref.isWhole_whole _) mdb (Memref.isWhole_whole _) mp (Memref.isWhole_whole _) my (Memref.isWhole_whole _) mr (Memref.isWhole_whole _) cc0_scratch5 cc0_scratch6 cc0_scratch7 cc0_scratch8 cc0_scratch9 cc0_scratch10 cc0_scratch11)
          (fun _ => iprop(post0 X Y c V ∗ owing c 0)) := by
  refine .trans ?_ (wp_fupd _ _ _ _ _)
  unfold pre0 post0 X0
  iintro ⟨⟨⟨%κ, #Hr, Hb, Hc, Ht, Hi⟩, HB, HS, Hside⟩, Ho⟩
  ihave H := (begin0 X Y c) $$ [Ho Hb Hc Ht Hi HB HS]
  · isplitl [Ho]; · iexact Ho
    isplitl [Hb Hc Ht Hi]
    · isplitl [Hb]; · iexact Hb
      isplitl [Hc]; · iexact Hc
      isplitl [Ht]; · iexact Ht
      iexact Hi
    isplitl [HB]; · iexact HB
    iexact HS
  icases H with ⟨Hst, Hx, Hoth⟩
  iapply (wp_wand _ _ _) $$ [Hst Hx]
  · iapply (wp_body0 X Y κ c)
    isplitr; · iexact Hr
    isplitl [Hst]; · iexact Hst
    iexact Hx
  iintro %_ He
  ihave H := (finish0 X Y c) $$ [He Hoth]
  · isplitl [He]; · iexact He
    iexact Hoth
  icases H with ⟨Ho, Hb, Hcl, HB, HS⟩
  imod (close_cell X Y κ c .bar) $$ [Hb] with Hb
  · isplitr; · iexact Hr
    iexact Hb
  imod (close_all X Y κ c c0) $$ [Hcl] with Hcl
  · isplitr; · iexact Hr
    iapply (Entails.of_eq (cells0_eq (fun x => atPos ER (gc c x) (rounds x) ∅ 0)).symm); iexact Hcl
  imodintro
  isplitr [Ho]
  · isplitl [Hcl]; · iexact Hcl
    isplitl [Hb]; · iexact Hb
    isplitl [HB]; · iexact HB
    isplitl [HS]; · iexact HS
    iexact Hside
  iexact Ho

/-! ## The second call -/

/-- What a device brings to the second call, its cells not open yet. -/
def T1 : sProp (MT nD τ sig Unit (Elt F) ℕ UU ℕ) :=
  iprop(∃ κ, records X Y κ ∗ toks1 c ∗ bigSep Finset.univ fun k : K1 => openTok ER (gc c (c1 k)))
/-- The second call's protocol, its cells open. -/
def X1 : sProp (MT nD τ sig Unit (Elt F) ℕ UU ℕ) :=
  iprop(∃ κ, records X Y κ ∗ toks1 c ∗ cells1 (fun x => idle c x 0))
/-- What the second call leaves alone. -/
def side1 : sProp (MT nD τ sig Unit (Elt F) ℕ UU ℕ) :=
  iprop((∃ r, prngReg c r) ∗ (owns (c : Thread nD τ) mx fullShare (X c) ∗ owns (c : Thread nD τ) mdy fullShare (Y c)) ∗ scratch0 c)
/-- All the second call is entered with, but what the core owes. -/
def pre1 : sProp (MT nD τ sig Unit (Elt F) ℕ UU ℕ) :=
  iprop(X1 X Y c ∗ owns (c : Thread nD τ) mo fullShare (outV X Y c) ∗ anyOf (c : Thread nD τ) mq ∗ anyOf (c : Thread nD τ) mst ∗ side1 X Y c)
/-- All the second call is left with, but what the core owes. -/
def post1 : sProp (MT nD τ sig Unit (Elt F) ℕ UU ℕ) :=
  iprop((bigSep Finset.univ fun k : K1 => semVal (gc c (c1 k)) 0) ∗ owns (c : Thread nD τ) mo fullShare (outV X Y c) ∗ owns (c : Thread nD τ) mq fullShare (outV X Y c)
    ∗ anyOf (c : Thread nD τ) mst ∗ side1 X Y c)

/-- The second call begins: its counters at zero open its cells. -/
theorem open1 : iprop(T1 X Y c ∗ (bigSep Finset.univ fun k : K1 => semVal (gc c (c1 k)) 0) ∗ levAts L lv) ⊢ (|={Set.univ}=> X1 X Y c : sProp 𝕄) := by
  unfold T1 X1
  iintro ⟨⟨%κ, #Hr, Ht, Ho⟩, Hs, -⟩
  imod (open_all X Y κ c c1) $$ [Ho Hs] with Hi
  · isplitr; · iexact Hr
    isplitl [Ho]; · iexact Ho
    iexact Hs
  imodintro
  iexists κ
  isplitr; · iexact Hr
  isplitl [Ht]; · iexact Ht
  iapply (Entails.of_eq (cells1_eq (fun x => idle c x 0))); iexact Hi

/-- The second call's body, entered and left. -/
theorem run1 : iprop(pre1 X Y c ∗ owing c 0)
      ⊢ wp frame (wpE (defs₀ (F := F)) 𝒱₀ (c : Thread nD τ) none) Set.univ
          (cc1_body mo (Memref.isWhole_whole _) mq (Memref.isWhole_whole _) mst (Memref.isWhole_whole _) cc1_scratch1 cc1_scratch2)
          (fun _ => iprop(post1 X Y c ∗ owing c 0)) := by
  refine .trans ?_ (wp_fupd _ _ _ _ _)
  unfold pre1 post1 X1
  iintro ⟨⟨⟨%κ, #Hr, Ht, Hi⟩, Ho1, Hq, Hst, Hside⟩, Ho⟩
  iapply (wp_wand _ _ _) $$ [Ho Ht Hi Ho1 Hq Hst]
  · iapply (wp_body1 X Y κ c)
    isplitr; · iexact Hr
    iapply (begin1 X Y c)
    isplitl [Ho]; · iexact Ho
    isplitl [Ht Hi]
    · isplitl [Ht]; · iexact Ht
      iexact Hi
    isplitl [Ho1]; · iexact Ho1
    isplitl [Hq]; · iexact Hq
    iexact Hst
  iintro %_ He
  ihave H := (finish1 X Y c) $$ He
  icases H with ⟨Ho, Hcl, Ho1, Hq, Hst⟩
  imod (close_all X Y κ c c1) $$ [Hcl] with Hcl
  · isplitr; · iexact Hr
    iapply (Entails.of_eq (cells1_eq (fun x => atPos ER (gc c x) (rounds x) ∅ 0)).symm); iexact Hcl
  imodintro
  isplitr [Ho]
  · isplitl [Hcl]; · iexact Hcl
    isplitl [Ho1]; · iexact Ho1
    isplitl [Hq]; · iexact Hq
    isplitl [Hst]; · iexact Hst
    iexact Hside
  iexact Ho

end Cert.KernelIdeal.P
-- ==== Proof.KI.Region.lean ====
/-
  The two calls as the regions of the program.
-/
module

public import proofs.«01_k».proof.Proof.KI.Calls
public import proofs.«01_k».proof.Proof.Gen.KernelIdeal.Points
public import Idealize.ShloMosaic.Lib.Pipeline.RegionTalk

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

/-- The first call's cells are distinct. -/
theorem c0_inj : Function.Injective c0 := by
  intro a b h
  rcases a with a | a | a | a | a | a | a <;> rcases b with b | b | b | b | b | b | b <;> simp only [c0, Cell.dy.injEq, Cell.out.injEq, Cell.ys.injEq, Cell.yr.injEq, Cell.xs.injEq, Cell.xr.injEq, reduceCtorEq] at h <;> (try subst h) <;> rfl
/-- The second call's cells are distinct. -/
theorem c1_inj : Function.Injective c1 := by
  intro a b h
  rcases a with a | a <;> rcases b with b | b <;> simp only [c1, Cell.rin.injEq, Cell.rout.injEq, reduceCtorEq] at h <;> subst h <;> rfl
/-- Every cell but the barrier belongs to a call. -/
theorem scoped_cell (x : Cell) (h : x ≠ .bar) : (enc x).isScoped .tc = true := by
  cases x
  case bar => exact absurd rfl h
  case x => decide
  case dy b => revert b; decide
  case out b => revert b; decide
  all_goals (rename_i k; clear h; revert k; decide)
/-- The semaphores of the first call are its own cells. -/
theorem own0 : Pipeline.OwnSemFacts (cfg0.spec) osem0 :=
  ⟨fun k => scoped_cell _ (by rcases k with a | a | a | a | a | a | a <;> exact Cell.noConfusion), fun _ _ h => c0_inj (enc_inj h), fun _ w => w.elim0⟩
/-- The semaphores of the second call are its own cells. -/
theorem own1 : Pipeline.OwnSemFacts (cfg1.spec) osem1 :=
  ⟨fun k => scoped_cell _ (by rcases k with a | a <;> exact Cell.noConfusion), fun _ _ h => c1_inj (enc_inj h), fun _ w => w.elim0⟩

variable (m : (ℓ : Loc nD τ sig) → Buf (Elt F) ℓ)

/-- The first call: it owes the two signals and every transfer at its start, nothing at its end. -/
def dat0 : Pipeline.Dat τ (Elt F) Unit ℕ UU ℕ cfg0 c where
  A w := w.elim0
  after w := w.elim0
  Φ t := if t.val = 0 then pre0 (XX m) (YY m) c (m (c, main_v2)) else post0 (XX m) (YY m) c (m (c, main_v2))
  q w := w.elim0
  owed t := if t.val = 0 then O₀ c else 0
/-- The second call: it owes nothing. -/
def dat1 : Pipeline.Dat τ (Elt F) Unit ℕ UU ℕ cfg1 c where
  A w := w.elim0
  after w := w.elim0
  Φ t := if t.val = 0 then pre1 (XX m) (YY m) c else post1 (XX m) (YY m) c
  q w := w.elim0
  owed _ := 0
/-- What each call is entered and left with, by call. -/
def pdats : (p : Fin 2) → (c : Dev nD) → Pipeline.Dat τ (Elt F) Unit ℕ UU ℕ (Pipeline.pin (pcfgs (F := F)) adm p) c
  | 0 => fun c => dat0 c m
  | 1 => fun c => dat1 c m

/-- A product over no windows is empty. -/
theorem no_windows {M : Type} [URA M] (Φ : Fin 0 → sProp M) : bigSep Finset.univ Φ = (BI.emp : sProp M) :=
  bigSep_univ_eq_bigSepL [] (by decide) (by decide) Φ

/-- What a device owes, put in the form in which a call takes it. -/
theorem owing_at {cfg : Pipeline.Cfg sig Λ₀} (dat : Pipeline.Dat τ (Elt F) Unit ℕ UU ℕ cfg c) (t : Fin (cfg.N + 1))
    (O : CellTallies nD τ sig Unit) (h : dat.owed t = O) (hr : dat.recorded t = Set.univ) : owing c O ⊢ (dat.owesAt () t : sProp 𝕄) := by
  unfold owing Pipeline.Dat.owesAt Pipeline.owesWithin Pipeline.Dat.bound
  rw [h, hr]
  iintro ⟨%W, HO⟩
  iexists W
  isplitr; · ipureintro; exact fun _ _ => Or.inl trivial
  iexact HO
/-- What a device owes, taken from the form in which a call leaves it. -/
theorem at_owing {cfg : Pipeline.Cfg sig Λ₀} (dat : Pipeline.Dat τ (Elt F) Unit ℕ UU ℕ cfg c) (t : Fin (cfg.N + 1))
    (O : CellTallies nD τ sig Unit) (h : dat.owed t = O) : (dat.owesAt () t : sProp 𝕄) ⊢ owing c O := by
  unfold owing Pipeline.Dat.owesAt Pipeline.owesWithin
  rw [h]
  iintro ⟨%W, -, HO⟩
  iexists W; iexact HO

/-- At the first call's start all of the launch's debts are owed. -/
theorem owed0_first : (dat0 c m).owed (0 : Fin (cfg0.N + 1)) = O₀ c := by
  show (if (0 : Fin (cfg0.N + 1)).val = 0 then O₀ c else 0) = O₀ c
  exact if_pos rfl
/-- The first call's last point is not its first. -/
theorem last0 : (Fin.last cfg0.N).val ≠ 0 := by decide
/-- The second call's last point is not its first. -/
theorem last1 : (Fin.last cfg1.N).val ≠ 0 := by decide
/-- At the first call's end nothing is owed. -/
theorem owed0_last : (dat0 c m).owed (Fin.last cfg0.N) = 0 := by
  show (if (Fin.last cfg0.N).val = 0 then O₀ c else 0) = 0
  exact if_neg last0

/-- The first call's body does what its record says. -/
theorem body0 : Pipeline.BodyObligation (dat0 c m) defs₀ 𝒱₀ () Set.univ := fun t => by
  obtain rfl := fin_N0 t
  rw [no_windows, no_windows]
  rw [show (dat0 c m).Φ t0_0.castSucc = pre0 (XX m) (YY m) c (m (c, main_v2)) from rfl, show (dat0 c m).Φ t0_0.succ = post0 (XX m) (YY m) c (m (c, main_v2)) from rfl]
  show _ ⊢ wp frame (wpE (defs₀ (F := F)) 𝒱₀ (c : Thread nD τ) none) Set.univ (bodyAt0 t0_0) _
  iintro ⟨HΦ, HO, -⟩
  iapply (wp_wand _ _ _) $$ [HΦ HO]
  · iapply (run0 (XX m) (YY m) c (m (c, main_v2)))
    isplitl [HΦ]; · iexact HΦ
    iapply (at_owing c (dat0 c m) t0_0.castSucc (O₀ c) rfl); iexact HO
  iintro %_ ⟨HΦ, HO⟩
  isplitl [HΦ]; · iexact HΦ
  isplitl [HO]; · iapply (owing_at c (dat0 c m) t0_0.succ 0 rfl rfl); iexact HO
  iempintro

/-- The second call's body does what its record says. -/
theorem body1 : Pipeline.BodyObligation (dat1 c m) defs₀ 𝒱₀ () Set.univ := fun t => by
  obtain rfl := fin_N1 t
  rw [no_windows, no_windows]
  rw [show (dat1 c m).Φ t1_0.castSucc = pre1 (XX m) (YY m) c from rfl, show (dat1 c m).Φ t1_0.succ = post1 (XX m) (YY m) c from rfl]
  show _ ⊢ wp frame (wpE (defs₀ (F := F)) 𝒱₀ (c : Thread nD τ) none) Set.univ (bodyAt1 t1_0) _
  iintro ⟨HΦ, HO, -⟩
  iapply (wp_wand _ _ _) $$ [HΦ HO]
  · iapply (run1 (XX m) (YY m) c)
    isplitl [HΦ]; · iexact HΦ
    iapply (at_owing c (dat1 c m) t1_0.castSucc 0 rfl); iexact HO
  iintro %_ ⟨HΦ, HO⟩
  isplitl [HΦ]; · iexact HΦ
  isplitl [HO]; · iapply (owing_at c (dat1 c m) t1_0.succ 0 rfl rfl); iexact HO
  iempintro

/-! ## Entered and left with the device's buffers -/

/-- The buffers and the open cells make up what the first call is entered with. -/
theorem in0 : iprop(Pipeline.scopedRest (cfg0.spec) c ∗ (∃ r, prngReg c r) ∗ StableHlo.held (c : Thread nD τ) (Pipeline.ucRefs τ sig) (W0 m c) ∗ X0 (XX m) (YY m) c)
    ⊢ (pre0 (XX m) (YY m) c (m (c, main_v2)) : sProp 𝕄) := by
  rw [rest_eq, held_uc]
  unfold pre0 side0 scratch0
  iintro ⟨⟨H1, H2, H3, H4, H5, H6⟩, Hp, ⟨Ha, Hb, Hc, Hd⟩, HX⟩
  isplitl [HX]; · iexact HX
  isplitl [Ha Hb Hc]
  · isplitl [Ha]; · iexact Ha
    isplitl [Hb]; · iexact Hb
    iapply (any_intro (c : Thread nD τ) mo (W0 m c main_v1)); iexact Hc
  isplitl [H1 H2 H3 H4 H5]
  · isplitl [H1]; · iexact H1
    isplitl [H2]; · iexact H2
    isplitl [H3]; · iexact H3
    isplitl [H4]; · iexact H4
    iexact H5
  isplitl [Hp]; · iexact Hp
  isplitl [H6]; · iexact H6
  iexact Hd

/-- What the first call is left with, taken apart into buffers and counters at zero. -/
theorem out0 : post0 (XX m) (YY m) c (m (c, main_v2))
    ⊢ (iprop(Pipeline.scopedRest (cfg0.spec) c ∗ (∃ r, prngReg c r) ∗ StableHlo.held (c : Thread nD τ) (Pipeline.ucRefs τ sig) (W1 m c)
        ∗ (bigSep Finset.univ fun k : K0 => semVal (gc c (c0 k)) 0) ∗ semVal (gc c .bar) 0) : sProp 𝕄) := by
  rw [rest_eq, held_uc, W1_arg0, W1_arg1, W1_v1, W1_v2]
  unfold post0 side0 scratch0
  iintro ⟨Hs, Hb, ⟨Ha, Hy, Ho⟩, ⟨H1, H2, H3, H4, H5⟩, Hp, H6, Hq⟩
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [Hp]; · iexact Hp
  isplitl [Ha Hy Ho Hq]
  · isplitl [Ha]; · iexact Ha
    isplitl [Hy]; · iexact Hy
    isplitl [Ho]; · iexact Ho
    iexact Hq
  isplitl [Hs]; · iexact Hs
  iexact Hb

/-- The buffers and the open cells make up what the second call is entered with. -/
theorem in1 : iprop(Pipeline.scopedRest (cfg1.spec) c ∗ (∃ r, prngReg c r) ∗ StableHlo.held (c : Thread nD τ) (Pipeline.ucRefs τ sig) (W1 m c) ∗ X1 (XX m) (YY m) c)
    ⊢ (pre1 (XX m) (YY m) c : sProp 𝕄) := by
  rw [rest_eq', held_uc, W1_arg0, W1_arg1, W1_v1, W1_v2]
  unfold pre1 side1 scratch0
  iintro ⟨⟨H1, H2, H3, H4, H5, H6⟩, Hp, ⟨Ha, Hb, Hc, Hd⟩, HX⟩
  isplitl [HX]; · iexact HX
  isplitl [Hc]; · iexact Hc
  isplitl [Hd]; · iapply (any_intro (c : Thread nD τ) mq (m (c, main_v2))); iexact Hd
  isplitl [H6]; · iexact H6
  isplitl [Hp]; · iexact Hp
  isplitl [Ha Hb]
  · isplitl [Ha]; · iexact Ha
    iexact Hb
  isplitl [H1]; · iexact H1
  isplitl [H2]; · iexact H2
  isplitl [H3]; · iexact H3
  isplitl [H4]; · iexact H4
  iexact H5

/-- What the second call is left with, taken apart into buffers and counters at zero. -/
theorem out1 : post1 (XX m) (YY m) c
    ⊢ (iprop(Pipeline.scopedRest (cfg1.spec) c ∗ (∃ r, prngReg c r) ∗ StableHlo.held (c : Thread nD τ) (Pipeline.ucRefs τ sig) (W2 m c)
        ∗ (bigSep Finset.univ fun k : K1 => semVal (gc c (c1 k)) 0) ∗ emp) : sProp 𝕄) := by
  rw [rest_eq', held_uc, W2_arg0, W2_arg1, W2_v1, W2_v2]
  unfold post1 side1 scratch0
  iintro ⟨Hs, Ho, Hq, H6, Hp, ⟨Ha, Hy⟩, H1, H2, H3, H4, H5⟩
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [Hp]; · iexact Hp
  isplitl [Ha Hy Ho Hq]
  · isplitl [Ha]; · iexact Ha
    isplitl [Hy]; · iexact Hy
    isplitl [Ho]; · iexact Ho
    iexact Hq
  isplitl [Hs]; · iexact Hs
  iempintro

/-- What a launch asks of the first call's windows, of which it has none. -/
theorem kit0 : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0
/-- What a launch asks of the second call's windows, of which it has none. -/
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos w := w.elim0
  arr_whole w := w.elim0
  stage_whole w := w.elim0

/-- What the first call owes lies at cells with a positive level. -/
theorem cut0 (c : Dev nD) (t : Fin (cfg0.N + 1)) (g : GSem nD τ sig) (i : Unit) (h : 0 < (dat0 c m).owed t g i) : i ∈ L g ∧ (0 : ℕ) < lv g i := by
  have e : (dat0 c m).owed t = if t.val = 0 then O₀ c else 0 := rfl
  rw [e] at h
  split at h
  · obtain ⟨h1, h2⟩ := O₀_pos h
    exact ⟨by unfold L; rw [if_pos h1]; exact Finset.mem_singleton_self _, h2⟩
  · exact absurd h (Nat.lt_irrefl 0)

set_option backward.isDefEq.respectTransparency.types false in
/-- The first call: what the second needs goes around it. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 own0
    (Pipeline.ucRefs τ sig) (Pipeline.ucRefs τ sig) (Finset.Subset.refl _) kit0 rfl (fun c => (body0 c m).loose)
    (fun _ => 0) O₀ (fun c => (owed0_first c m).trans (zero_add _).symm) (fun c => owed0_last c m) (fun _ => rfl) (fun _ w => w.elim0)
    (W0 m) (W1 m) (fun _ b hb => absurd hb (by rw [Finset.sdiff_self]; exact Finset.notMem_empty b))
    (T0 (XX m) (YY m)) (fun c => semVal (gc c .bar) 0) (X0 (XX m) (YY m)) (fun c => semVal (gc c .bar) 0)
    (open0 (XX m) (YY m)) (fun c => in0 c m) (fun c => out0 c m)
    (fun c => by iintro H; imodintro; iexact H)
    (fun _ => 0)
    ⟨fun _ w => w.elim0, fun _ w => w.elim0, cut0 m⟩
    (T1 (XX m) (YY m))
    (fun _ w => w.elim0) (fun _ w => w.elim0)

set_option backward.isDefEq.respectTransparency.types false in
/-- The second call: the barrier's counter goes around it. -/
def reg1 : Pipeline.RegionSeg (pcfgs (F := F)) adm (pdats m) () defs₀ 𝒱₀ L lv 1 :=
  Pipeline.RegionSeg.ofTalk (pcfgs (F := F)) adm (pdats m) () defs₀ 𝒱₀ L lv 1 osem1 own1
    (Pipeline.ucRefs τ sig) (Pipeline.ucRefs τ sig) (Finset.Subset.refl _) kit1 rfl (fun c => (body1 c m).loose)
    (fun _ => 0) (fun _ => 0) (fun c => (zero_add (0 : CellTallies nD τ sig Unit)).symm) (fun c => rfl) (fun _ => rfl) (fun _ w => w.elim0)
    (W1 m) (W2 m) (fun _ b hb => absurd hb (by rw [Finset.sdiff_self]; exact Finset.notMem_empty b))
    (T1 (XX m) (YY m)) (fun _ => iprop(emp)) (X1 (XX m) (YY m)) (fun _ => iprop(emp))
    (open1 (XX m) (YY m)) (fun c => in1 c m) (fun c => out1 c m)
    (fun c => by iintro H; imodintro; iexact H)
    (fun _ => 0)
    ⟨fun _ w => w.elim0, fun _ w => w.elim0, fun _ _ _ _ h => absurd h (Nat.lt_irrefl 0)⟩
    (fun c => semVal (gc c .bar) 0)
    (fun _ w => w.elim0) (fun _ w => w.elim0)

end Cert.KernelIdeal.P
-- ==== Proof.KI.Deal.lean ====
/-
  What is dealt at launch: the cells by kind, the rights to pay, the credits for what the neighbours pay.
-/
module

public import proofs.«01_k».proof.Proof.KI.Region

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

/-! ## All the cells -/

/-- Every cell: the barrier, the first call's, the second's. -/
def cAll : Unit ⊕ K0 ⊕ K1 → Cell
  | .inl _ => .bar | .inr (.inl k) => c0 k | .inr (.inr k) => c1 k

/-- Every cell is in the list. -/
theorem cAll_surj (x : Cell) : ∃ k, cAll k = x := by
  cases x
  case bar => exact ⟨.inl (), rfl⟩
  case x => exact ⟨.inr (.inl (.inl ())), rfl⟩
  case dy b => exact ⟨.inr (.inl (.inr (.inl b))), rfl⟩
  case out b => exact ⟨.inr (.inl (.inr (.inr (.inl b)))), rfl⟩
  case ys k => exact ⟨.inr (.inl (.inr (.inr (.inr (.inl k))))), rfl⟩
  case yr k => exact ⟨.inr (.inl (.inr (.inr (.inr (.inr (.inl k)))))), rfl⟩
  case xs k => exact ⟨.inr (.inl (.inr (.inr (.inr (.inr (.inr (.inl k))))))), rfl⟩
  case xr k => exact ⟨.inr (.inl (.inr (.inr (.inr (.inr (.inr (.inr k))))))), rfl⟩
  case rin k => exact ⟨.inr (.inr (.inl k)), rfl⟩
  case rout k => exact ⟨.inr (.inr (.inr k)), rfl⟩
/-- None of the first call's own cells is the barrier. -/
theorem c0_ne_bar (k : K0) : c0 k ≠ .bar := by rcases k with a | a | a | a | a | a | a <;> exact Cell.noConfusion
/-- None of the second call's cells is the barrier. -/
theorem c1_ne_bar (k : K1) : c1 k ≠ .bar := by rcases k with a | a <;> exact Cell.noConfusion
/-- The two calls share no cell. -/
theorem c0_ne_c1 (k : K0) (k' : K1) : c0 k ≠ c1 k' := by
  rcases k with a | a | a | a | a | a | a <;> rcases k' with b | b <;> exact Cell.noConfusion
/-- No cell is in the list twice. -/
theorem cAll_inj : Function.Injective cAll := by
  intro a b h
  rcases a with a | a | a <;> rcases b with b | b | b
  · rfl
  · exact absurd h.symm (c0_ne_bar b)
  · exact absurd h.symm (c1_ne_bar b)
  · exact absurd h (c0_ne_bar a)
  · exact congrArg _ (congrArg _ (c0_inj h))
  · exact absurd h (c0_ne_c1 a b)
  · exact absurd h (c1_ne_bar a)
  · exact absurd h.symm (c0_ne_c1 b a)
  · exact congrArg _ (congrArg _ (c1_inj h))

/-- The cells are all the semaphores. -/
def cellE : Unit ⊕ K0 ⊕ K1 ≃ SemLoc sig :=
  Equiv.ofBijective (fun k => enc (cAll k)) ⟨fun _ _ h => cAll_inj (enc_inj h), fun s => by
    obtain ⟨k, hk⟩ := cAll_surj (dec s)
    exact ⟨k, by show enc (cAll k) = s; rw [hk, enc_dec]⟩⟩

/-- Something of every semaphore, by cells. -/
theorem sems_eq (Φ : SemLoc sig → sProp (MT nD τ sig Unit (Elt F) ℕ UU ℕ)) :
    bigSep Finset.univ Φ = iprop(Φ (enc .bar) ∗ cells0 (fun x => Φ (enc x)) ∗ cells1 (fun x => Φ (enc x))) := by
  rw [bigSep_univ_equiv cellE, bigSep_univ_sum, bigSep_univ_sum, bigSep_unit, ← cells0_eq, ← cells1_eq]
  rfl

/-! ## The rights to pay -/

/-- One name for each payment ever made into a device's cells. -/
abbrev Tok : Type := Fin 2 ⊕ Unit ⊕ Fin 16 ⊕ Fin 16 ⊕ Fin 16 ⊕ Fin 16 ⊕ Fin 16 ⊕ Fin 16 ⊕ Fin 8 ⊕ Fin 8
/-- A right to pay: the cell, the round, the duty. -/
def tk : Tok → Cell × ℕ × Fin 2
  | .inl d => (.bar, 0, d)
  | .inr (.inl _) => (.x, 0, 0)
  | .inr (.inr (.inl k)) => (.dy (f2 k.val), k.val / 2, 0)
  | .inr (.inr (.inr (.inl k))) => (.out (f2 k.val), k.val / 2, 0)
  | .inr (.inr (.inr (.inr (.inl k)))) => (.ys k, 0, 0)
  | .inr (.inr (.inr (.inr (.inr (.inl k))))) => (.yr k, 0, 0)
  | .inr (.inr (.inr (.inr (.inr (.inr (.inl k)))))) => (.xs k, 0, 0)
  | .inr (.inr (.inr (.inr (.inr (.inr (.inr (.inl k))))))) => (.xr k, 0, 0)
  | .inr (.inr (.inr (.inr (.inr (.inr (.inr (.inr (.inl k)))))))) => (.rin k, 0, 0)
  | .inr (.inr (.inr (.inr (.inr (.inr (.inr (.inr (.inr k)))))))) => (.rout k, 0, 0)

/-- A chunk is determined by its slot and by the round in which the slot holds it. -/
theorem slot_inj {a b : Fin 16} (h : f2 a.val = f2 b.val) (h' : a.val / 2 = b.val / 2) : a = b := by
  revert a b; decide
/-- Distinct tokens are for distinct rounds or payers. -/
theorem tk_inj : Function.Injective tk := by
  intro a b h
  rcases a with a | a | a | a | a | a | a | a | a | a <;> rcases b with b | b | b | b | b | b | b | b | b | b <;>
    simp only [tk, Prod.mk.injEq, reduceCtorEq, false_and, Cell.dy.injEq, Cell.out.injEq, Cell.ys.injEq, Cell.yr.injEq, Cell.xs.injEq, Cell.xr.injEq, Cell.rin.injEq, Cell.rout.injEq, true_and, and_true] at h
  case inr.inr.inl.inr.inr.inl => rw [slot_inj h.1 h.2]
  case inr.inr.inr.inl.inr.inr.inr.inl => rw [slot_inj h.1 h.2]
  all_goals first | rfl | rw [h]

/-- The cell, the round and the payer that a device's token is for. -/
def tokEmb : Dev nD × Tok ↪ GSem nD τ sig × ℕ × Fin 2 :=
  ⟨fun p => (gc p.1 (tk p.2).1, (tk p.2).2), fun p q h => by
    have h1 := gc_inj (congrArg Prod.fst h)
    have h2 : (tk p.2).2 = (tk q.2).2 := congrArg (fun t : GSem nD τ sig × ℕ × Fin 2 => t.2) h
    exact Prod.ext h1.1 (tk_inj (Prod.ext h1.2 h2))⟩
/-- All the tokens of the program. -/
def toks : Finset (GSem nD τ sig × ℕ × Fin 2) := Finset.univ.map tokEmb

/-- The rights to pay the rounds of the cells of device `c`. -/
def tokensOf : sProp (MT nD τ sig Unit (Elt F) ℕ UU ℕ) :=
  iprop((dutyTok ER (gc c .bar) 0 0 ∗ dutyTok ER (gc c .bar) 0 1) ∗ dutyTok ER (gc c .x) 0 0
    ∗ l16 (fun k => dutyTok ER (gc c (.dy (f2 k))) (k / 2) 0) ∗ l16 (fun k => dutyTok ER (gc c (.out (f2 k))) (k / 2) 0)
    ∗ l16 (fun k => dutyTok ER (gc c (.ys (f16 k))) 0 0) ∗ l16 (fun k => dutyTok ER (gc c (.yr (f16 k))) 0 0)
    ∗ l16 (fun k => dutyTok ER (gc c (.xs (f16 k))) 0 0) ∗ l16 (fun k => dutyTok ER (gc c (.xr (f16 k))) 0 0)
    ∗ l8 (fun k => dutyTok ER (gc c (.rin (f8 k))) 0 0) ∗ l8 (fun k => dutyTok ER (gc c (.rout (f8 k))) 0 0))

/-- A product over the sixteen chunks, taken by number. -/
theorem by_number (Φ : ℕ → sProp (MT nD τ sig Unit (Elt F) ℕ UU ℕ)) : bigSep Finset.univ (fun k : Fin 16 => Φ k.val) = l16 Φ := by
  rw [bigSep_f16]
  exact bigSep_congr fun k hk => by rw [f16_val k (Finset.mem_Ico.mp hk).2]

/-- All the tokens are every device's tokens. -/
theorem toks_eq : bigSep toks (fun x => (dutyTok ER x.1 x.2.1 x.2.2 : sProp 𝕄)) = bigSep Finset.univ fun c : Dev nD => tokensOf c := by
  unfold toks
  rw [bigSep_map, bigSep_univ_prod]
  refine bigSep_congr fun c _ => ?_
  unfold tokensOf
  rw [bigSep_univ_sum, bigSep_univ_sum, bigSep_univ_sum, bigSep_univ_sum, bigSep_univ_sum, bigSep_univ_sum, bigSep_univ_sum, bigSep_univ_sum, bigSep_univ_sum,
    BI.bigSep_fin_two, bigSep_unit, bigSep_f16, bigSep_f16, bigSep_f16, bigSep_f16, bigSep_f8, bigSep_f8]
  rw [← by_number (fun k => dutyTok ER (gc c (.dy (f2 k))) (k / 2) 0), ← by_number (fun k => dutyTok ER (gc c (.out (f2 k))) (k / 2) 0)]
  rw [bigSep_f16, bigSep_f16]
  rfl

/-- The neighbour along the second axis, as a bijection of the mesh. -/
def ynbE : Dev nD ≃ Dev nD := ⟨ynb, ynb, ynb_ynb, ynb_ynb⟩
/-- The neighbour along the first axis, as a bijection of the mesh. -/
def xnbE : Dev nD ≃ Dev nD := ⟨xnb, xnb, xnb_xnb, xnb_xnb⟩

/-- The rights handed to the devices that pay. -/
theorem toks_around : (bigSep Finset.univ fun c : Dev nD => (tokensOf c : sProp 𝕄)) ⊢ bigSep Finset.univ fun c : Dev nD => iprop(toks0 c ∗ toks1 c) := by
  unfold tokensOf toks0 toks1
  simp only [bigSep_sep']
  rw [bigSep_univ_equiv ynbE (fun c : Dev nD => (dutyTok ER (gc c .bar) 0 0 : sProp 𝕄)),
    bigSep_univ_equiv xnbE (fun c : Dev nD => (dutyTok ER (gc c .bar) 0 1 : sProp 𝕄)),
    bigSep_univ_equiv ynbE (fun c : Dev nD => (l16 (fun k => dutyTok ER (gc c (.yr (f16 k))) 0 0) : sProp 𝕄)),
    bigSep_univ_equiv xnbE (fun c : Dev nD => (l16 (fun k => dutyTok ER (gc c (.xr (f16 k))) 0 0) : sProp 𝕄))]
  iintro ⟨⟨Hb, Hb'⟩, H1, H2, H3, H4, H5, H6, H7, H8, H9⟩
  isplitr [H8 H9]
  · isplitl [Hb Hb']
    · isplitl [Hb]; · iexact Hb
      iexact Hb'
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  iexact H9

/-! ## The credits -/

/-- An amount recorded at one cell, read at another: the amount if they are the same, else nothing. -/
theorem tally_gc (d : Dev nD) (x y : Cell) (n : ℕ) : (tallyAt (gc d x) () n : CellTallies nD τ sig Unit) (gc c y) () = if d = c ∧ x = y then n else 0 := by
  rw [tallyAt_apply]
  by_cases h : d = c ∧ x = y
  · obtain ⟨rfl, rfl⟩ := h
    rw [if_pos ⟨rfl, rfl⟩, if_pos ⟨rfl, rfl⟩]
  · rw [if_neg h, if_neg fun hh => h ⟨(gc_inj hh.1).1.symm, (gc_inj hh.1).2.symm⟩]

/-- Sixteen amounts recorded at a family of cells, read at a cell. -/
theorem sum_tally (d : Dev nD) (x : ℕ → Cell) (y : Cell) (n : ℕ) :
    (∑ k ∈ Finset.Ico 0 16, tallyAt (gc d (x k)) () n : CellTallies nD τ sig Unit) (gc c y) () = ∑ k ∈ Finset.Ico 0 16, if d = c ∧ x k = y then n else 0 := by
  rw [Finset.sum_apply, Finsupp.finset_sum_apply]
  exact Finset.sum_congr rfl fun k _ => tally_gc c d (x k) y n

/-- A cell outside of the family reads nothing. -/
theorem sum_other (d : Dev nD) (x : ℕ → Cell) (y : Cell) (n : ℕ) (h : ∀ k, x k ≠ y) : (∑ k ∈ Finset.Ico 0 16, if d = c ∧ x k = y then n else 0) = 0 :=
  Finset.sum_eq_zero fun k _ => if_neg fun hh => h k hh.2
/-- A cell of the family reads its own amount once. -/
theorem sum_own (d : Dev nD) (x : Fin 16 → Cell) (hx : Function.Injective x) (j : Fin 16) (n : ℕ) :
    (∑ k ∈ Finset.Ico 0 16, if d = c ∧ x (f16 k) = x j then n else 0) = if d = c then n else 0 := by
  have hj : f16 j.val = j := Fin.ext (f16_val j.val j.isLt)
  rw [Finset.sum_eq_single j.val]
  · by_cases h : d = c
    · rw [if_pos ⟨h, congrArg x hj⟩, if_pos h]
    · rw [if_neg fun hh => h hh.1, if_neg h]
  · intro k hk hkj
    refine if_neg fun hh => hkj ?_
    have := congrArg Fin.val (hx hh.2)
    rwa [f16_val k (Finset.mem_Ico.mp hk).2] at this
  · intro h
    exact absurd (Finset.mem_Ico.mpr ⟨Nat.zero_le _, j.isLt⟩) h

/-- What device `d` owes at launch, read at a cell of device `c`. -/
theorem O₀_at (d : Dev nD) (y : Cell) : O₀ d (gc c y) () = (((∑ k ∈ Finset.Ico 0 16, if ynb d = c ∧ Cell.yr (f16 k) = y then Nc else 0)
      + ∑ k ∈ Finset.Ico 0 16, if xnb d = c ∧ Cell.xr (f16 k) = y then Nc else 0) + if xnb d = c ∧ Cell.bar = y then 1 else 0) + if ynb d = c ∧ Cell.bar = y then 1 else 0 := by
  unfold O₀ Oyx
  rw [Pi.add_apply, Finsupp.add_apply, Pi.add_apply, Finsupp.add_apply, Pi.add_apply, Finsupp.add_apply, sum_tally, sum_tally, tally_gc, tally_gc]

/-- Being the neighbour along the second axis is symmetric. -/
theorem ynb_iff (d : Dev nD) : ynb d = c ↔ d = ynb c := ⟨fun h => by rw [← h, ynb_ynb], fun h => by rw [h, ynb_ynb]⟩
/-- Being the neighbour along the first axis is symmetric. -/
theorem xnb_iff (d : Dev nD) : xnb d = c ↔ d = xnb c := ⟨fun h => by rw [← h, xnb_xnb], fun h => by rw [h, xnb_xnb]⟩

/-- All devices together owe a receive cell of the first exchange one transfer. -/
theorem owed_yr (j : Fin 16) : (∑ d : Dev nD, O₀ d (gc c (.yr j)) ()) = Nc := by
  rw [Finset.sum_congr rfl fun d _ => (show O₀ d (gc c (.yr j)) () = if d = ynb c then Nc else 0 by
    rw [O₀_at, sum_own c (ynb d) Cell.yr (fun _ _ h => Cell.yr.inj h), sum_other c (xnb d) (fun k => Cell.xr (f16 k)) _ _ (fun _ => Cell.noConfusion),
      if_neg (fun h : xnb d = c ∧ Cell.bar = Cell.yr j => Cell.noConfusion h.2), if_neg (fun h : ynb d = c ∧ Cell.bar = Cell.yr j => Cell.noConfusion h.2)]
    simp only [ynb_iff, Nat.add_zero])]
  rw [Finset.sum_ite_eq' Finset.univ (ynb c) fun _ => Nc, if_pos (Finset.mem_univ _)]
/-- All devices together owe a receive cell of the second exchange one transfer. -/
theorem owed_xr (j : Fin 16) : (∑ d : Dev nD, O₀ d (gc c (.xr j)) ()) = Nc := by
  rw [Finset.sum_congr rfl fun d _ => (show O₀ d (gc c (.xr j)) () = if d = xnb c then Nc else 0 by
    rw [O₀_at, sum_own c (xnb d) Cell.xr (fun _ _ h => Cell.xr.inj h), sum_other c (ynb d) (fun k => Cell.yr (f16 k)) _ _ (fun _ => Cell.noConfusion),
      if_neg (fun h : xnb d = c ∧ Cell.bar = Cell.xr j => Cell.noConfusion h.2), if_neg (fun h : ynb d = c ∧ Cell.bar = Cell.xr j => Cell.noConfusion h.2)]
    simp only [xnb_iff, Nat.add_zero, Nat.zero_add])]
  rw [Finset.sum_ite_eq' Finset.univ (xnb c) fun _ => Nc, if_pos (Finset.mem_univ _)]
/-- All devices together owe a barrier two signals. -/
theorem owed_bar : (∑ d : Dev nD, O₀ d (gc c .bar) ()) = 2 := by
  rw [Finset.sum_congr rfl fun d _ => (show O₀ d (gc c .bar) () = (if d = xnb c then 1 else 0) + if d = ynb c then 1 else 0 by
    rw [O₀_at, sum_other c (xnb d) (fun k => Cell.xr (f16 k)) _ _ (fun _ => Cell.noConfusion), sum_other c (ynb d) (fun k => Cell.yr (f16 k)) _ _ (fun _ => Cell.noConfusion)]
    simp only [xnb_iff, ynb_iff, Nat.zero_add, and_true])]
  rw [Finset.sum_add_distrib, Finset.sum_ite_eq' Finset.univ (xnb c) fun _ => 1, Finset.sum_ite_eq' Finset.univ (ynb c) fun _ => 1, if_pos (Finset.mem_univ _), if_pos (Finset.mem_univ _)]

/-- The credit launched with at a cell is the amount owed to it. -/
theorem credit_at (x : Cell) (n : ℕ) (h : (∑ d : Dev nD, O₀ d (gc c x) ()) = n) :
    tallyOn (gc c x) (launchCredit (Pipeline.owing O₀) 0 (gc c x)) = (tallyAt (gc c x) () n : CellTallies nD τ sig Unit) := by
  unfold tallyAt
  refine congrArg _ (Finsupp.ext fun u => ?_)
  rw [Pipeline.launchCredit_owing, Finsupp.single_eq_same]
  exact h

/-- A device's credit at launch, split over its barrier and its receive cells. -/
theorem creds : (Pipeline.launchCred O₀ c : sProp 𝕄) ⊢ creds0 c := by
  unfold Pipeline.launchCred creds0
  rw [sems_eq (fun sm => cred (tallyOn ((c : Thread nD τ), sm) (launchCredit (Pipeline.owing O₀) 0 ((c : Thread nD τ), sm)))), credit_at c .bar 2 (owed_bar c)]
  unfold cells0
  simp only [credit_at c (.yr _) Nc (owed_yr c _), credit_at c (.xr _) Nc (owed_xr c _)]
  iintro ⟨Hb, ⟨-, -, -, -, Hy, -, Hx⟩, -⟩
  isplitl [Hb]; · iexact Hb
  isplitl [Hy]; · iexact Hy
  iexact Hx

end Cert.KernelIdeal.P
-- ==== Proof.KI.Launch.lean ====
/-
  The program's run on all the devices: the launch, the two calls in order, what is read at the end.
-/
module

public import proofs.«01_k».proof.Proof.KI.Deal

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Own

variable {F : FTy → Type} [FloatOps F]

local notation "𝕄" => MT nD τ sig Unit (Elt F) ℕ UU ℕ

variable (X : Dev nD → Vec F S2048x2048 .f32) (Y : Dev nD → Vec F S2048x8192 .f32) (κ : GSem nD τ sig → ℕ) (c : Dev nD)

/-! ## The cells funded at launch -/

/-- A device's barrier. -/
def barEmb : Dev nD ↪ GSem nD τ sig := ⟨fun c => gc c .bar, fun _ _ h => (gc_inj h).1⟩
/-- The cells of the calls, device by device. -/
def ownEmb : Dev nD × (K0 ⊕ K1) ↪ GSem nD τ sig :=
  ⟨fun p => gc p.1 (cAll (.inr p.2)), fun p q h => Prod.ext (gc_inj h).1 (Sum.inr_injective (cAll_inj (gc_inj h).2))⟩
/-- The barriers, open from the start; the calls' own cells, opened when their call begins. -/
def barCells : Finset (GSem nD τ sig) := Finset.univ.map barEmb
/-- All the cells of the calls. -/
def ownCells : Finset (GSem nD τ sig) := Finset.univ.map ownEmb

/-- A barrier is not a cell of a call. -/
theorem disjoint_cells : Disjoint barCells ownCells := by
  unfold barCells ownCells
  rw [Finset.disjoint_left]
  rintro g h₁ h₂
  obtain ⟨d, -, rfl⟩ := Finset.mem_map.mp h₁
  obtain ⟨p, -, h⟩ := Finset.mem_map.mp h₂
  exact absurd (cAll_inj (a₂ := .inl ()) (gc_inj h).2) Sum.inr_ne_inl
/-- Every cell is a barrier or a cell of a call. -/
theorem cell_mem (c : Dev nD) (x : Cell) : gc c x ∈ barCells ∪ ownCells := by
  obtain ⟨k, rfl⟩ := cAll_surj x
  rcases k with k | k
  · exact Finset.mem_union_left _ (Finset.mem_map_of_mem barEmb (Finset.mem_univ c))
  · exact Finset.mem_union_right _ (Finset.mem_map_of_mem ownEmb (Finset.mem_univ (c, k)))

/-- The launch's element. -/
def u₀ : UU :=
  (initOf (Pipeline.cells (Pipeline.pin (pcfgs (F := F)) adm) cellOf_inj) (Pipeline.launchToks (Pipeline.pin (pcfgs (F := F)) adm) cellOf_inj),
    launchOf barCells ownCells toks)

/-- A resource on device 0, nothing elsewhere. -/
def only0 (R : sProp (MT nD τ sig Unit (Elt F) ℕ UU ℕ)) (c : Dev nD) : sProp (MT nD τ sig Unit (Elt F) ℕ UU ℕ) := if c = 0 then R else iprop(emp)
/-- Dealt to device 0 alone, a resource is still there in the product over the devices. -/
theorem only0_eq (R : sProp (MT nD τ sig Unit (Elt F) ℕ UU ℕ)) : bigSep Finset.univ (only0 R) = R := by
  rw [bigSep_univ_at _ (0 : Dev nD), bigSep_congr (s := Finset.univ.erase (0 : Dev nD)) (Ψ := fun _ => (BI.emp : sProp 𝕄))
    fun c hc => by unfold only0; rw [if_neg (Finset.ne_of_mem_erase hc)]; rfl, BI.bigSep_emp_const]
  unfold only0
  rw [if_pos rfl]
  exact BI.equiv_iff.mp sep_emp
/-- The protocol's resources at launch, put with device 0. -/
def G0 : Dev nD → sProp (MT nD τ sig Unit (Elt F) ℕ UU ℕ) := only0 (BI.own (ER (launchOf barCells ownCells toks)))

/-- The cells' invariants, the barriers' first rounds and the levels make the shared records. -/
theorem records_intro : iprop((bigSep (barCells ∪ ownCells) fun g => cellInv ER (Rd X Y) (κ g) g) ∗ (bigSep barCells fun g => reached ER g 0) ∗ levAts L lv)
    ⊢ (records X Y κ : sProp 𝕄) := by
  have h1 : (bigSep (barCells ∪ ownCells) fun g => (cellInv ER (Rd X Y) (κ g) g : sProp 𝕄))
      ⊢ bigSep Finset.univ fun p : Dev nD × Cell => cellInv ER (Rd X Y) (κ (gc p.1 p.2)) (gc p.1 p.2) :=
    (bigSep_of_persistent Finset.univ _).trans (bigSep_mono fun p _ => bigSep_elim (cell_mem p.1 p.2))
  have h2 : (bigSep barCells fun g => (reached ER g 0 : sProp 𝕄)) ⊢ bigSep Finset.univ fun c : Dev nD => reached ER (gc c .bar) 0 :=
    Entails.of_eq (bigSep_map (s := Finset.univ) barEmb (Φ := fun g : GSem nD τ sig => (reached ER g 0 : sProp 𝕄)))
  unfold records
  iintro ⟨H1, H2, H3⟩
  isplitl [H1]; · iapply h1; iexact H1
  isplitl [H2]; · iapply h2; iexact H2
  iexact H3

/-- What stays with a device of the cells and the tokens. -/
def mine0 : sProp (MT nD τ sig Unit (Elt F) ℕ UU ℕ) :=
  iprop(atPos ER (gc c .bar) 0 ∅ 0
    ∗ ((bigSep Finset.univ fun k : K0 => openTok ER (gc c (c0 k))) ∗ bigSep Finset.univ fun k : K1 => openTok ER (gc c (c1 k)))
    ∗ (toks0 c ∗ toks1 c))

/-- The barrier is the one counter that lives through the whole program. -/
theorem unscoped_bar : (unscopedSems0 c : sProp 𝕄) = semVal (gc c .bar) 0 := by
  unfold unscopedSems0
  rw [show (Finset.univ.filter fun sm : SemLoc sig => ¬ sm.isScoped .tc) = {enc .bar} from by decide +kernel, BI.bigSep_singleton]
/-- A counter that belongs to no call is the barrier. -/
theorem unscoped_only : ∀ sm : SemLoc sig, sm.isScoped .tc = false → sm = enc .bar := by decide +kernel

variable (m : (ℓ : Loc nD τ sig) → Buf (Elt F) ℓ) (ρ : Dev nD → PrngReg)

/-- The rest of a device's holdings at launch. -/
def base0 : sProp (MT nD τ sig Unit (Elt F) ℕ UU ℕ) :=
  iprop(StableHlo.held (c : Thread nD τ) (Pipeline.ucRefs τ sig) (W0 m c) ∗ (∃ r, prngReg c r) ∗ owing c (O₀ c) ∗ creds0 c)
/-- What a device enters the first call with. -/
def Tin : sProp (MT nD τ sig Unit (Elt F) ℕ UU ℕ) :=
  iprop(StableHlo.held (c : Thread nD τ) (Pipeline.ucRefs τ sig) (W0 m c) ∗ (∃ r, prngReg c r) ∗ owing c (O₀ c) ∗ T0 (XX m) (YY m) c ∗ T1 (XX m) (YY m) c)
/-- What it is left with. -/
def Tout : sProp (MT nD τ sig Unit (Elt F) ℕ UU ℕ) :=
  iprop(StableHlo.held (c : Thread nD τ) (Pipeline.ucRefs τ sig) (W2 m c) ∗ semVal (gc c .bar) 0)

/-- The records, a device's share of cells and tokens, and the rest are what it enters the first call with. -/
theorem Tin_intro : iprop(records (XX m) (YY m) κ ∗ (mine0 c ∗ base0 c m)) ⊢ (Tin c m : sProp 𝕄) := by
  unfold mine0 base0 Tin T0 T1
  iintro ⟨#Hr, ⟨Hb, ⟨Ho0, Ho1⟩, Ht0, Ht1⟩, Hh, Hp, HO, Hc⟩
  isplitl [Hh]; · iexact Hh
  isplitl [Hp]; · iexact Hp
  isplitl [HO]; · iexact HO
  isplitl [Hb Hc Ht0 Ho0]
  · iexists κ
    isplitr; · iexact Hr
    isplitl [Hb]; · iexact Hb
    isplitl [Hc]; · iexact Hc
    isplitl [Ht0]; · iexact Ht0
    iexact Ho0
  iexists κ
  isplitr; · iexact Hr
  isplitl [Ht1]; · iexact Ht1
  iexact Ho1

/-- The launch: the barriers' cells funded, the calls' cells set aside, everything dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G0 c)) ∗ levAts L lv)
      ⊢ (|={Set.univ}=> bigSep Finset.univ (fun c => Tin c m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G0 c)
      ⊢ (iprop(base0 c m ∗ (semVal (gc c .bar) 0 ∗ G0 c)) : sProp 𝕄) := by
    rw [show unscopedBufs c (fun b => m ((c : Thread nD τ).loc b)) = StableHlo.held (c : Thread nD τ) (Pipeline.ucRefs τ sig) (W0 m c) from Pipeline.unscopedBufs_held c (W0 m c),
      unscoped_bar]
    unfold base0 owing
    iintro ⟨Hh, Hus, HO, Hcr, Hp, HG⟩
    isplitl [Hh HO Hcr Hp]
    · isplitl [Hh]; · iexact Hh
      isplitl [Hp]; · iexists (ρ c); iexact Hp
      isplitl [HO]; · iexists ∅; iexact HO
      iapply (creds c); iexact Hcr
    isplitl [Hus]; · iexact Hus
    iexact HG
  have hv : bigSep Finset.univ (fun c : Dev nD => (semVal (gc c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (gc c .bar) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => iprop((bigSep Finset.univ fun k : K0 => openTok ER (gc c (c0 k))) ∗ bigSep Finset.univ fun k : K1 => openTok ER (gc c (c1 k)))) :=
    Entails.of_eq (by
      unfold ownCells
      rw [bigSep_map, bigSep_univ_prod]
      refine bigSep_congr fun c _ => ?_
      rw [bigSep_univ_sum]
      rfl)
  iintro ⟨H, #Hl⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G0 c))
      ⊢ (bigSep Finset.univ fun c : Dev nD => iprop(base0 c m ∗ (semVal (gc c .bar) 0 ∗ G0 c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G0 (F := F)) ⊢ BI.own (ER (launchOf barCells ownCells toks)) from
    Entails.of_eq (only0_eq (F := F) (BI.own (ER (launchOf barCells ownCells toks))))) $$ HG
  imod (Rounds.fund_launch ER (Rd (XX m) (YY m)) disjoint_cells (fun g _ h => h) toks) $$ [Hv Hu] with ⟨%κ, -, #Hinv, #Hr, Hat, Hopen, Htok⟩
  · isplitl [Hv]
    · iapply hv; iexact Hv
    · iexact Hu
  imodintro
  iapply (bigSep_with_persistent (R := records (XX m) (YY m) κ) (Φ := fun c => iprop(mine0 c ∗ base0 c m)) fun c _ => Tin_intro κ c m)
  isplitr
  · iapply (records_intro (XX m) (YY m) κ)
    isplitr; · iexact Hinv
    isplitr; · iexact Hr
    iexact Hl
  iapply (Entails.of_eq (bigSep_sep' _ _ _).symm)
  isplitr [HB]
  · unfold mine0
    iapply (Entails.of_eq (bigSep_sep' _ _ _).symm); isplitl [Hat]; · iapply hat; iexact Hat
    iapply (Entails.of_eq (bigSep_sep' _ _ _).symm); isplitl [Hopen]; · iapply hopen; iexact Hopen
    iapply (toks_around (F := F))
    iapply (Entails.of_eq (toks_eq (F := F))); iexact Htok
  · iexact HB

/-! ## The two calls in order -/

/-- The first call has no windows, so it holds no arrays through them. -/
theorem no_arrays0 (V : Valuation τ sig (Elt F)) : (StableHlo.held (c.tc : Thread nD τ) (Pipeline.arrRefs (τ := τ) (pcfgs (F := F) 0).spec) V : sProp 𝕄) = BI.emp := by
  rw [show Pipeline.arrRefs (τ := τ) (pcfgs (F := F) 0).spec = ∅ by
    haveI : IsEmpty (Fin (pcfgs (F := F) 0).W) := inferInstanceAs (IsEmpty (Fin 0))
    unfold Pipeline.arrRefs
    rw [Finset.map_eq_empty, Finset.image_eq_empty, Finset.univ_eq_empty]]
  unfold StableHlo.held
  exact BI.bigSep_empty
/-- The second call has no windows, so it holds no arrays through them. -/
theorem no_arrays1 (V : Valuation τ sig (Elt F)) : (StableHlo.held (c.tc : Thread nD τ) (Pipeline.arrRefs (τ := τ) (pcfgs (F := F) 1).spec) V : sProp 𝕄) = BI.emp := by
  rw [show Pipeline.arrRefs (τ := τ) (pcfgs (F := F) 1).spec = ∅ by
    haveI : IsEmpty (Fin (pcfgs (F := F) 1).W) := inferInstanceAs (IsEmpty (Fin 0))
    unfold Pipeline.arrRefs
    rw [Finset.map_eq_empty, Finset.image_eq_empty, Finset.univ_eq_empty]]
  unfold StableHlo.held
  exact BI.bigSep_empty

/-- What a device is launched with is what the first call asks for. -/
theorem enter : Tin c m ⊢ (reg0 m).pre c := by
  show _ ⊢ iprop(StableHlo.held (c.tc : Thread nD τ) (Pipeline.arrRefs (τ := τ) (pcfgs (F := F) 0).spec) (W0 m c) ∗ (∃ r, prngReg c r)
    ∗ (StableHlo.held (c.tc : Thread nD τ) (Pipeline.ucRefs τ sig) (W0 m c) ∗ T1 (XX m) (YY m) c) ∗ T0 (XX m) (YY m) c ∗ ∃ Wd, owes (c : Thread nD τ) (0 + O₀ c) Wd)
  rw [no_arrays0, zero_add]
  unfold Tin owing
  iintro ⟨Hh, Hp, HO, H0, H1⟩
  isplitr; · iempintro
  isplitl [Hp]; · iexact Hp
  isplitl [Hh H1]
  · isplitl [Hh]; · iexact Hh
    iexact H1
  isplitl [H0]; · iexact H0
  iexact HO

/-- What the first call leaves is what the second asks for. -/
theorem between : (reg0 m).post c ⊢ (reg1 m).pre c := by
  show iprop(StableHlo.held (c.tc : Thread nD τ) (Pipeline.arrRefs (τ := τ) (pcfgs (F := F) 0).spec) (W1 m c) ∗ (∃ r, prngReg c r)
      ∗ (StableHlo.held (c.tc : Thread nD τ) (Pipeline.ucRefs τ sig) (W1 m c) ∗ T1 (XX m) (YY m) c) ∗ semVal (gc c .bar) 0 ∗ ∃ Wd, owes (c : Thread nD τ) (0 : CellTallies nD τ sig Unit) Wd)
    ⊢ iprop(StableHlo.held (c.tc : Thread nD τ) (Pipeline.arrRefs (τ := τ) (pcfgs (F := F) 1).spec) (W1 m c) ∗ (∃ r, prngReg c r)
      ∗ (StableHlo.held (c.tc : Thread nD τ) (Pipeline.ucRefs τ sig) (W1 m c) ∗ semVal (gc c .bar) 0) ∗ T1 (XX m) (YY m) c ∗ ∃ Wd, owes (c : Thread nD τ) ((0 : CellTallies nD τ sig Unit) + 0) Wd)
  rw [no_arrays0, no_arrays1, zero_add]
  iintro ⟨-, Hp, ⟨Hh, H1⟩, Hb, HO⟩
  isplitr; · iempintro
  isplitl [Hp]; · iexact Hp
  isplitl [Hh Hb]
  · isplitl [Hh]; · iexact Hh
    iexact Hb
  isplitl [H1]; · iexact H1
  iexact HO

/-- What the second call leaves: the buffers' final contents, and nothing owed. -/
theorem leave : (reg1 m).post c ⊢ iprop(Tout c m ∗ ∃ W, owes (c : Thread nD τ) (0 : CellTallies nD τ sig Unit) W) := by
  show iprop(StableHlo.held (c.tc : Thread nD τ) (Pipeline.arrRefs (τ := τ) (pcfgs (F := F) 1).spec) (W2 m c) ∗ (∃ r, prngReg c r)
      ∗ (StableHlo.held (c.tc : Thread nD τ) (Pipeline.ucRefs τ sig) (W2 m c) ∗ semVal (gc c .bar) 0) ∗ emp ∗ ∃ Wd, owes (c : Thread nD τ) (0 : CellTallies nD τ sig Unit) Wd) ⊢ _
  unfold Tout
  iintro ⟨-, -, ⟨Hh, Hb⟩, -, HO⟩
  isplitr [HO]
  · isplitl [Hh]; · iexact Hh
    iexact Hb
  iexact HO

set_option backward.isDefEq.respectTransparency.types false in
/-- The run: from any memory with all counters at zero every execution ends, the operands as they were, every device's
    result as computed, all counters at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v2) = outV (XX m) (YY m) c) ∧ r.2.sem = fun _ => 0) :=
  Pipeline.θ_run_regions_kit_sems (pcfgs (F := F)) adm (pdats m) () cellOf_inj EP defs₀ 𝒱₀ L lv m ρ main [.region (reg0 m), .region (reg1 m)]
    (fun c Q => by rw [main_segs (F := F) adm (pdats m) () 𝒱₀ L lv (reg0 m) (reg1 m) c])
    (by simp only [Pipeline.Seg.pipes_region, Pipeline.Seg.pipes_nil]; decide)
    (O₀ := O₀) (hL := L_of_ne) (G := G0) (u₀ := u₀ (F := F))
    (hu₀ := by
      unfold u₀ G0
      iintro Hu
      ihave H := (ownU_pair _ _) $$ Hu
      icases H with ⟨HP, HX⟩
      imodintro
      isplitl [HP]; · iexact HP
      rw [only0_eq]; iexact HX)
    (T₀ := fun c => Tin c m) (Tₙ := fun c => Tout c m)
    (hch := ⟨fun c => enter c m, fun c => between c m, fun c => leave c m⟩)
    (hinit := init m ρ)
    (QY := fun c s => (s.mem ((c.tc : Thread nD τ).loc main_arg0) = W2 m c main_arg0 ∧ s.mem ((c.tc : Thread nD τ).loc main_arg1) = W2 m c main_arg1
      ∧ s.mem ((c.tc : Thread nD τ).loc main_v2) = W2 m c main_v2) ∧ s.sem (gc c .bar) = 0)
    (hfin := fun c s' => by
      unfold Tout StableHlo.held
      iintro ⟨⟨Hh, Hb0⟩, HSI⟩
      icombine HSI Hb0 gives %hb
      ihave Hr := (pointsTo_read_all (Pipeline.ucRefs τ sig) (fun b => ((c : Thread nD τ).1, b)) (W2 m c) s') $$ [Hh HSI]
      · isplitl [Hh] <;> iassumption
      icases Hr with ⟨%h, HSI⟩
      imodintro
      isplitr
      · ipureintro
        exact ⟨⟨h (Proc.devRef .tc main_arg0) (Finset.mem_filter.mpr ⟨StableHlo.devRef_mem_tcRefs main_arg0, by decide⟩),
          h (Proc.devRef .tc main_arg1) (Finset.mem_filter.mpr ⟨StableHlo.devRef_mem_tcRefs main_arg1, by decide⟩),
          h (Proc.devRef .tc main_v2) (Finset.mem_filter.mpr ⟨StableHlo.devRef_mem_tcRefs main_v2, by decide⟩)⟩, by simpa using hb⟩
      iexact HSI)
    (hQ := fun s h hs => ⟨fun c => by
        obtain ⟨⟨h0, h1, h2⟩, -⟩ := h c
        rw [W2_arg0] at h0; rw [W2_arg1] at h1; rw [W2_v2] at h2
        exact ⟨h0, h1, h2⟩,
      sem_eq_zero hs fun c sm hsm => by
        obtain rfl := unscoped_only sm hsm
        exact (h c).2⟩)

end Cert.KernelIdeal.P
-- ==== Proof.KI.Value.lean ====
/-
  The kernel's result at the exact values, element by element: a product of one device's rows, the sum of the two
  devices of a row of the mesh, the columns of the two halves put together.
-/
module

public import proofs.«01_k».proof.Proof.KI.Views
public import Idealize.ShloMosaic.Lib.ValueIdx
public import Idealize.ShloMosaic.Lib.Pointwise.Contract
public import Idealize.ShloMosaic.Lib.Pipeline.Value
public import Idealize.ShloMosaic.PureOps.Ideal.Laws

@[expose] public section

noncomputable section

namespace Cert.KernelIdeal.P

open Idealize.ShloMosaic hiding ix2 ix3
open Idealize.ShloMosaic.TcCoe Idealize.ShloMosaic.ValueIdx
open Cert.KernelIdeal Cert.KernelIdeal.Gen

variable (X : Dev nD → Vec Ideal S2048x2048 .f32) (Y : Dev nD → Vec Ideal S2048x8192 .f32) (c : Dev nD)

/-- The product of one chunk: both operands contracted over their rows. -/
theorem product_apply (a : FVec Ideal S2048x2048 .f32) (b : FVec Ideal S2048x256 .f32) (r : Fin 2048) (l : Fin 256) :
    (matmul dot_S2048x2048_S2048x256_S2048x256_0_0_1_1_n_n none a b (constant S2048x256 .f32 0x00000000#32) : FVec Ideal S2048x256 .f32) (ix2 r l)
      = ∑ p : Fin 2048, (a (ix2 p r) * b (ix2 p l) : EReal) := by
  simp only [matmul]
  rw [Ideal.matmul_constant_zero_apply, DotDims.sum_contr₁ dot_S2048x2048_S2048x256_S2048x256_0_0_1_1_n_n rfl (K := 2048) rfl]
  refine Finset.sum_congr rfl fun p _ => ?_
  congr 2
  · funext a; match a with | ⟨0, _⟩ => rfl | ⟨1, _⟩ => rfl
  · funext a; match a with | ⟨0, _⟩ => rfl | ⟨1, _⟩ => rfl

/-- A chunk read at an element. -/
theorem chunk_apply (k : Fin 16) (p : Fin 2048) (l : Fin 256) (h : 4096 * (xh c).val + 256 * k.val + l.val < 8192) :
    chunk Y c k (ix2 p l) = Y c (ix2 p ⟨4096 * (xh c).val + 256 * k.val + l.val, h⟩) := by
  unfold chunk
  congr 1
  funext a
  match a with
  | ⟨0, _⟩ => exact Fin.ext (by simp)
  | ⟨1, _⟩ => exact Fin.ext (by simp)

/-- A chunk with its unit axis added and dropped again. -/
theorem chunk3_cast (k : Fin 16) : shapeCast S2048x256 (chunk3 Y c k) shapeCasts_S1x2048x256_S2048x256 = chunk Y c k := by
  funext j
  rw [shapeCast_dropUnit_apply ![2048, 256]]
  unfold chunk3
  rw [shapeCast_addUnit_apply ![2048, 256]]
  rfl

/-- A product with its unit axis. -/
theorem pay2_apply (a : Vec Ideal S2048x2048 .f32) (b : Vec Ideal S1x2048x256 .f32) (r : Fin 2048) (l : Fin 256) :
    k0_pay2 a b (ix3 0 r l) = ∑ p : Fin 2048, (a (ix2 p r) * shapeCast S2048x256 b shapeCasts_S1x2048x256_S2048x256 (ix2 p l) : EReal) := by
  refine Eq.trans ?_ (product_apply a (shapeCast S2048x256 b shapeCasts_S1x2048x256_S2048x256) r l)
  unfold k0_pay2
  generalize (matmul dot_S2048x2048_S2048x256_S2048x256_0_0_1_1_n_n none a (shapeCast S2048x256 b shapeCasts_S1x2048x256_S2048x256)
    (constant S2048x256 .f32 0x00000000#32) : FVec Ideal S2048x256 .f32) = M
  exact (shapeCast_addUnit_apply ![2048, 256] M _ _).trans (congrArg M (funext fun a => match a with | ⟨0, _⟩ => rfl | ⟨1, _⟩ => rfl))

/-- A device's partial product of a chunk. -/
theorem part_apply (k : Fin 16) (r : Fin 2048) (l : Fin 256) (h : 4096 * (xh c).val + 256 * k.val + l.val < 8192) :
    part X Y c k (ix3 0 r l) = ∑ p : Fin 2048, (X c (ix2 p r) * Y c (ix2 p ⟨4096 * (xh c).val + 256 * k.val + l.val, h⟩) : EReal) := by
  unfold part
  rw [pay2_apply, chunk3_cast]
  exact Finset.sum_congr rfl fun p _ => by rw [chunk_apply Y c k p l h]

/-- A chunk reduced over the two devices of a row. -/
theorem red2_apply (k : Fin 16) (r : Fin 1024) (l : Fin 256) (h : 1024 * (yb c).val + r.val < 2048) :
    red2 X Y c k (ix2 r l) = (part X Y c k (ix3 0 ⟨1024 * (yb c).val + r.val, h⟩ l) + part X Y (ynb c) k (ix3 0 ⟨1024 * (yb c).val + r.val, h⟩ l) : EReal) := by
  have e (p : Vec Ideal S1x2048x256 .f32) : shapeCast S1024x256 (rowsOf (yb c) p) shapeCasts_S1x1024x256_S1024x256 (ix2 r l) = p (ix3 0 ⟨1024 * (yb c).val + r.val, h⟩ l) := by
    rw [shapeCast_dropUnit_apply ![1024, 256]]
    unfold rowsOf
    congr 1
    funext a
    match a with
    | ⟨0, _⟩ => rfl
    | ⟨1, _⟩ => exact Fin.ext (by simp; rfl)
    | ⟨2, _⟩ => exact Fin.ext (by simp; rfl)
  unfold red2 red k0_pay1
  rw [shapeCast_dropUnit_apply ![1024, 256]]
  show shapeCast S1x1024x256 _ _ _ = _
  rw [shapeCast_addUnit_apply ![1024, 256]]
  exact congrArg₂ (fun a b : EReal => a + b) (e _) (e _)

/-- The device that reduces the columns of half `h` is one that multiplies that half. -/
theorem xh_colDev (h : Fin 2) : xh (colDev c h) = h := by revert c h; decide
/-- It keeps the same rows. -/
theorem yb_colDev (h : Fin 2) : yb (colDev c h) = yb c := by revert c h; decide

/-- The rows of one device's operands contracted: column `r` of the one against column `l` of the other. -/
def dots (d : Dev nD) (r : Fin 2048) (l : Fin 8192) : EReal := ∑ p : Fin 2048, (X d (ix2 p r) * Y d (ix2 p l) : EReal)

/-- An element of the kernel's result: two devices' rows, of which device depends on the column. -/
theorem outV_apply (r : Fin 1024) (l : Fin 8192) (h : 1024 * (yb c).val + r.val < 2048) : ∃ d : Dev nD, yb d = yb c ∧
    outV X Y c (ix2 r l) = (dots X Y d ⟨1024 * (yb c).val + r.val, h⟩ l + dots X Y (ynb d) ⟨1024 * (yb c).val + r.val, h⟩ l : EReal) := by
  have hl : l.val < 8192 := l.isLt
  refine ⟨colDev c ⟨l.val / 4096, by omega⟩, yb_colDev c _, ?_⟩
  have hx := xh_colDev c ⟨l.val / 4096, by omega⟩
  have hy := yb_colDev c ⟨l.val / 4096, by omega⟩
  have hn := xh_ynb (colDev c ⟨l.val / 4096, by omega⟩)
  have hr' : outV X Y c (ix2 r l) = red2 X Y (colDev c ⟨l.val / 4096, by omega⟩) ⟨l.val % 4096 / 256, by omega⟩ (ix2 r ⟨l.val % 256, by omega⟩) := by
    unfold outV
    congr 1
    funext a; match a with | ⟨0, _⟩ => rfl | ⟨1, _⟩ => rfl
  rw [hr']
  generalize colDev c ⟨l.val / 4096, by omega⟩ = d at hx hy hn ⊢
  have key (e : Dev nD) (he : (xh e).val = l.val / 4096) :
      part X Y e ⟨l.val % 4096 / 256, by omega⟩ (ix3 0 ⟨1024 * (yb c).val + r.val, h⟩ ⟨l.val % 256, by omega⟩) = dots X Y e ⟨1024 * (yb c).val + r.val, h⟩ l := by
    have hj : 4096 * (xh e).val + 256 * (l.val % 4096 / 256) + l.val % 256 = l.val := by omega
    rw [part_apply X Y e ⟨l.val % 4096 / 256, by omega⟩ ⟨1024 * (yb c).val + r.val, h⟩ ⟨l.val % 256, by omega⟩
      (show 4096 * (xh e).val + 256 * (l.val % 4096 / 256) + l.val % 256 < 8192 by omega)]
    unfold dots
    refine Finset.sum_congr rfl fun p _ => ?_
    congr 3
    exact Fin.ext hj
  have hd : 1024 * (yb d).val + r.val < 2048 := by rw [hy]; exact h
  rw [red2_apply X Y d _ _ _ hd]
  have hf : (⟨1024 * (yb d).val + r.val, hd⟩ : Fin 2048) = ⟨1024 * (yb c).val + r.val, h⟩ := Fin.ext (congrArg (fun b : Fin 2 => 1024 * b.val + r.val) hy)
  rw [hf, key d (by rw [hx]), key (ynb d) (by rw [hn, hx])]

end Cert.KernelIdeal.P
-- ==== Proof.RefValue.lean ====
/-
  The reference's result at the exact values, element by element.
-/
module

public import proofs.«01_k».proof.Proof.Gen.ReferenceIdeal.Run
public import Idealize.ShloMosaic.Lib.ValueIdx
public import Idealize.ShloMosaic.Lib.Pointwise.Contract
public import Idealize.ShloMosaic.Lib.Pipeline.Value
public import Idealize.ShloMosaic.PureOps.Ideal.Laws

@[expose] public section

noncomputable section

namespace Cert.ReferenceIdeal.P

open Idealize.ShloMosaic hiding ix2 ix3
open Idealize.ShloMosaic.ValueIdx
open Cert.ReferenceIdeal Cert.ReferenceIdeal.Gen

/-- The reference's result of two whole operands. -/
def result (x : Vec Ideal S4096x2048 .f32) (y : Vec Ideal S4096x8192 .f32) : Vec Ideal S2048x8192 .f32 :=
  Host.dotGeneral (F := Ideal) (φ₁ := .f32) (φ₂ := .f32) dot_S2048x4096_S4096x8192_S2048x8192_1_0_0_1_n_n none (transpose S2048x4096 [1, 0] x transposes_S4096x2048_S2048x4096_1_0) y

/-- An element of it: the operands contracted over all their rows. -/
theorem result_apply (x : Vec Ideal S4096x2048 .f32) (y : Vec Ideal S4096x8192 .f32) (i : Fin 2048) (l : Fin 8192) :
    result x y (ix2 i l) = ∑ p : Fin 4096, (x (ix2 p i) * y (ix2 p l) : EReal) := by
  unfold result
  simp only [Host.dotGeneral]
  rw [Ideal.dotGeneral_apply, DotDims.sum_contr₁ dot_S2048x4096_S4096x8192_S2048x8192_1_0_0_1_n_n rfl (K := 4096) rfl]
  refine Finset.sum_congr rfl fun p _ => ?_
  refine congrArg₂ (fun a b : EReal => a * b) (transpose_apply [1, 0] x _ _ (ix2 p i) fun b => ?_) (congrArg y ?_)
  · match b with | ⟨0, _⟩ => rfl | ⟨1, _⟩ => rfl
  · funext a; match a with | ⟨0, _⟩ => rfl | ⟨1, _⟩ => rfl

end Cert.ReferenceIdeal.P
-- ==== Proof.Equation.lean ====
/-
  The kernel's results are the blocks of the reference's: the rows two devices contract are all the rows.
-/
module

public import proofs.«01_k».proof.Proof.KI.Value
public import proofs.«01_k».proof.Proof.RefValue
public import Idealize.ShloMosaic.Lib.Layout

@[expose] public section

noncomputable section

namespace Cert.Equation

open Idealize.ShloMosaic hiding ix2 ix3 eq_ix2
open Idealize.ShloMosaic.ValueIdx
open Cert.KernelIdeal.P
open Cert.KernelIdeal (nD S2048x2048 S2048x8192 S1024x8192)
open Cert.ReferenceIdeal (S4096x2048 S4096x8192)
open Cert.ReferenceIdeal.P (result result_apply)

/-- The block a device holds along the first dimension is named by its second coordinate. -/
theorem block_eq (c : Dev nD) : Layout.meshLin [2, 2] c.val [1] = (yb c).val := by revert c; decide

/-- What device `c` holds of the left operand. -/
def blockX (x : Vec Ideal S4096x2048 .f32) (c : Dev nD) : Vec Ideal S2048x2048 .f32 :=
  Layout.blockN ⟨2, ![2048, 2048]⟩ ⟨2, ![4096, 2048]⟩ (Layout.meshBlock [2, 2] ![[1], []] c) x
/-- What device `c` holds of the right operand. -/
def blockY (y : Vec Ideal S4096x8192 .f32) (c : Dev nD) : Vec Ideal S2048x8192 .f32 :=
  Layout.blockN ⟨2, ![2048, 8192]⟩ ⟨2, ![4096, 8192]⟩ (Layout.meshBlock [2, 2] ![[1], []] c) y
/-- What device `c` is to hold of the result. -/
def blockO (z : Vec Ideal S2048x8192 .f32) (c : Dev nD) : Vec Ideal S1024x8192 .f32 :=
  Layout.blockN ⟨2, ![1024, 8192]⟩ ⟨2, ![2048, 8192]⟩ (Layout.meshBlock [2, 2] ![[1], []] c) z

variable (x : Vec Ideal S4096x2048 .f32) (y : Vec Ideal S4096x8192 .f32)
variable (X : Dev nD → Vec Ideal S2048x2048 .f32) (Y : Dev nD → Vec Ideal S2048x8192 .f32)
variable (hX : ∀ c, X c = blockX x c)
variable (hY : ∀ c, Y c = blockY y c)

include hX in
/-- A row of a device's left operand is a row of the whole. -/
theorem X_apply (c : Dev nD) (p : Fin 2048) (i : Fin 2048) (h : 2048 * (yb c).val + p.val < 4096) :
    X c (ix2 p i) = x (ix2 ⟨2048 * (yb c).val + p.val, h⟩ i) := by
  rw [hX c]; unfold blockX; rw [Layout.blockN_apply]
  refine congrArg x (funext fun a => Fin.ext ?_)
  match a with
  | ⟨0, _⟩ =>
    show Layout.meshLin [2, 2] c.val [1] * 2048 + p.val = 2048 * (yb c).val + p.val
    rw [block_eq]; omega
  | ⟨1, _⟩ => show 0 * 2048 + i.val = i.val; omega
include hY in
/-- A row of a device's right operand is a row of the whole. -/
theorem Y_apply (c : Dev nD) (p : Fin 2048) (l : Fin 8192) (h : 2048 * (yb c).val + p.val < 4096) :
    Y c (ix2 p l) = y (ix2 ⟨2048 * (yb c).val + p.val, h⟩ l) := by
  rw [hY c]; unfold blockY; rw [Layout.blockN_apply]
  refine congrArg y (funext fun a => Fin.ext ?_)
  match a with
  | ⟨0, _⟩ =>
    show Layout.meshLin [2, 2] c.val [1] * 2048 + p.val = 2048 * (yb c).val + p.val
    rw [block_eq]; omega
  | ⟨1, _⟩ => show 0 * 8192 + l.val = l.val; omega

/-- The rows of block `b` of the whole operands contracted. -/
def blockDots (b : Fin 2) (i : Fin 2048) (l : Fin 8192) : EReal :=
  ∑ p : Fin 2048, (x (ix2 ⟨2048 * b.val + p.val, by omega⟩ i) * y (ix2 ⟨2048 * b.val + p.val, by omega⟩ l) : EReal)

include hX hY in
/-- What a device contracts is one block's rows. -/
theorem dots_eq (d : Dev nD) (i : Fin 2048) (l : Fin 8192) : dots X Y d i l = blockDots x y (yb d) i l :=
  Finset.sum_congr rfl fun p _ => by rw [X_apply x X hX d p i (by omega), Y_apply y Y hY d p l (by omega)]

/-- All the rows are the two blocks' rows. -/
theorem result_blocks (i : Fin 2048) (l : Fin 8192) : result x y (ix2 i l) = blockDots x y 0 i l + blockDots x y 1 i l := by
  rw [result_apply]
  refine (Fin.sum_univ_add (a := 2048) (b := 2048) fun p : Fin 4096 => (x (ix2 p i) * y (ix2 p l) : EReal)).trans ?_
  refine congrArg₂ (fun a b : EReal => a + b) (Finset.sum_congr rfl fun p _ => ?_) (Finset.sum_congr rfl fun p _ => ?_)
  · have e : Fin.castAdd 2048 p = (⟨2048 * (0 : Fin 2).val + p.val, by show 2048 * 0 + p.val < 4096; omega⟩ : Fin 4096) := Fin.ext (by show p.val = 2048 * 0 + p.val; omega)
    rw [e]
  · have e : Fin.natAdd 2048 p = (⟨2048 * (1 : Fin 2).val + p.val, by show 2048 * 1 + p.val < 4096; omega⟩ : Fin 4096) := Fin.ext (by show 2048 + p.val = 2048 * 1 + p.val; omega)
    rw [e]

include hX hY in
/-- Each device's result is its block of the reference's. -/
theorem out_eq (c : Dev nD) : outV X Y c = blockO (result x y) c := by
  funext j
  have hj : (j 0).val < 1024 := (j 0).isLt
  have h : 1024 * (yb c).val + (j 0).val < 2048 := by omega
  have hl : (j 1).val < 8192 := (j 1).isLt
  let l : Fin 8192 := ⟨(j 1).val, hl⟩
  obtain ⟨d, hd, ho⟩ := outV_apply X Y c ⟨(j 0).val, hj⟩ l h
  have e0 : j = ix2 ⟨(j 0).val, hj⟩ l := eq_ix2 j
  have e1 : blockO (result x y) c j
      = result x y (ix2 ⟨1024 * (yb c).val + (j 0).val, h⟩ l) := by
    unfold blockO
    rw [Layout.blockN_apply]
    refine congrArg (result x y) (funext fun a => Fin.ext ?_)
    match a with
    | ⟨0, _⟩ =>
      show Layout.meshLin [2, 2] c.val [1] * 1024 + (j 0).val = 1024 * (yb c).val + (j 0).val
      rw [block_eq]; omega
    | ⟨1, _⟩ => show 0 * 8192 + (j 1).val = (j 1).val; omega
  refine (congrArg (outV X Y c) e0).trans (ho.trans (Eq.trans ?_ ((result_blocks x y _ l).symm.trans e1.symm)))
  rw [dots_eq x y X Y hX hY, dots_eq x y X Y hX hY, yb_ynb]
  generalize yb d = b
  match b with
  | 0 => rfl
  | 1 => exact add_comm _ _

end Cert.Equation
-- ==== Proof.lean ====
/-
  The certificate's claims, assembled: the kernel's frame at both instances is its run with the values dropped; the
  equation of the two programs is the same run with the values kept, read against the reference's own run.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KI.Launch
public import proofs.«01_k».proof.Proof.K.Launch
public import proofs.«01_k».proof.Proof.Equation

@[expose] public section

noncomputable section

namespace Cert.Proof

open Idealize.ShloMosaic Idealize.ShloMosaic.TcCoe Idealize.SL.Sem

/-- The kernel ends, its operands unchanged, every counter at zero. -/
theorem frame_kernel : Cert.quiescent_Kernel (hKernel := Cert.Kernel.Gen.facts) := fun m g _ =>
  (θ_run _ _ _).mono (fun _ h => ⟨fun c => ⟨(h.1 c).1, (h.1 c).2.1⟩, h.2⟩) (Cert.Kernel.P.run_main m g)
/-- The same of the kernel at the exact values. -/
theorem frame_ideal : Cert.quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.P.run_main m g)
/-- The reference ends, its operands unchanged; it has no counters. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)
/-- Every device's result is its block of the reference's. -/
theorem equation : Cert.algebraic_KernelIdeal_ReferenceIdeal (hKernelIdeal := Cert.KernelIdeal.Gen.facts)
    (hReferenceIdeal := Cert.ReferenceIdeal.Gen.facts) := fun m g m' g' _ hm =>
  ⟨Cert.ReferenceIdeal.P.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨(h.1 c).2.2.trans
      (Cert.Equation.out_eq _ _ (Cert.KernelIdeal.P.XX m) (Cert.KernelIdeal.P.YY m) (fun d => (hm d).1) (fun d => (hm d).2) c),
      (h.1 c).1, (h.1 c).2.1⟩) (Cert.KernelIdeal.P.run_main m g),
    (θ_run _ _ _).mono (fun _ h => h 0) (Cert.ReferenceIdeal.Value.run m' g')⟩

/-- All the claims. -/
theorem claim : Cert.Claim :=
  ⟨Cert.Kernel.Gen.facts, Cert.KernelIdeal.Gen.facts, Cert.ReferenceIdeal.Gen.facts,
    frame_kernel, frame_ideal, frame_reference, trivial, equation⟩

end Cert.Proof
